-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v99) = v0 c
          ∧ r.2.mem ((c.tc : Thread Cert.Reference6Ideal.nD Cert.Reference6Ideal.τ).loc Cert.Reference6Ideal.main_v102) = v1 c
          ∧ r.2.mem ((c.tc : Thread Cert.Reference6Ideal.nD Cert.Reference6Ideal.τ).loc Cert.Reference6Ideal.main_v104) = v2 c
          ∧ r.2.mem ((c.tc : Thread Cert.Reference6Ideal.nD Cert.Reference6Ideal.τ).loc Cert.Reference6Ideal.main_v106) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x4096x6144 : Shape := ⟨3, ![2, 4096, 6144]⟩
abbrev S2x4096x128 : Shape := ⟨3, ![2, 4096, 128]⟩
abbrev S16x512 : Shape := ⟨2, ![16, 512]⟩
abbrev S512 : Shape := ⟨1, ![512]⟩
abbrev S128 : Shape := ⟨1, ![128]⟩
abbrev S_ : Shape := ⟨0, ![]⟩
abbrev S128x512 : Shape := ⟨2, ![128, 512]⟩
abbrev S1x512 : Shape := ⟨2, ![1, 512]⟩
abbrev S1x128 : Shape := ⟨2, ![1, 128]⟩
abbrev S2x4096x1024 : Shape := ⟨3, ![2, 4096, 1024]⟩
abbrev S1x256x512 : Shape := ⟨3, ![1, 256, 512]⟩
abbrev S1x256x1024 : Shape := ⟨3, ![1, 256, 1024]⟩
abbrev S1x256x128 : Shape := ⟨3, ![1, 256, 128]⟩
abbrev S8x128x128 : Shape := ⟨3, ![8, 128, 128]⟩
abbrev S256x128 : Shape := ⟨2, ![256, 128]⟩
abbrev S256x512 : Shape := ⟨2, ![256, 512]⟩
abbrev S64x64 : Shape := ⟨2, ![64, 64]⟩
abbrev S64x128 : Shape := ⟨2, ![64, 128]⟩
abbrev S1x64x128 : Shape := ⟨3, ![1, 64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩

abbrev nBuf : Space → Nat
  | .hbm => 12
  | .vmem => 16
  | .smem => 0
  | _ => 0

abbrev bufTy : (tb : Table) → Fin (tcTables nBuf tb) → BufTy
  | .hbm, ⟨0, _⟩ => ⟨S2x4096x6144, .f32⟩
  | .hbm, ⟨1, _⟩ => ⟨S2x4096x128, .f32⟩
  | .hbm, ⟨2, _⟩ => ⟨S16x512, .f32⟩
  | .hbm, ⟨3, _⟩ => ⟨S512, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S1x128, .f32⟩
  | .hbm, ⟨11, _⟩ => ⟨S2x4096x1024, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x128, .f32⟩
  | .local _ .vmem, ⟨9, _⟩ => ⟨S1x256x128, .f32⟩
  | .local _ .vmem, ⟨10, _⟩ => ⟨S128x512, .bf16⟩
  | .local _ .vmem, ⟨11, _⟩ => ⟨S1x512, .f32⟩
  | .local _ .vmem, ⟨12, _⟩ => ⟨S1x128, .f32⟩
  | .local _ .vmem, ⟨13, _⟩ => ⟨S1x256x1024, .bf16⟩
  | .local _ .vmem, ⟨14, _⟩ => ⟨S1x256x1024, .bf16⟩
  | .local _ .vmem, ⟨15, _⟩ => ⟨S8x128x128, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x4096x6144 : Shape := ⟨3, ![2, 4096, 6144]⟩
abbrev S2x4096x128 : Shape := ⟨3, ![2, 4096, 128]⟩
abbrev S16x512 : Shape := ⟨2, ![16, 512]⟩
abbrev S512 : Shape := ⟨1, ![512]⟩
abbrev S128 : Shape := ⟨1, ![128]⟩
abbrev S2x4096x512 : Shape := ⟨3, ![2, 4096, 512]⟩
abbrev S2x4096x1024 : Shape := ⟨3, ![2, 4096, 1024]⟩
abbrev S2x4096x16 : Shape := ⟨3, ![2, 4096, 16]⟩
abbrev S1x1x512 : Shape := ⟨3, ![1, 1, 512]⟩
abbrev S_ : Shape := ⟨0, ![]⟩
abbrev S2x4096x8x64 : Shape := ⟨4, ![2, 4096, 8, 64]⟩
abbrev S2x8x4096x64 : Shape := ⟨4, ![2, 8, 4096, 64]⟩
abbrev S2x4096x8x128 : Shape := ⟨4, ![2, 4096, 8, 128]⟩
abbrev S2x8x4096x128 : Shape := ⟨4, ![2, 8, 4096, 128]⟩
abbrev S2x8x64x64x64 : Shape := ⟨5, ![2, 8, 64, 64, 64]⟩
abbrev S2x8x64x64x128 : Shape := ⟨5, ![2, 8, 64, 64, 128]⟩
abbrev S64x64 : Shape := ⟨2, ![64, 64]⟩
abbrev S2x8x64x1x64 : Shape := ⟨5, ![2, 8, 64, 1, 64]⟩
abbrev S2x8x64x64 : Shape := ⟨4, ![2, 8, 64, 64]⟩
abbrev S2x8x64x128 : Shape := ⟨4, ![2, 8, 64, 128]⟩
abbrev S64x2x8x64 : Shape := ⟨4, ![64, 2, 8, 64]⟩
abbrev S64x2x8x64x128 : Shape := ⟨5, ![64, 2, 8, 64, 128]⟩
abbrev S64x2x8x64x64 : Shape := ⟨5, ![64, 2, 8, 64, 64]⟩
abbrev S1x2x8x64 : Shape := ⟨4, ![1, 2, 8, 64]⟩
abbrev S2x8x64 : Shape := ⟨3, ![2, 8, 64]⟩
abbrev S1x2x8x64x128 : Shape := ⟨5, ![1, 2, 8, 64, 128]⟩
abbrev S1x2x8x64x64 : Shape := ⟨5, ![1, 2, 8, 64, 64]⟩
abbrev S2x8x64x1 : Shape := ⟨4, ![2, 8, 64, 1]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 169
  | .vmem => 0
  | .smem => 0
  | _ => 0

abbrev hbmTy0_0 (i : Nat) : BufTy := match i % 128 with
  | 0 => ⟨S2x4096x6144, .f32⟩
  | 1 => ⟨S2x4096x128, .f32⟩
  | 2 => ⟨S16x512, .f32⟩
  | 3 => ⟨S512, .f32⟩
  | 4 => ⟨S128, .f32⟩
  | 5 => ⟨S2x4096x512, .f32⟩
  | 6 => ⟨S2x4096x512, .f32⟩
  | 7 => ⟨S2x4096x1024, .f32⟩
  | 8 => ⟨S2x4096x16, .f32⟩
  | 9 => ⟨S2x4096x512, .f32⟩
  | 10 => ⟨S1x1x512, .f32⟩
  | 11 => ⟨S2x4096x512, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S2x4096x512, .f32⟩
  | 18 => ⟨S2x4096x512, .f32⟩
  | 19 => ⟨S2x4096x512, .i1⟩
  | 20 => ⟨S2x4096x512, .f32⟩
  | 21 => ⟨S2x4096x512, .f32⟩
  | 22 => ⟨S2x4096x512, .f32⟩
  | 23 => ⟨S2x4096x512, .f32⟩
  | 24 => ⟨S2x4096x512, .f32⟩
  | 25 => ⟨S2x4096x512, .f32⟩
  | 26 => ⟨S2x4096x512, .f32⟩
  | 27 => ⟨S2x4096x512, .f32⟩
  | 28 => ⟨S2x4096x512, .f32⟩
  | 29 => ⟨S_, .f32⟩
  | 30 => ⟨S2x4096x512, .f32⟩
  | 31 => ⟨S2x4096x512, .f32⟩
  | 32 => ⟨S2x4096x8x64, .f32⟩
  | 33 => ⟨S2x8x4096x64, .f32⟩
  | 34 => ⟨S2x4096x8x64, .f32⟩
  | 35 => ⟨S2x8x4096x64, .f32⟩
  | 36 => ⟨S2x4096x8x128, .f32⟩
  | 37 => ⟨S2x8x4096x128, .f32⟩
  | 38 => ⟨S2x4096x8x64, .f32⟩
  | 39 => ⟨S2x8x4096x64, .f32⟩
  | 40 => ⟨S2x8x64x64x64, .f32⟩
  | 41 => ⟨S_, .f32⟩
  | 42 => ⟨S2x8x64x64x64, .f32⟩
  | 43 => ⟨S2x8x64x64x64, .f32⟩
  | 44 => ⟨S2x8x64x64x64, .f32⟩
  | 45 => ⟨S2x8x64x64x128, .f32⟩
  | 46 => ⟨S2x8x64x64x64, .f32⟩
  | 47 => ⟨S_, .f32⟩
  | 48 => ⟨S_, .f32⟩
  | 49 => ⟨S2x8x64x64x64, .f32⟩
  | 50 => ⟨S2x8x64x64x64, .f32⟩
  | 51 => ⟨S2x8x64x64x64, .f32⟩
  | 52 => ⟨S2x8x64x64x64, .f32⟩
  | 53 => ⟨S2x8x64x64x64, .f32⟩
  | 54 => ⟨S2x8x64x64x64, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S2x8x64x64x64, .f32⟩
  | 67 => ⟨S_, .f32⟩
  | 68 => ⟨S_, .f32⟩
  | 69 => ⟨S2x8x64x64x64, .i1⟩
  | 70 => ⟨S2x8x64x64x64, .f32⟩
  | 71 => ⟨S2x8x64x64x64, .f32⟩
  | 72 => ⟨S2x8x64x64x128, .f32⟩
  | 73 => ⟨S2x8x64x1x64, .f32⟩
  | 74 => ⟨S2x8x64x64x64, .f32⟩
  | 75 => ⟨S2x8x64x64x64, .f32⟩
  | 76 => ⟨S2x8x64x64x64, .f32⟩
  | 77 => ⟨S2x8x64x64x64, .f32⟩
  | 78 => ⟨S2x8x64x64x128, .f32⟩
  | 79 => ⟨S2x8x64x64, .f32⟩
  | 80 => ⟨S2x8x64x64, .f32⟩
  | 81 => ⟨S_, .f32⟩
  | 82 => ⟨S2x8x64x128, .f32⟩
  | 83 => ⟨S64x2x8x64, .f32⟩
  | 84 => ⟨S64x2x8x64x128, .f32⟩
  | 85 => ⟨S64x2x8x64x64, .f32⟩
  | 86 => ⟨S64x2x8x64x128, .f32⟩
  | 87 => ⟨S_, .f32⟩
  | 88 => ⟨S64x2x8x64x128, .f32⟩
  | 89 => ⟨S_, .i32⟩
  | 90 => ⟨S64x2x8x64, .f32⟩
  | 91 => ⟨S64x2x8x64x128, .f32⟩
  | 92 => ⟨S64x2x8x64x64, .f32⟩
  | 93 => ⟨S64x2x8x64x128, .f32⟩
  | 94 => ⟨S_, .i32⟩
  | 95 => ⟨S2x8x64x128, .f32⟩
  | 96 => ⟨S64x2x8x64x128, .f32⟩
  | 97 => ⟨S_, .i32⟩
  | 98 => ⟨S_, .i1⟩
  | 99 => ⟨S_, .i32⟩
  | 100 => ⟨S_, .i32⟩
  | 101 => ⟨S_, .i32⟩
  | 102 => ⟨S1x2x8x64, .f32⟩
  | 103 => ⟨S2x8x64, .f32⟩
  | 104 => ⟨S_, .i32⟩
  | 105 => ⟨S_, .i32⟩
  | 106 => ⟨S_, .i32⟩
  | 107 => ⟨S_, .i32⟩
  | 108 => ⟨S1x2x8x64x128, .f32⟩
  | 109 => ⟨S2x8x64x128, .f32⟩
  | 110 => ⟨S_, .i32⟩
  | 111 => ⟨S_, .i32⟩
  | 112 => ⟨S_, .i32⟩
  | 113 => ⟨S_, .i32⟩
  | 114 => ⟨S1x2x8x64x64, .f32⟩
  | 115 => ⟨S2x8x64x64, .f32⟩
  | 116 => ⟨S_, .i32⟩
  | 117 => ⟨S_, .i32⟩
  | 118 => ⟨S_, .i32⟩
  | 119 => ⟨S_, .i32⟩
  | 120 => ⟨S1x2x8x64x128, .f32⟩
  | 121 => ⟨S2x8x64x128, .f32⟩
  | 122 => ⟨S2x8x64x1, .f32⟩
  | 123 => ⟨S2x8x64x128, .f32⟩
  | 124 => ⟨S2x8x64x128, .f32⟩
  | 125 => ⟨S2x8x64x128, .f32⟩
  | 126 => ⟨S2x8x64x128, .f32⟩
  | 127 => ⟨S2x8x64x128, .f32⟩
  | _ => ⟨S2x4096x6144, .f32⟩

abbrev hbmTy0_1 (i : Nat) : BufTy := match i % 128 with
  | 0 => ⟨S1x2x8x64x128, .f32⟩
  | 1 => ⟨S_, .i32⟩
  | 2 => ⟨S_, .i32⟩
  | 3 => ⟨S_, .i32⟩
  | 4 => ⟨S_, .i32⟩
  | 5 => ⟨S64x2x8x64x128, .f32⟩
  | 6 => ⟨S_, .i32⟩
  | 7 => ⟨S_, .i32⟩
  | 8 => ⟨S2x8x64x64x128, .f32⟩
  | 9 => ⟨S2x8x4096x128, .f32⟩
  | 10 => ⟨S2x4096x8x128, .f32⟩
  | 11 => ⟨S2x4096x8x128, .f32⟩
  | 12 => ⟨S_, .f32⟩
  | 13 => ⟨S2x4096x8, .f32⟩
  | 14 => ⟨S2x4096x8x1, .f32⟩
  | 15 => ⟨S_, .f32⟩
  | 16 => ⟨S2x4096x8x1, .f32⟩
  | 17 => ⟨S2x4096x8x1, .f32⟩
  | 18 => ⟨S_, .f32⟩
  | 19 => ⟨S2x4096x8x1, .f32⟩
  | 20 => ⟨S2x4096x8x1, .f32⟩
  | 21 => ⟨S2x4096x8x1, .f32⟩
  | 22 => ⟨S2x4096x8x128, .f32⟩
  | 23 => ⟨S2x4096x8x128, .f32⟩
  | 24 => ⟨S1x1x1x128, .f32⟩
  | 25 => ⟨S2x4096x8x128, .f32⟩
  | 26 => ⟨S2x4096x8x128, .f32⟩
  | 27 => ⟨S2x4096x1024, .f32⟩
  | 28 => ⟨S2x4096x8x128, .f32⟩
  | 29 => ⟨S2x4096x8x128, .f32⟩
  | 30 => ⟨S2x4096x8x128, .f32⟩
  | 31 => ⟨S_, .f32⟩
  | 32 => ⟨S2x4096x8x128, .f32⟩
  | 33 => ⟨S2x4096x8x128, .f32⟩
  | 34 => ⟨S_, .f32⟩
  | 35 => ⟨S2x4096x8x128, .f32⟩
  | 36 => ⟨S2x4096x8x128, .f32⟩
  | 37 => ⟨S2x4096x8x128, .f32⟩
  | 38 => ⟨S2x4096x8x128, .f32⟩
  | 39 => ⟨S2x4096x1024, .f32⟩
  | 40 => ⟨S2x4096x1024, .bf16⟩
  | _ => ⟨S2x4096x6144, .f32⟩

abbrev hbmTy (i : Nat) : BufTy := match i / 128 with
  | 0 => hbmTy0_0 i
  | 1 => hbmTy0_1 i
  | _ => ⟨S2x4096x6144, .f32⟩

abbrev bufTy : (tb : Table) → Fin (tcTables nBuf tb) → BufTy
  | .hbm, ⟨i, _⟩ => hbmTy i
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_call0_cst : Ref sig .tc := ⟨.hbm, 47, rfl⟩
abbrev main_call1_call0_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c : Ref sig .tc := ⟨.hbm, 55, rfl⟩
abbrev main_v31 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v32 : Ref sig .tc := ⟨.hbm, 65, rfl⟩
abbrev main_v33 : Ref sig .tc := ⟨.hbm, 66, rfl⟩
abbrev main_cst_1 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_2 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_3 : Ref sig .tc := ⟨.hbm, 87, rfl⟩
abbrev main_v49 : Ref sig .tc := ⟨.hbm, 88, rfl⟩
abbrev main_c_4 : Ref sig .tc := ⟨.hbm, 89, rfl⟩
abbrev main_v50_0 : Ref sig .tc := ⟨.hbm, 90, rfl⟩
abbrev main_v50_1 : Ref sig .tc := ⟨.hbm, 91, rfl⟩
abbrev main_v50_2 : Ref sig .tc := ⟨.hbm, 92, rfl⟩
abbrev main_v50_3 : Ref sig .tc := ⟨.hbm, 93, rfl⟩
abbrev main_v50_4 : Ref sig .tc := ⟨.hbm, 94, rfl⟩
abbrev main_v50_5 : Ref sig .tc := ⟨.hbm, 95, rfl⟩
abbrev main_v50_6 : Ref sig .tc := ⟨.hbm, 96, rfl⟩
abbrev main_while0c_c_14 : Ref sig .tc := ⟨.hbm, 97, rfl⟩
abbrev main_while0c_v73 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_v0 : Ref sig .tc := ⟨.hbm, 102, rfl⟩
abbrev main_while0b_v73 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v74 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_v0 : Ref sig .tc := ⟨.hbm, 114, rfl⟩
abbrev main_while0b_v75 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_call7_c_1 : Ref sig .tc := ⟨.hbm, 118, rfl⟩
abbrev main_while0b_call7_c_2 : Ref sig .tc := ⟨.hbm, 119, rfl⟩
abbrev main_while0b_call7_v0 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_call8_v0 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_v83 : Ref sig .tc := ⟨.hbm, 133, rfl⟩
abbrev main_while0b_c_14 : Ref sig .tc := ⟨.hbm, 134, rfl⟩
abbrev main_while0b_v84 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_cst_5 : Ref sig .tc := ⟨.hbm, 140, rfl⟩
abbrev main_v55 : Ref sig .tc := ⟨.hbm, 141, rfl⟩
abbrev main_v56 : Ref sig .tc := ⟨.hbm, 142, rfl⟩
abbrev main_cst_6 : Ref sig .tc := ⟨.hbm, 143, rfl⟩
abbrev main_v57 : Ref sig .tc := ⟨.hbm, 144, rfl⟩
abbrev main_v58 : Ref sig .tc := ⟨.hbm, 145, rfl⟩
abbrev main_cst_7 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_call9_v0 : Ref sig .tc := ⟨.hbm, 157, rfl⟩
abbrev main_call9_v1 : Ref sig .tc := ⟨.hbm, 158, rfl⟩
abbrev main_call9_cst : Ref sig .tc := ⟨.hbm, 159, rfl⟩
abbrev main_call9_v2 : Ref sig .tc := ⟨.hbm, 160, rfl⟩
abbrev main_call9_v3 : Ref sig .tc := ⟨.hbm, 161, rfl⟩
abbrev main_call9_cst_0 : Ref sig .tc := ⟨.hbm, 162, rfl⟩
abbrev main_call9_v4 : Ref sig .tc := ⟨.hbm, 163, rfl⟩
abbrev main_call9_v5 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x4096x2048 : Shape := ⟨3, ![2, 4096, 2048]⟩
abbrev S2x12288 : Shape := ⟨2, ![2, 12288]⟩
abbrev S2048 : Shape := ⟨1, ![2048]⟩
abbrev S2048x6144 : Shape := ⟨2, ![2048, 6144]⟩
abbrev S2048x128 : Shape := ⟨2, ![2048, 128]⟩
abbrev S2x1x12288 : Shape := ⟨3, ![2, 1, 12288]⟩
abbrev S1x2048 : Shape := ⟨2, ![1, 2048]⟩
abbrev S2x4096x6144 : Shape := ⟨3, ![2, 4096, 6144]⟩
abbrev S2x4096x128 : Shape := ⟨3, ![2, 4096, 128]⟩
abbrev S1x1024x2048 : Shape := ⟨3, ![1, 1024, 2048]⟩
abbrev S1x1x2048 : Shape := ⟨3, ![1, 1, 2048]⟩
abbrev S2048x1024 : Shape := ⟨2, ![2048, 1024]⟩
abbrev S1x1024x1024 : Shape := ⟨3, ![1, 1024, 1024]⟩
abbrev S1x1024x128 : Shape := ⟨3, ![1, 1024, 128]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S2048, .f32⟩
  | .hbm, ⟨3, _⟩ => ⟨S2048x6144, .bf16⟩
  | .hbm, ⟨4, _⟩ => ⟨S2048x128, .bf16⟩
  | .hbm, ⟨5, _⟩ => ⟨S2x1x12288, .f32⟩
  | .hbm, ⟨6, _⟩ => ⟨S1x2048, .f32⟩
  | .hbm, ⟨7, _⟩ => ⟨S2x4096x6144, .f32⟩
  | .hbm, ⟨8, _⟩ => ⟨S2x4096x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1024x128, .f32⟩
  | .local _ .vmem, ⟨13, _⟩ => ⟨S1x1024x128, .f32⟩
  | .local _ .vmem, ⟨14, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S2x4096x2048 : Shape := ⟨3, ![2, 4096, 2048]⟩
abbrev S2x12288 : Shape := ⟨2, ![2, 12288]⟩
abbrev S2048 : Shape := ⟨1, ![2048]⟩
abbrev S2048x6144 : Shape := ⟨2, ![2048, 6144]⟩
abbrev S2048x128 : Shape := ⟨2, ![2048, 128]⟩
abbrev S2x2048 : Shape := ⟨2, ![2, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x6144 : Shape := ⟨3, ![2, 4096, 6144]⟩
abbrev S2x4096x128 : Shape := ⟨3, ![2, 4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S2048, .f32⟩
  | .hbm, ⟨3, _⟩ => ⟨S2048x6144, .bf16⟩
  | .hbm, ⟨4, _⟩ => ⟨S2048x128, .bf16⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S2x1x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x1x2048, .f32⟩
  | .hbm, ⟨34, _⟩ => ⟨S2x4096x2048, .f32⟩
  | .hbm, ⟨35, _⟩ => ⟨S2x4096x2048, .f32⟩
  | .hbm, ⟨36, _⟩ => ⟨S2048x6144, .f32⟩
  | .hbm, ⟨37, _⟩ => ⟨S2x4096x6144, .f32⟩
  | .hbm, ⟨38, _⟩ => ⟨S2048x128, .f32⟩
  | .hbm, ⟨39, _⟩ => ⟨S2x4096x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel3.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2x12288 : Shape := ⟨2, ![2, 12288]⟩
abbrev S2048 : Shape := ⟨1, ![2048]⟩
abbrev S2x1x12288 : Shape := ⟨3, ![2, 1, 12288]⟩
abbrev S1x2048 : Shape := ⟨2, ![1, 2048]⟩
abbrev S2048x8192 : Shape := ⟨2, ![2048, 8192]⟩
abbrev S1x512x1024 : Shape := ⟨3, ![1, 512, 1024]⟩
abbrev S1x512x2048 : Shape := ⟨3, ![1, 512, 2048]⟩
abbrev S1x1x2048 : Shape := ⟨3, ![1, 1, 2048]⟩
abbrev S2048x512 : Shape := ⟨2, ![2048, 512]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2048x2048, .f32⟩
  | .hbm, ⟨3, _⟩ => ⟨S2x4096x2048, .f32⟩
  | .hbm, ⟨4, _⟩ => ⟨S2x12288, .f32⟩
  | .hbm, ⟨5, _⟩ => ⟨S2048, .f32⟩
  | .hbm, ⟨6, _⟩ => ⟨S2048x2048, .bf16⟩
  | .hbm, ⟨7, _⟩ => ⟨S2x1x12288, .f32⟩
  | .hbm, ⟨8, _⟩ => ⟨S1x2048, .f32⟩
  | .hbm, ⟨9, _⟩ => ⟨S2x4096x2048, .f32⟩
  | .hbm, ⟨10, _⟩ => ⟨S2x4096x2048, .bf16⟩
  | .hbm, ⟨11, _⟩ => ⟨S2048x8192, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x2048, .bf16⟩
  | .local _ .vmem, ⟨5, _⟩ => ⟨S1x512x2048, .f32⟩
  | .local _ .vmem, ⟨6, _⟩ => ⟨S1x512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x512x2048, .f32⟩
  | .local _ .vmem, ⟨15, _⟩ => ⟨S1x512x2048, .f32⟩
  | .local _ .vmem, ⟨16, _⟩ => ⟨S1x512x2048, .bf16⟩
  | .local _ .vmem, ⟨17, _⟩ => ⟨S1x512x2048, .bf16⟩
  | .local _ .vmem, ⟨18, _⟩ => ⟨S2048x512, .bf16⟩
  | .local _ .vmem, ⟨19, _⟩ => ⟨S2048x512, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2x12288 : Shape := ⟨2, ![2, 12288]⟩
abbrev S2048 : Shape := ⟨1, ![2048]⟩
abbrev S2x2048 : Shape := ⟨2, ![2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2048x2048, .f32⟩
  | .hbm, ⟨3, _⟩ => ⟨S2x4096x2048, .f32⟩
  | .hbm, ⟨4, _⟩ => ⟨S2x12288, .f32⟩
  | .hbm, ⟨5, _⟩ => ⟨S2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x4096x1024, .f32⟩
  | .hbm, ⟨13, _⟩ => ⟨S2x4096x1024, .f32⟩
  | .hbm, ⟨14, _⟩ => ⟨S2x4096x2048, .f32⟩
  | .hbm, ⟨15, _⟩ => ⟨S2x4096x2048, .f32⟩
  | .hbm, ⟨16, _⟩ => ⟨S2x1x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S2x1x2048, .f32⟩
  | .hbm, ⟨37, _⟩ => ⟨S_, .f32⟩
  | .hbm, ⟨38, _⟩ => ⟨S2x1x2048, .f32⟩
  | .hbm, ⟨39, _⟩ => ⟨S2x1x2048, .f32⟩
  | .hbm, ⟨40, _⟩ => ⟨S2x4096x2048, .f32⟩
  | .hbm, ⟨41, _⟩ => ⟨S2x4096x2048, .f32⟩
  | .hbm, ⟨42, _⟩ => ⟨S2x1x2048, .f32⟩
  | .hbm, ⟨43, _⟩ => ⟨S2x4096x2048, .f32⟩
  | .hbm, ⟨44, _⟩ => ⟨S2x4096x2048, .f32⟩
  | .hbm, ⟨45, _⟩ => ⟨S2x4096x2048, .bf16⟩
  | .hbm, ⟨46, _⟩ => ⟨S8192x2048, .f32⟩
  | .hbm, ⟨47, _⟩ => ⟨S2048x8192, .f32⟩
  | .hbm, ⟨48, _⟩ => ⟨S2048x8192, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048x2048 : Shape := ⟨2, ![2048, 2048]⟩
abbrev S8x2x128x128 : Shape := ⟨4, ![8, 2, 128, 128]⟩
abbrev S16384x2048 : Shape := ⟨2, ![16384, 2048]⟩
abbrev S16x128x128 : Shape := ⟨3, ![16, 128, 128]⟩
abbrev S8192x2048 : Shape := ⟨2, ![8192, 2048]⟩
abbrev S8x128x8192 : Shape := ⟨3, ![8, 128, 8192]⟩
abbrev S256x2048 : Shape := ⟨2, ![256, 2048]⟩
abbrev S512x2048 : Shape := ⟨2, ![512, 2048]⟩
abbrev S8x128x256 : Shape := ⟨3, ![8, 128, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S8x2x128x128, .f32⟩
  | .hbm, ⟨3, _⟩ => ⟨S16384x2048, .f32⟩
  | .hbm, ⟨4, _⟩ => ⟨S16x128x128, .f32⟩
  | .hbm, ⟨5, _⟩ => ⟨S16x128x128, .bf16⟩
  | .hbm, ⟨6, _⟩ => ⟨S8192x2048, .bf16⟩
  | .hbm, ⟨7, _⟩ => ⟨S2048x2048, .bf16⟩
  | .hbm, ⟨8, _⟩ => ⟨S8x128x8192, .f32⟩
  | .hbm, ⟨9, _⟩ => ⟨S8x128x8192, .f32⟩
  | .hbm, ⟨10, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S16x128x128, .bf16⟩
  | .local _ .vmem, ⟨4, _⟩ => ⟨S512x2048, .f32⟩
  | .local _ .vmem, ⟨5, _⟩ => ⟨S512x2048, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S512x2048, .bf16⟩
  | .local _ .vmem, ⟨11, _⟩ => ⟨S512x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S2x4096x2048 : Shape := ⟨3, ![2, 4096, 2048]⟩
abbrev S2048x2048 : Shape := ⟨2, ![2048, 2048]⟩
abbrev S8x2x128x128 : Shape := ⟨4, ![8, 2, 128, 128]⟩
abbrev S16384x2048 : Shape := ⟨2, ![16384, 2048]⟩
abbrev S8192x2048 : Shape := ⟨2, ![8192, 2048]⟩
abbrev S8192x8x2x128 : Shape := ⟨4, ![8192, 8, 2, 128]⟩
abbrev S8x2x128x8192 : Shape := ⟨4, ![8, 2, 128, 8192]⟩
abbrev S8192x8x1x128 : Shape := ⟨4, ![8192, 8, 1, 128]⟩
abbrev S8192x8x128 : Shape := ⟨3, ![8192, 8, 128]⟩
abbrev S8x128x8192 : Shape := ⟨3, ![8, 128, 8192]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2048, .f32⟩
  | .hbm, ⟨2, _⟩ => ⟨S8x2x128x128, .f32⟩
  | .hbm, ⟨3, _⟩ => ⟨S16384x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x8x2x128, .f32⟩
  | .hbm, ⟨8, _⟩ => ⟨S8x2x128x8192, .f32⟩
  | .hbm, ⟨9, _⟩ => ⟨S8192x8x2x128, .f32⟩
  | .hbm, ⟨10, _⟩ => ⟨S8192x8x1x128, .f32⟩
  | .hbm, ⟨11, _⟩ => ⟨S8192x8x128, .f32⟩
  | .hbm, ⟨12, _⟩ => ⟨S8x128x8192, .f32⟩
  | .hbm, ⟨13, _⟩ => ⟨S8192x8x1x128, .f32⟩
  | .hbm, ⟨14, _⟩ => ⟨S8192x8x128, .f32⟩
  | .hbm, ⟨15, _⟩ => ⟨S8x128x8192, .f32⟩
  | .hbm, ⟨16, _⟩ => ⟨S16384x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S2x2048 : Shape := ⟨2, ![2, 2048]⟩
abbrev S2048x12288 : Shape := ⟨2, ![2048, 12288]⟩
abbrev S12288 : Shape := ⟨1, ![12288]⟩
abbrev S2048x6160 : Shape := ⟨2, ![2048, 6160]⟩
abbrev S2048x2 : Shape := ⟨2, ![2048, 2]⟩
abbrev S1x12288 : Shape := ⟨2, ![1, 12288]⟩
abbrev S2x12288 : Shape := ⟨2, ![2, 12288]⟩
abbrev S2048x6144 : Shape := ⟨2, ![2048, 6144]⟩
abbrev S2048x128 : Shape := ⟨2, ![2048, 128]⟩
abbrev S2048x768 : Shape := ⟨2, ![2048, 768]⟩
abbrev S1x768 : Shape := ⟨2, ![1, 768]⟩
abbrev S128x6160 : Shape := ⟨2, ![128, 6160]⟩
abbrev S2x768 : Shape := ⟨2, ![2, 768]⟩
abbrev S128x6144 : Shape := ⟨2, ![128, 6144]⟩
abbrev S128x128 : Shape := ⟨2, ![128, 128]⟩
abbrev S2048x1 : Shape := ⟨2, ![2048, 1]⟩
abbrev S768 : Shape := ⟨1, ![768]⟩
abbrev S128x3072 : Shape := ⟨2, ![128, 3072]⟩
abbrev S128x16 : Shape := ⟨2, ![128, 16]⟩
abbrev S128x112 : Shape := ⟨2, ![128, 112]⟩

abbrev nBuf : Space → Nat
  | .hbm => 9
  | .vmem => 13
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S2048x6160, .f32⟩
  | .hbm, ⟨4, _⟩ => ⟨S2048x2, .f32⟩
  | .hbm, ⟨5, _⟩ => ⟨S1x12288, .f32⟩
  | .hbm, ⟨6, _⟩ => ⟨S2x12288, .f32⟩
  | .hbm, ⟨7, _⟩ => ⟨S2048x6144, .bf16⟩
  | .hbm, ⟨8, _⟩ => ⟨S2048x128, .bf16⟩
  | .local _ .vmem, ⟨0, _⟩ => ⟨S2048x2, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S128x6160, .f32⟩
  | .local _ .vmem, ⟨6, _⟩ => ⟨S128x6160, .f32⟩
  | .local _ .vmem, ⟨7, _⟩ => ⟨S2x768, .f32⟩
  | .local _ .vmem, ⟨8, _⟩ => ⟨S2x768, .f32⟩
  | .local _ .vmem, ⟨9, _⟩ => ⟨S128x6144, .bf16⟩
  | .local _ .vmem, ⟨10, _⟩ => ⟨S128x6144, .bf16⟩
  | .local _ .vmem, ⟨11, _⟩ => ⟨S128x128, .bf16⟩
  | .local _ .vmem, ⟨12, _⟩ => ⟨S128x128, .bf16⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x6160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x2048 : Shape := ⟨2, ![2, 2048]⟩
abbrev S2048x12288 : Shape := ⟨2, ![2048, 12288]⟩
abbrev S12288 : Shape := ⟨1, ![12288]⟩
abbrev S2048x6160 : Shape := ⟨2, ![2048, 6160]⟩
abbrev S_ : Shape := ⟨0, ![]⟩
abbrev S2x12288 : Shape := ⟨2, ![2, 12288]⟩
abbrev S1x12288 : Shape := ⟨2, ![1, 12288]⟩
abbrev S2048x3072 : Shape := ⟨2, ![2048, 3072]⟩
abbrev S2048x6144 : Shape := ⟨2, ![2048, 6144]⟩
abbrev S2048x16 : Shape := ⟨2, ![2048, 16]⟩
abbrev S2048x112 : Shape := ⟨2, ![2048, 112]⟩
abbrev S2048x128 : Shape := ⟨2, ![2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S2048x6160, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S2x2048, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x12288, .f32⟩
  | .hbm, ⟨14, _⟩ => ⟨S1x12288, .f32⟩
  | .hbm, ⟨15, _⟩ => ⟨S2x12288, .f32⟩
  | .hbm, ⟨16, _⟩ => ⟨S2x12288, .f32⟩
  | .hbm, ⟨17, _⟩ => ⟨S2048x3072, .f32⟩
  | .hbm, ⟨18, _⟩ => ⟨S2048x3072, .f32⟩
  | .hbm, ⟨19, _⟩ => ⟨S2048x6144, .f32⟩
  | .hbm, ⟨20, _⟩ => ⟨S2048x16, .f32⟩
  | .hbm, ⟨21, _⟩ => ⟨S_, .f32⟩
  | .hbm, ⟨22, _⟩ => ⟨S2048x112, .f32⟩
  | .hbm, ⟨23, _⟩ => ⟨S2048x128, .f32⟩
  | .hbm, ⟨24, _⟩ => ⟨S2048x6144, .bf16⟩
  | .hbm, ⟨25, _⟩ => ⟨S2048x128, .bf16⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Kernel6.lean ====
abbrev S2x4096x6144 : Shape := ⟨3, ![2, 4096, 6144]⟩
abbrev S2x4096 : Shape := ⟨2, ![2, 4096]⟩
abbrev S128 : Shape := ⟨1, ![128]⟩
abbrev S16 : Shape := ⟨1, ![16]⟩
abbrev S_ : Shape := ⟨0, ![]⟩
abbrev S96 : Shape := ⟨1, ![96]⟩
abbrev S1x128 : Shape := ⟨2, ![1, 128]⟩
abbrev S2x4096x1 : Shape := ⟨3, ![2, 4096, 1]⟩
abbrev S2x1024x4096 : Shape := ⟨3, ![2, 1024, 4096]⟩
abbrev S2x4096x1024 : Shape := ⟨3, ![2, 4096, 1024]⟩
abbrev S2x16x1x1024 : Shape := ⟨4, ![2, 16, 1, 1024]⟩
abbrev S1x256x1024 : Shape := ⟨3, ![1, 256, 1024]⟩
abbrev S1x256x1 : Shape := ⟨3, ![1, 256, 1]⟩
abbrev S1x1024x256 : Shape := ⟨3, ![1, 1024, 256]⟩
abbrev S1x1x1x1024 : Shape := ⟨4, ![1, 1, 1, 1024]⟩
abbrev S256x1 : Shape := ⟨2, ![256, 1]⟩
abbrev S256x128 : Shape := ⟨2, ![256, 128]⟩
abbrev S1x256x128 : Shape := ⟨3, ![1, 256, 128]⟩
abbrev S256 : Shape := ⟨1, ![256]⟩
abbrev S128x256 : Shape := ⟨2, ![128, 256]⟩
abbrev S1x128x256 : Shape := ⟨3, ![1, 128, 256]⟩
abbrev S1x1x1x128 : Shape := ⟨4, ![1, 1, 1, 128]⟩

abbrev nBuf : Space → Nat
  | .hbm => 24
  | .vmem => 19
  | .smem => 0
  | _ => 0

abbrev bufTy : (tb : Table) → Fin (tcTables nBuf tb) → BufTy
  | .hbm, ⟨0, _⟩ => ⟨S2x4096x6144, .f32⟩
  | .hbm, ⟨1, _⟩ => ⟨S2x4096, .i32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S96, .f32⟩
  | .hbm, ⟨14, _⟩ => ⟨S128, .f32⟩
  | .hbm, ⟨15, _⟩ => ⟨S1x128, .f32⟩
  | .hbm, ⟨16, _⟩ => ⟨S2x4096, .f32⟩
  | .hbm, ⟨17, _⟩ => ⟨S2x4096x1, .f32⟩
  | .hbm, ⟨18, _⟩ => ⟨S1x128, .f32⟩
  | .hbm, ⟨19, _⟩ => ⟨S1x128, .f32⟩
  | .hbm, ⟨20, _⟩ => ⟨S2x1024x4096, .bf16⟩
  | .hbm, ⟨21, _⟩ => ⟨S2x4096x1024, .bf16⟩
  | .hbm, ⟨22, _⟩ => ⟨S2x1024x4096, .bf16⟩
  | .hbm, ⟨23, _⟩ => ⟨S2x16x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1, .f32⟩
  | .local _ .vmem, ⟨7, _⟩ => ⟨S1x256x1, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1024x256, .bf16⟩
  | .local _ .vmem, ⟨12, _⟩ => ⟨S1x1024x256, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1x1x1024, .f32⟩
  | .local _ .vmem, ⟨18, _⟩ => ⟨S1x1x1x1024, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S2x4096x6144 : Shape := ⟨3, ![2, 4096, 6144]⟩
abbrev S2x4096 : Shape := ⟨2, ![2, 4096]⟩
abbrev S128 : Shape := ⟨1, ![128]⟩
abbrev S2x4096x1024 : Shape := ⟨3, ![2, 4096, 1024]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S2x8x4096x128 : Shape := ⟨4, ![2, 8, 4096, 128]⟩
abbrev S16 : Shape := ⟨1, ![16]⟩
abbrev S2x1x4096x1 : Shape := ⟨4, ![2, 1, 4096, 1]⟩
abbrev S1x1x1x16 : Shape := ⟨4, ![1, 1, 1, 16]⟩
abbrev S2x1x4096x16 : Shape := ⟨4, ![2, 1, 4096, 16]⟩
abbrev S2x8x4096x16 : Shape := ⟨4, ![2, 8, 4096, 16]⟩
abbrev S2x8x4096x32 : Shape := ⟨4, ![2, 8, 4096, 32]⟩
abbrev S2x8x4096x96 : Shape := ⟨4, ![2, 8, 4096, 96]⟩
abbrev S2x8x16x256x128 : Shape := ⟨5, ![2, 8, 16, 256, 128]⟩
abbrev S2x8x16x128 : Shape := ⟨4, ![2, 8, 16, 128]⟩
abbrev S2x8x128x4096 : Shape := ⟨4, ![2, 8, 128, 4096]⟩
abbrev S2x1024x4096 : Shape := ⟨3, ![2, 1024, 4096]⟩
abbrev S2x16x8x128 : Shape := ⟨4, ![2, 16, 8, 128]⟩
abbrev S2x16x1x1024 : Shape := ⟨4, ![2, 16, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S2x4096x6144, .f32⟩
  | .hbm, ⟨1, _⟩ => ⟨S2x4096, .i32⟩
  | .hbm, ⟨2, _⟩ => ⟨S128, .f32⟩
  | .hbm, ⟨3, _⟩ => ⟨S128, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8x128, .f32⟩
  | .hbm, ⟨8, _⟩ => ⟨S2x4096x8x128, .f32⟩
  | .hbm, ⟨9, _⟩ => ⟨S_, .f32⟩
  | .hbm, ⟨10, _⟩ => ⟨S2x4096x8, .f32⟩
  | .hbm, ⟨11, _⟩ => ⟨S2x4096x8x1, .f32⟩
  | .hbm, ⟨12, _⟩ => ⟨S_, .f32⟩
  | .hbm, ⟨13, _⟩ => ⟨S2x4096x8x1, .f32⟩
  | .hbm, ⟨14, _⟩ => ⟨S2x4096x8x1, .f32⟩
  | .hbm, ⟨15, _⟩ => ⟨S_, .f32⟩
  | .hbm, ⟨16, _⟩ => ⟨S2x4096x8x1, .f32⟩
  | .hbm, ⟨17, _⟩ => ⟨S2x4096x8x1, .f32⟩
  | .hbm, ⟨18, _⟩ => ⟨S2x4096x8x1, .f32⟩
  | .hbm, ⟨19, _⟩ => ⟨S2x4096x8x128, .f32⟩
  | .hbm, ⟨20, _⟩ => ⟨S2x4096x8x128, .f32⟩
  | .hbm, ⟨21, _⟩ => ⟨S1x1x1x128, .f32⟩
  | .hbm, ⟨22, _⟩ => ⟨S2x4096x8x128, .f32⟩
  | .hbm, ⟨23, _⟩ => ⟨S2x4096x8x128, .f32⟩
  | .hbm, ⟨24, _⟩ => ⟨S2x4096x8x128, .f32⟩
  | .hbm, ⟨25, _⟩ => ⟨S2x4096x8x128, .f32⟩
  | .hbm, ⟨26, _⟩ => ⟨S_, .f32⟩
  | .hbm, ⟨27, _⟩ => ⟨S2x4096x8, .f32⟩
  | .hbm, ⟨28, _⟩ => ⟨S2x4096x8x1, .f32⟩
  | .hbm, ⟨29, _⟩ => ⟨S_, .f32⟩
  | .hbm, ⟨30, _⟩ => ⟨S2x4096x8x1, .f32⟩
  | .hbm, ⟨31, _⟩ => ⟨S2x4096x8x1, .f32⟩
  | .hbm, ⟨32, _⟩ => ⟨S_, .f32⟩
  | .hbm, ⟨33, _⟩ => ⟨S2x4096x8x1, .f32⟩
  | .hbm, ⟨34, _⟩ => ⟨S2x4096x8x1, .f32⟩
  | .hbm, ⟨35, _⟩ => ⟨S2x4096x8x1, .f32⟩
  | .hbm, ⟨36, _⟩ => ⟨S2x4096x8x128, .f32⟩
  | .hbm, ⟨37, _⟩ => ⟨S2x4096x8x128, .f32⟩
  | .hbm, ⟨38, _⟩ => ⟨S1x1x1x128, .f32⟩
  | .hbm, ⟨39, _⟩ => ⟨S2x4096x8x128, .f32⟩
  | .hbm, ⟨40, _⟩ => ⟨S2x4096x8x128, .f32⟩
  | .hbm, ⟨41, _⟩ => ⟨S2x8x4096x128, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S2x4096, .f32⟩
  | .hbm, ⟨51, _⟩ => ⟨S2x1x4096x1, .f32⟩
  | .hbm, ⟨52, _⟩ => ⟨S1x1x1x16, .f32⟩
  | .hbm, ⟨53, _⟩ => ⟨S2x1x4096x16, .f32⟩
  | .hbm, ⟨54, _⟩ => ⟨S2x1x4096x16, .f32⟩
  | .hbm, ⟨55, _⟩ => ⟨S2x1x4096x16, .f32⟩
  | .hbm, ⟨56, _⟩ => ⟨S2x1x4096x16, .f32⟩
  | .hbm, ⟨57, _⟩ => ⟨S2x1x4096x16, .f32⟩
  | .hbm, ⟨58, _⟩ => ⟨S2x8x4096x16, .f32⟩
  | .hbm, ⟨59, _⟩ => ⟨S2x8x4096x16, .f32⟩
  | .hbm, ⟨60, _⟩ => ⟨S2x8x4096x16, .f32⟩
  | .hbm, ⟨61, _⟩ => ⟨S2x8x4096x16, .f32⟩
  | .hbm, ⟨62, _⟩ => ⟨S2x8x4096x16, .f32⟩
  | .hbm, ⟨63, _⟩ => ⟨S2x8x4096x16, .f32⟩
  | .hbm, ⟨64, _⟩ => ⟨S2x8x4096x16, .f32⟩
  | .hbm, ⟨65, _⟩ => ⟨S2x8x4096x16, .f32⟩
  | .hbm, ⟨66, _⟩ => ⟨S2x8x4096x16, .f32⟩
  | .hbm, ⟨67, _⟩ => ⟨S2x8x4096x16, .f32⟩
  | .hbm, ⟨68, _⟩ => ⟨S2x8x4096x16, .f32⟩
  | .hbm, ⟨69, _⟩ => ⟨S2x8x4096x16, .f32⟩
  | .hbm, ⟨70, _⟩ => ⟨S2x8x4096x32, .f32⟩
  | .hbm, ⟨71, _⟩ => ⟨S2x8x4096x96, .f32⟩
  | .hbm, ⟨72, _⟩ => ⟨S2x8x4096x128, .f32⟩
  | .hbm, ⟨73, _⟩ => ⟨S2x8x4096x128, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S2x4096, .f32⟩
  | .hbm, ⟨83, _⟩ => ⟨S2x1x4096x1, .f32⟩
  | .hbm, ⟨84, _⟩ => ⟨S1x1x1x16, .f32⟩
  | .hbm, ⟨85, _⟩ => ⟨S2x1x4096x16, .f32⟩
  | .hbm, ⟨86, _⟩ => ⟨S2x1x4096x16, .f32⟩
  | .hbm, ⟨87, _⟩ => ⟨S2x1x4096x16, .f32⟩
  | .hbm, ⟨88, _⟩ => ⟨S2x1x4096x16, .f32⟩
  | .hbm, ⟨89, _⟩ => ⟨S2x1x4096x16, .f32⟩
  | .hbm, ⟨90, _⟩ => ⟨S2x8x4096x16, .f32⟩
  | .hbm, ⟨91, _⟩ => ⟨S2x8x4096x16, .f32⟩
  | .hbm, ⟨92, _⟩ => ⟨S2x8x4096x16, .f32⟩
  | .hbm, ⟨93, _⟩ => ⟨S2x8x4096x16, .f32⟩
  | .hbm, ⟨94, _⟩ => ⟨S2x8x4096x16, .f32⟩
  | .hbm, ⟨95, _⟩ => ⟨S2x8x4096x16, .f32⟩
  | .hbm, ⟨96, _⟩ => ⟨S2x8x4096x16, .f32⟩
  | .hbm, ⟨97, _⟩ => ⟨S2x8x4096x16, .f32⟩
  | .hbm, ⟨98, _⟩ => ⟨S2x8x4096x16, .f32⟩
  | .hbm, ⟨99, _⟩ => ⟨S2x8x4096x16, .f32⟩
  | .hbm, ⟨100, _⟩ => ⟨S2x8x4096x16, .f32⟩
  | .hbm, ⟨101, _⟩ => ⟨S2x8x4096x16, .f32⟩
  | .hbm, ⟨102, _⟩ => ⟨S2x8x4096x32, .f32⟩
  | .hbm, ⟨103, _⟩ => ⟨S2x8x4096x96, .f32⟩
  | .hbm, ⟨104, _⟩ => ⟨S2x8x4096x128, .f32⟩
  | .hbm, ⟨105, _⟩ => ⟨S2x8x16x256x128, .f32⟩
  | .hbm, ⟨106, _⟩ => ⟨S_, .f32⟩
  | .hbm, ⟨107, _⟩ => ⟨S2x8x16x128, .f32⟩
  | .hbm, ⟨108, _⟩ => ⟨S_, .f32⟩
  | .hbm, ⟨109, _⟩ => ⟨S2x8x16x128, .f32⟩
  | .hbm, ⟨110, _⟩ => ⟨S2x8x16x128, .f32⟩
  | .hbm, ⟨111, _⟩ => ⟨S_, .f32⟩
  | .hbm, ⟨112, _⟩ => ⟨S2x8x4096x128, .f32⟩
  | .hbm, ⟨113, _⟩ => ⟨S2x8x4096x128, .f32⟩
  | .hbm, ⟨114, _⟩ => ⟨S2x8x128x4096, .f32⟩
  | .hbm, ⟨115, _⟩ => ⟨S2x1024x4096, .f32⟩
  | .hbm, ⟨116, _⟩ => ⟨S2x1024x4096, .bf16⟩
  | .hbm, ⟨117, _⟩ => ⟨S2x4096x8x128, .f32⟩
  | .hbm, ⟨118, _⟩ => ⟨S2x4096x1024, .f32⟩
  | .hbm, ⟨119, _⟩ => ⟨S2x4096x1024, .bf16⟩
  | .hbm, ⟨120, _⟩ => ⟨S2x1024x4096, .f32⟩
  | .hbm, ⟨121, _⟩ => ⟨S2x1024x4096, .bf16⟩
  | .hbm, ⟨122, _⟩ => ⟨S2x16x8x128, .f32⟩
  | .hbm, ⟨123, _⟩ => ⟨S2x16x1x1024, .f32⟩
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_9 : Ref sig .tc := ⟨.hbm, 106, rfl⟩
abbrev main_v92 : Ref sig .tc := ⟨.hbm, 107, rfl⟩
abbrev main_cst_10 : Ref sig .tc := ⟨.hbm, 108, rfl⟩
abbrev main_v93 : Ref sig .tc := ⟨.hbm, 109, rfl⟩
abbrev main_v94 : Ref sig .tc := ⟨.hbm, 110, rfl⟩
abbrev main_cst_11 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩

abbrev nD : Nat := 1
abbrev τ : Topo := Topo.v7x

variable {F : FTy → Type} [FloatOps F]
-- ==== Kernel7.lean ====
abbrev S8x128x8192 : Shape := ⟨3, ![8, 128, 8192]⟩
abbrev S16384x2048 : Shape := ⟨2, ![16384, 2048]⟩
abbrev S8x8192 : Shape := ⟨2, ![8, 8192]⟩
abbrev S16x2048x1024 : Shape := ⟨3, ![16, 2048, 1024]⟩
abbrev S8x128x128 : Shape := ⟨3, ![8, 128, 128]⟩
abbrev S256x2048 : Shape := ⟨2, ![256, 2048]⟩
abbrev S8x128 : Shape := ⟨2, ![8, 128]⟩
abbrev S1x2048x256 : Shape := ⟨3, ![1, 2048, 256]⟩
abbrev S128x128 : Shape := ⟨2, ![128, 128]⟩
abbrev S16x128 : Shape := ⟨2, ![16, 128]⟩
abbrev S256x256 : Shape := ⟨2, ![256, 256]⟩
abbrev S1x256x256 : Shape := ⟨3, ![1, 256, 256]⟩
abbrev S1x128x128 : Shape := ⟨3, ![1, 128, 128]⟩
abbrev S128 : Shape := ⟨1, ![128]⟩
abbrev S1x128 : Shape := ⟨2, ![1, 128]⟩
abbrev S64x128 : Shape := ⟨2, ![64, 128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 7
  | .vmem => 14
  | .smem => 0
  | _ => 0

abbrev bufTy : (tb : Table) → Fin (tcTables nBuf tb) → BufTy
  | .hbm, ⟨0, _⟩ => ⟨S8x128x8192, .f32⟩
  | .hbm, ⟨1, _⟩ => ⟨S8x128x8192, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x8192, .f32⟩
  | .hbm, ⟨6, _⟩ => ⟨S16x2048x1024, .bf16⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S256x2048, .f32⟩
  | .local _ .vmem, ⟨5, _⟩ => ⟨S256x2048, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x128, .f32⟩
  | .local _ .vmem, ⟨11, _⟩ => ⟨S8x128, .f32⟩
  | .local _ .vmem, ⟨12, _⟩ => ⟨S1x2048x256, .bf16⟩
  | .local _ .vmem, ⟨13, _⟩ => ⟨S1x2048x256, .bf16⟩
  | _, _ => ⟨S8x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c2_i32 : BitVec 32 := 2#32
  let c0_i32 : BitVec 32 := 0#32
  let c1_i32 : BitVec 32 := 1#32
  let arg8 : BitVec 32 := Scf.iv c0_i32 c1_i32 k0_t1
  let v4 : BitVec 32 := Scalar.muli c2_i32 arg8
  let c256_i32 : BitVec 32 := 256#32
  let v7 : BitVec 32 := Scalar.muli v4 c256_i32
  v7
def k0_off1 (k0_t1 : Fin k0_t1_loop.trips) : Fin 2 → Nat :=
  let c0 : Index := 0#32
  let c2_i32 : BitVec 32 := 2#32
  let c0_i32 : BitVec 32 := 0#32
  let c1_i32 : BitVec 32 := 1#32
  let arg8 : BitVec 32 := Scf.iv c0_i32 c1_i32 k0_t1
  let v4 : BitVec 32 := Scalar.muli c2_i32 arg8
  let c256_i32 : BitVec 32 := 256#32
  let v7 : BitVec 32 := Scalar.muli v4 c256_i32
  let v8 : BitVec 32 := v7
  let v9 : Index := Scalar.indexCast v8
  ![0, v9.toNat]
def k0_off2 (k0_t1 : Fin k0_t1_loop.trips) : Fin 3 → Nat :=
  let c0_3 : Index := 0#32
  let c2_i32 : BitVec 32 := 2#32
  let c0_i32 : BitVec 32 := 0#32
  let c1_i32 : BitVec 32 := 1#32
  let arg8 : BitVec 32 := Scf.iv c0_i32 c1_i32 k0_t1
  let v4 : BitVec 32 := Scalar.muli c2_i32 arg8
  let c256_i32 : BitVec 32 := 256#32
  let v7 : BitVec 32 := Scalar.muli v4 c256_i32
  let v8 : BitVec 32 := v7
  let v13 : Index := Scalar.indexCast v8
  let c0_4 : Index := 0#32
  ![0, v13.toNat, 0]
def k0_off3 (k0_t1 : Fin k0_t1_loop.trips) : Fin 3 → Nat :=
  let c2_i32 : BitVec 32 := 2#32
  let c0_i32 : BitVec 32 := 0#32
  let c1_i32 : BitVec 32 := 1#32
  let arg8 : BitVec 32 := Scf.iv c0_i32 c1_i32 k0_t1
  let v4 : BitVec 32 := Scalar.muli c2_i32 arg8
  let v17 : Index := Scalar.indexCast v4
  let c0_5 : Index := 0#32
  let c0_6 : Index := 0#32
  ![v17.toNat, 0, 0]
def k0_off4 (k0_t1 : Fin k0_t1_loop.trips) : Fin 2 → Nat :=
  let c2_i32 : BitVec 32 := 2#32
  let c0_i32 : BitVec 32 := 0#32
  let c1_i32 : BitVec 32 := 1#32
  let arg8 : BitVec 32 := Scf.iv c0_i32 c1_i32 k0_t1
  let v4 : BitVec 32 := Scalar.muli c2_i32 arg8
  let v1637 : Index := Scalar.indexCast v4
  let c0_303 : Index := 0#32
  ![v1637.toNat, 0]
def k0_mult2 (k0_t1 : Fin k0_t1_loop.trips) : BitVec 32 :=
  let c2_i32_1 : BitVec 32 := 2#32
  let c0_i32 : BitVec 32 := 0#32
  let c1_i32 : BitVec 32 := 1#32
  let arg8 : BitVec 32 := Scf.iv c0_i32 c1_i32 k0_t1
  let v5 : BitVec 32 := Scalar.muli c2_i32_1 arg8
  let c1_i32_2 : BitVec 32 := 1#32
  let v6 : BitVec 32 := Scalar.addi v5 c1_i32_2
  let c256_i32_310 : BitVec 32 := 256#32
  let v1650 : BitVec 32 := Scalar.muli v6 c256_i32_310
  v1650
def k0_off5 (k0_t1 : Fin k0_t1_loop.trips) : Fin 2 → Nat :=
  let c0_311 : Index := 0#32
  let c2_i32_1 : BitVec 32 := 2#32
  let c0_i32 : BitVec 32 := 0#32
  let c1_i32 : BitVec 32 := 1#32
  let arg8 : BitVec 32 := Scf.iv c0_i32 c1_i32 k0_t1
  let v5 : BitVec 32 := Scalar.muli c2_i32_1 arg8
  let c1_i32_2 : BitVec 32 := 1#32
  let v6 : BitVec 32 := Scalar.addi v5 c1_i32_2
  let c256_i32_310 : BitVec 32 := 256#32
  let v1650 : BitVec 32 := Scalar.muli v6 c256_i32_310
  let v1651 : BitVec 32 := v1650
  let v1652 : Index := Scalar.indexCast v1651
  ![0, v1652.toNat]
def k0_off6 (k0_t1 : Fin k0_t1_loop.trips) : Fin 3 → Nat :=
  let c0_312 : Index := 0#32
  let c2_i32_1 : BitVec 32 := 2#32
  let c0_i32 : BitVec 32 := 0#32
  let c1_i32 : BitVec 32 := 1#32
  let arg8 : BitVec 32 := Scf.iv c0_i32 c1_i32 k0_t1
  let v5 : BitVec 32 := Scalar.muli c2_i32_1 arg8
  let c1_i32_2 : BitVec 32 := 1#32
  let v6 : BitVec 32 := Scalar.addi v5 c1_i32_2
  let c256_i32_310 : BitVec 32 := 256#32
  let v1650 : BitVec 32 := Scalar.muli v6 c256_i32_310
  let v1651 : BitVec 32 := v1650
  let v1656 : Index := Scalar.indexCast v1651
  let c0_313 : Index := 0#32
  ![0, v1656.toNat, 0]
def k0_off7 (k0_t1 : Fin k0_t1_loop.trips) : Fin 3 → Nat :=
  let c2_i32_1 : BitVec 32 := 2#32
  let c0_i32 : BitVec 32 := 0#32
  let c1_i32 : BitVec 32 := 1#32
  let arg8 : BitVec 32 := Scf.iv c0_i32 c1_i32 k0_t1
  let v5 : BitVec 32 := Scalar.muli c2_i32_1 arg8
  let c1_i32_2 : BitVec 32 := 1#32
  let v6 : BitVec 32 := Scalar.addi v5 c1_i32_2
  let v1660 : Index := Scalar.indexCast v6
  let c0_314 : Index := 0#32
  let c0_315 : Index := 0#32
  ![v1660.toNat, 0, 0]
def k0_off8 (k0_t1 : Fin k0_t1_loop.trips) : Fin 2 → Nat :=
  let c2_i32_1 : BitVec 32 := 2#32
  let c0_i32 : BitVec 32 := 0#32
  let c1_i32 : BitVec 32 := 1#32
  let arg8 : BitVec 32 := Scf.iv c0_i32 c1_i32 k0_t1
  let v5 : BitVec 32 := Scalar.muli c2_i32_1 arg8
  let c1_i32_2 : BitVec 32 := 1#32
  let v6 : BitVec 32 := Scalar.addi v5 c1_i32_2
  let v3280 : Index := Scalar.indexCast v6
  let c0_626 : Index := 0#32
  ![v3280.toNat, 0]
def k0_off9 (k0_t1 : Fin k0_t1_loop.trips) : Fin 3 → Nat :=
  let c2_i32 : BitVec 32 := 2#32
  let c0_i32 : BitVec 32 := 0#32
  let c1_i32 : BitVec 32 := 1#32
  let arg8 : BitVec 32 := Scf.iv c0_i32 c1_i32 k0_t1
  let v4 : BitVec 32 := Scalar.muli c2_i32 arg8
  let v3496 : Index := Scalar.indexCast v4
  let c0_700 : Index := 0#32
  let c0_701 : Index := 0#32
  ![v3496.toNat, 0, 0]
def k0_off10 (k0_t1 : Fin k0_t1_loop.trips) : Fin 3 → Nat :=
  let c2_i32_1 : BitVec 32 := 2#32
  let c0_i32 : BitVec 32 := 0#32
  let c1_i32 : BitVec 32 := 1#32
  let arg8 : BitVec 32 := Scf.iv c0_i32 c1_i32 k0_t1
  let v5 : BitVec 32 := Scalar.muli c2_i32_1 arg8
  let c1_i32_2 : BitVec 32 := 1#32
  let v6 : BitVec 32 := Scalar.addi v5 c1_i32_2
  let v3894 : Index := Scalar.indexCast v6
  let c0_834 : Index := 0#32
  let c0_835 : Index := 0#32
  ![v3894.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8x128x8192 : Shape := ⟨3, ![8, 128, 8192]⟩
abbrev S16384x2048 : Shape := ⟨2, ![16384, 2048]⟩
abbrev S16x1024x2048 : Shape := ⟨3, ![16, 1024, 2048]⟩
abbrev S16x2048x1024 : Shape := ⟨3, ![16, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x128x8192, .f32⟩
  | .hbm, ⟨1, _⟩ => ⟨S8x128x8192, .f32⟩
  | .hbm, ⟨2, _⟩ => ⟨S16384x2048, .f32⟩
  | .hbm, ⟨3, _⟩ => ⟨S16x1024x2048, .f32⟩
  | .hbm, ⟨4, _⟩ => ⟨S16x2048x1024, .f32⟩
  | .hbm, ⟨5, _⟩ => ⟨S16x2048x1024, .bf16⟩
  | _, _ => ⟨S8x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Scores.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

/- What the product-key score call computes, over the extended reals. -/

@[expose] public section

set_option maxRecDepth 16384

noncomputable section

namespace Cert.Scores

open Idealize.ShloMosaic Idealize.ShloMosaic.TcCoe Idealize.SL.Sem
open Idealize.ShloMosaic.Pipeline (Dat)
section
open Cert.Reference4Ideal Cert.Reference4Ideal.Gen

/-- The reference's first result, as a term of its arguments. -/
abbrev ref1 (h : FVec Ideal S2x4096x2048 .bf16) (wq : FVec Ideal S2048x2048 .f32)
    (sk : FVec Ideal S8x2x128x128 .f32) : FVec Ideal S8x128x8192 .f32 :=
  transpose S8x128x8192 [1, 2, 0] (shapeCast _ (extractStridedSlice S8192x8x1x128 ![0, 0, 0, 0] (transpose S8192x8x2x128 [3, 0, 1, 2] (Host.dotGeneral dot_S8x2x128x128_S8192x8x2x128_S8x2x128x8192_3_3_2_0_01_12 none sk (shapeCast _ (Host.dotGeneral dot_S8192x2048_S2048x2048_S8192x2048_1_0_0_1_n_n none (extf .f32 (shapeCast _ h shapeCasts_S2x4096x2048_S8192x2048) bitsLt_bf16_f32) wq) shapeCasts_S8192x2048_S8192x8x2x128)) transposes_S8x2x128x8192_S8192x8x2x128_3_0_1_2) slices_S8192x8x2x128_S8192x8x1x128_0_0_0_0) shapeCasts_S8192x8x1x128_S8192x8x128) transposes_S8192x8x128_S8x128x8192_1_2_0

/-- The reference's second result, as a term of its arguments. -/
abbrev ref2 (h : FVec Ideal S2x4096x2048 .bf16) (wq : FVec Ideal S2048x2048 .f32)
    (sk : FVec Ideal S8x2x128x128 .f32) : FVec Ideal S8x128x8192 .f32 :=
  transpose S8x128x8192 [1, 2, 0] (shapeCast _ (extractStridedSlice S8192x8x1x128 ![0, 0, 1, 0] (transpose S8192x8x2x128 [3, 0, 1, 2] (Host.dotGeneral dot_S8x2x128x128_S8192x8x2x128_S8x2x128x8192_3_3_2_0_01_12 none sk (shapeCast _ (Host.dotGeneral dot_S8192x2048_S2048x2048_S8192x2048_1_0_0_1_n_n none (extf .f32 (shapeCast _ h shapeCasts_S2x4096x2048_S8192x2048) bitsLt_bf16_f32) wq) shapeCasts_S8192x2048_S8192x8x2x128)) transposes_S8x2x128x8192_S8192x8x2x128_3_0_1_2) slices_S8192x8x2x128_S8192x8x1x128_0_0_1_0) shapeCasts_S8192x8x1x128_S8192x8x128) transposes_S8192x8x128_S8x128x8192_1_2_0

end

open Cert.Kernel4Ideal Cert.Kernel4Ideal.Gen

/-- The query of token `t` at lane `j`: row `t` of the activations times column `j` of the query weights. -/
def query (h : FVec Ideal S2x4096x2048 .bf16) (wq : FVec Ideal S2048x2048 .f32) (t : Fin 8192) (j : Fin 2048) : EReal :=
  ∑ d : Fin 2048, h (ix3 ⟨t.val / 4096, by omega⟩ ⟨t.val % 4096, by omega⟩ d) * wq (ix2 d j)

/-- The score of token `t` against key `k` of half `z` of head `a`. -/
def score (h : FVec Ideal S2x4096x2048 .bf16) (wq : FVec Ideal S2048x2048 .f32) (sk : FVec Ideal S8x2x128x128 .f32)
    (z : Fin 2) (a : Fin 8) (k : Fin 128) (t : Fin 8192) : EReal :=
  ∑ l : Fin 128, sk (ix4 a z k l) * query h wq t ⟨a.val * 256 + z.val * 128 + l.val, by omega⟩

/-- The reference's first result is the score against the first half's keys. -/
theorem ref1_at (h : FVec Ideal S2x4096x2048 .bf16) (wq : FVec Ideal S2048x2048 .f32) (sk : FVec Ideal S8x2x128x128 .f32)
    (a : Fin 8) (k : Fin 128) (t : Fin 8192) : ref1 h wq sk (ix3 a k t) = score h wq sk 0 a k t := by
  pointwise [ref1, score, query]

/-- The reference's second result is the score against the second half's keys. -/
theorem ref2_at (h : FVec Ideal S2x4096x2048 .bf16) (wq : FVec Ideal S2048x2048 .f32) (sk : FVec Ideal S8x2x128x128 .f32)
    (a : Fin 8) (k : Fin 128) (t : Fin 8192) : ref2 h wq sk (ix3 a k t) = score h wq sk 1 a k t := by
  pointwise [ref2, score, query]

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0, 0]
    ∧ win0_3.index t = ![t.val, 0]
    ∧ win0_4.index t = ![0, 0, t.val]
    ∧ win0_5.index t = ![0, 0, t.val]
    ∧ win0_6.index t = ![t.val, 0] :=
  (by decide +kernel : ∀ t : Fin grid0.N, _)

/-- A point's block of activations, in the argument. -/
theorem blk0 (c : Dev nD) (t : Fin cfg0.N) (r : Fin 256) (d : Fin 2048) (tt : Fin 8192) (htt : tt.val = t.val * 256 + r.val) :
    iblk m c 0 t (ix2 r d) = (show FVec Ideal S2x4096x2048 .bf16 from m ((c : Thread nD τ).loc main_arg0))
      (ix3 ⟨tt.val / 4096, by omega⟩ ⟨tt.val % 4096, by omega⟩ d) := by
  blk_point [iblk, V, idx t]

/-- The query weights, as staged. -/
theorem blk1 (c : Dev nD) (t : Fin cfg0.N) (d : Fin 2048) (j : Fin 2048) :
    iblk m c 1 t (ix2 d j) = (show FVec Ideal S2048x2048 .f32 from m ((c : Thread nD τ).loc main_arg1)) (ix2 d j) := by
  blk_point [iblk, V, idx t]

/-- The keys, as staged. -/
theorem blk2 (c : Dev nD) (t : Fin cfg0.N) (hc : Fin 16) (k l : Fin 128) :
    iblk m c 2 t (ix3 hc k l) = (show FVec Ideal S8x2x128x128 .f32 from m ((c : Thread nD τ).loc main_arg2))
      (ix4 ⟨hc.val / 2, by omega⟩ ⟨hc.val % 2, by omega⟩ k l) := by
  blk_point [iblk, V, idx t]

/-- One piece of a point's block, for any head and half. -/
theorem piece (c : Dev nD) (t : Fin cfg0.N) (X0 : FVec Ideal S256x2048 .bf16) (X1 : FVec Ideal S2048x2048 .bf16)
    (X2 : FVec Ideal S16x128x128 .bf16) (h0 : X0 = iblk m c 0 t) (h1 : X1 = iblk m c 1 t) (h2 : X2 = iblk m c 2 t) (hc : Fin 16) (k k' : Fin 128) (r : Fin 256) (z : Fin 2) (a : Fin 8) (tt : Fin 8192)
    (j : Fin 128 → Fin 2048) (hj : ∀ l, (j l).val = hc.val * 128 + l.val) (hk : k'.val = k.val)
    (hhc : hc.val = 2 * a.val + z.val) (htt : tt.val = t.val * 256 + r.val) :
    (∑ l : Fin 128, X2 (ix3 hc k l) * ∑ d : Fin 2048, X0 (ix2 r d) * X1 (ix2 d (j l)))
      = score (m ((c : Thread nD τ).loc main_arg0)) (m ((c : Thread nD τ).loc main_arg1)) (m ((c : Thread nD τ).loc main_arg2))
          z a k' tt := by
  subst h0 h1 h2
  unfold score query
  refine Finset.sum_congr rfl fun l _ => ?_
  obtain rfl : k' = k := Fin.ext hk
  have e1 : (⟨hc.val / 2, by omega⟩ : Fin 8) = a := Fin.ext (by simp only; omega)
  have e2 : (⟨hc.val % 2, by omega⟩ : Fin 2) = z := Fin.ext (by simp only; omega)
  have e3 : j l = ⟨a.val * 256 + z.val * 128 + l.val, by omega⟩ := Fin.ext (by simp only [hj]; omega)
  rw [blk2, e1, e2]
  congr 1
  refine Finset.sum_congr rfl fun d _ => ?_
  rw [blk0 m c t r d tt htt, blk1, e3]

/-- The scores of half `z`, as an array. -/
def scores (z : Fin 2) (c : Dev nD) : FVec Ideal S8x128x8192 .f32 := fun i =>
  score (m ((c : Thread nD τ).loc main_arg0)) (m ((c : Thread nD τ).loc main_arg1)) (m ((c : Thread nD τ).loc main_arg2))
    z (i 0) (i 1) (i 2)

set_option maxHeartbeats 1600000 in
/-- What a point stores in its block of the first result. -/
theorem point1 (c : Dev nD) (t : Fin cfg0.N) (y) :
    out0_4 (iblk m c 0 t) (iblk m c 1 t) (iblk m c 2 t) (iblk m c 3 t) y
      = scores m 0 c (((cfg0.win 4).blk t).view.emb y) := by
  unfold scores
  canon_tiles x h
  all_goals (open_payloads; pointwise; refine piece m c t _ _ _ rfl rfl rfl _ _ _ _ _ _ _ _ (fun l => by norm_num) ?_ ?_ ?_)
  all_goals (blk_simp [idx t] <;> first | omega | (norm_num; omega))

set_option maxHeartbeats 1600000 in
/-- What a point stores in its block of the second result. -/
theorem point2 (c : Dev nD) (t : Fin cfg0.N) (y) :
    out0_5 (iblk m c 0 t) (iblk m c 1 t) (iblk m c 2 t) (iblk m c 3 t) y
      = scores m 1 c (((cfg0.win 5).blk t).view.emb y) := by
  unfold scores
  canon_tiles x h
  all_goals (open_payloads; pointwise; refine piece m c t _ _ _ rfl rfl rfl _ _ _ _ _ _ _ _ (fun l => by norm_num) ?_ ?_ ?_)
  all_goals (blk_simp [idx t] <;> first | omega | (norm_num; omega))

/-- What a point stores in its block of the copied expert table. -/
theorem point3 (c : Dev nD) (t : Fin cfg0.N) (y) :
    k0_pay3 (iblk m c 3 t) y
      = (truncf .bf16 (show FVec Ideal Cert.Reference4Ideal.S16384x2048 .f32 from m ((c : Thread nD τ).loc main_arg3))
          Cert.Reference4Ideal.Gen.bitsLt_bf16_f32) (((cfg0.win 6).blk t).view.emb y) := by
  pointwise [k0_pay3]
  blk_point [iblk, V, idx t]

/-- The first result after the run. -/
theorem final1 (c : Dev nD) : (dats m 0 c).arrAt 4 (cfgs 0).N
    = ref1 (m ((c : Thread nD τ).loc main_arg0)) (m ((c : Thread nD τ).loc main_arg1)) (m ((c : Thread nD τ).loc main_arg2)) := by
  refine Eq.trans (b := scores m 0 c) ?_ (by funext i; idx_vars i; exact (ref1_at _ _ _ _ _ _).symm)
  refine (dats m 0 c).arrAt_eq_of_covers 4 _ (by decide +kernel) fun t hf y => ?_
  blk_simp; rw [after0_4]
  exact point1 m c t y

/-- The second result after the run. -/
theorem final2 (c : Dev nD) : (dats m 0 c).arrAt 5 (cfgs 0).N
    = ref2 (m ((c : Thread nD τ).loc main_arg0)) (m ((c : Thread nD τ).loc main_arg1)) (m ((c : Thread nD τ).loc main_arg2)) := by
  refine Eq.trans (b := scores m 1 c) ?_ (by funext i; idx_vars i; exact (ref2_at _ _ _ _ _ _).symm)
  refine (dats m 0 c).arrAt_eq_of_covers 5 _ (by decide +kernel) fun t hf y => ?_
  blk_simp; rw [after0_5]
  exact point2 m c t y

/-- The copied expert table after the run. -/
theorem final3 (c : Dev nD) : (dats m 0 c).arrAt 6 (cfgs 0).N
    = truncf .bf16 (show FVec Ideal Cert.Reference4Ideal.S16384x2048 .f32 from m ((c : Thread nD τ).loc main_arg3))
          Cert.Reference4Ideal.Gen.bitsLt_bf16_f32 := by
  refine (dats m 0 c).arrAt_eq_of_covers 6 _ (by decide +kernel) fun t hf y => ?_
  blk_simp; rw [after0_6]; frame_out
  exact point3 m c t y

/-- Kernel and reference leave the same scores and the same table. -/
theorem algebraic : _root_.Cert.algebraic_Kernel4Ideal_Reference4Ideal := by
  pair_intro
  · run_from Cert.Kernel4Ideal.Value.run_blocks m g
  · run_from Cert.Reference4Ideal.Value.run m' g'
    · exact (final1 m c).symm
    · exact (final2 m c).symm
    · exact (final3 m c).symm

end Cert.Scores
end
-- ==== Proof.Norm.lean ====
module

public import Idealize.ShloMosaic.Lib.Pipeline.ValueKit
public import Idealize.ShloMosaic.Lib.Pointwise

/- The root-mean-square normalisation with scale and shift that two of the calls share. -/

@[expose] public section

noncomputable section

namespace Cert.Norm

open Idealize.ShloMosaic

/-- Entry `d` of a row normalised by its root mean square, times the gain `g`, scaled by `1 + sc`, shifted by `sh`. -/
def normMod (f : Fin 2048 → EReal) (g sc sh : EReal) (d : Fin 2048) : EReal :=
  f d * Ideal.rsqrt (Ideal.div (∑ e, f e * f e) (Ideal.ofBits FTy.f32 0x45000000#32) + Ideal.ofBits FTy.f32 0x358637BD#32)
    * g * (1 + sc) + sh

end Cert.Norm
end
-- ==== Proof.OutProj.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import proofs.«01_k».proof.Proof.Norm

/- What the output-projection call computes, over the extended reals. -/

@[expose] public section

set_option maxRecDepth 16384

noncomputable section

namespace Cert.OutProj

open Idealize.ShloMosaic Idealize.ShloMosaic.TcCoe Idealize.SL.Sem
open Idealize.ShloMosaic.Pipeline (Dat)
section
open Cert.Reference3Ideal Cert.Reference3Ideal.Gen

/-- The reference's residual stream, as a term of its arguments. -/
abbrev ref1 (og om : FVec Ideal S2x4096x1024 .bf16) (w : FVec Ideal S2048x2048 .f32)
    (x : FVec Ideal S2x4096x2048 .f32) (md : FVec Ideal S2x12288 .f32) : FVec Ideal S2x4096x2048 .f32 :=
  addf x (mulf (broadcastInDim S2x4096x2048 ![0, 1, 2] bcast_S2x1x2048_S2x4096x2048_0_1_2 (broadcastInDim S2x1x2048 ![0, 2] bcast_S2x2048_S2x1x2048_0_2 (extractStridedSlice S2x2048 ![0, 4096] md slices_S2x12288_S2x2048_0_4096))) (Host.dotGeneral dot_S2x4096x2048_S2048x2048_S2x4096x2048_2_0_01_1_n_n none (concatenate S2x4096x2048 2 [⟨S2x4096x1024, (extf .f32 og bitsLt_bf16_f32)⟩, ⟨S2x4096x1024, (extf .f32 om bitsLt_bf16_f32)⟩] concatenates_S2x4096x1024_S2x4096x1024_S2x4096x2048_d2) w))

/-- The reference's normalised and modulated stream before it is rounded. -/
abbrev refH (og om : FVec Ideal S2x4096x1024 .bf16) (w : FVec Ideal S2048x2048 .f32)
    (x : FVec Ideal S2x4096x2048 .f32) (md : FVec Ideal S2x12288 .f32)
    (g : FVec Ideal S2048 .f32) : FVec Ideal S2x4096x2048 .f32 :=
  addf (mulf (mulf (mulf (ref1 og om w x md) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (ref1 og om w x md) (ref1 og om w x md)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 8192] md slices_S2x12288_S2x2048_0_8192))))) (broadcastInDim S2x4096x2048 ![0, 1, 2] bcast_S2x1x2048_S2x4096x2048_0_1_2 (broadcastInDim S2x1x2048 ![0, 2] bcast_S2x2048_S2x1x2048_0_2 (extractStridedSlice S2x2048 ![0, 6144] md slices_S2x12288_S2x2048_0_6144)))

/-- The reference's second result. -/
abbrev ref2 (og om : FVec Ideal S2x4096x1024 .bf16) (w : FVec Ideal S2048x2048 .f32)
    (x : FVec Ideal S2x4096x2048 .f32) (md : FVec Ideal S2x12288 .f32)
    (g : FVec Ideal S2048 .f32) : FVec Ideal S2x4096x2048 .bf16 :=
  truncf .bf16 (refH og om w x md g) bitsLt_bf16_f32

/-- The reference's third result. -/
abbrev ref3 (og om : FVec Ideal S2x4096x1024 .bf16) (w : FVec Ideal S2048x2048 .f32)
    (x : FVec Ideal S2x4096x2048 .f32) (md : FVec Ideal S2x12288 .f32)
    (g : FVec Ideal S2048 .f32) : FVec Ideal S2048x8192 .bf16 :=
  truncf .bf16 (transpose S2048x8192 [1, 0] (shapeCast _ (refH og om w x md g) shapeCasts_S2x4096x2048_S8192x2048) transposes_S8192x2048_S2048x8192_1_0) bitsLt_bf16_f32

end

open Cert.Kernel3Ideal Cert.Kernel3Ideal.Gen

open Cert.Norm (normMod)

/-- The residual stream: the input plus the gate times the two halves' projections. -/
def stream (og om : FVec Ideal S2x4096x1024 .bf16) (w : FVec Ideal S2048x2048 .f32) (x : FVec Ideal S2x4096x2048 .f32)
    (md : FVec Ideal S2x12288 .f32) (b : Fin 2) (s : Fin 4096) (d : Fin 2048) : EReal :=
  x (ix3 b s d) + md (ix2 b ⟨4096 + d.val, by omega⟩)
    * ((∑ k : Fin 1024, og (ix3 b s k) * w (ix2 ⟨k.val, by omega⟩ d))
      + ∑ k : Fin 1024, om (ix3 b s k) * w (ix2 ⟨1024 + k.val, by omega⟩ d))

/-- The stream normalised and modulated. -/
def hidden (og om : FVec Ideal S2x4096x1024 .bf16) (w : FVec Ideal S2048x2048 .f32) (x : FVec Ideal S2x4096x2048 .f32)
    (md : FVec Ideal S2x12288 .f32) (g : FVec Ideal S2048 .f32) (b : Fin 2) (s : Fin 4096) (d : Fin 2048) : EReal :=
  normMod (stream og om w x md b s) (g (ix1 d)) (md (ix2 b ⟨8192 + d.val, by omega⟩)) (md (ix2 b ⟨6144 + d.val, by omega⟩)) d

/-- The reference's residual stream. -/
theorem ref1_at (og om : FVec Ideal S2x4096x1024 .bf16) (w : FVec Ideal S2048x2048 .f32) (x : FVec Ideal S2x4096x2048 .f32)
    (md : FVec Ideal S2x12288 .f32) (b : Fin 2) (s : Fin 4096) (d : Fin 2048) :
    ref1 og om w x md (ix3 b s d) = stream og om w x md b s d := by
  pointwise [ref1, stream]

/-- The reference's normalised stream. -/
theorem refH_at (og om : FVec Ideal S2x4096x1024 .bf16) (w : FVec Ideal S2048x2048 .f32) (x : FVec Ideal S2x4096x2048 .f32)
    (md : FVec Ideal S2x12288 .f32) (g : FVec Ideal S2048 .f32) (b : Fin 2) (s : Fin 4096) (d : Fin 2048) :
    refH og om w x md g (ix3 b s d) = hidden og om w x md g b s d := by
  unfold refH hidden
  simp only [funext (ref1_at og om w x md b s) |>.symm]
  generalize ref1 og om w x md = X
  pointwise [normMod]

/-- The reference's second result. -/
theorem ref2_at (og om : FVec Ideal S2x4096x1024 .bf16) (w : FVec Ideal S2048x2048 .f32) (x : FVec Ideal S2x4096x2048 .f32)
    (md : FVec Ideal S2x12288 .f32) (g : FVec Ideal S2048 .f32) (b : Fin 2) (s : Fin 4096) (d : Fin 2048) :
    ref2 og om w x md g (ix3 b s d) = hidden og om w x md g b s d := by
  rw [← refH_at]
  unfold ref2
  generalize refH og om w x md g = X
  pointwise []

/-- The reference's third result. -/
theorem ref3_at (og om : FVec Ideal S2x4096x1024 .bf16) (w : FVec Ideal S2048x2048 .f32) (x : FVec Ideal S2x4096x2048 .f32)
    (md : FVec Ideal S2x12288 .f32) (g : FVec Ideal S2048 .f32) (d : Fin 2048) (t : Fin 8192) :
    ref3 og om w x md g (ix2 d t) = hidden og om w x md g ⟨t.val / 4096, by omega⟩ ⟨t.val % 4096, by omega⟩ d := by
  rw [← refH_at]
  unfold ref3
  generalize refH og om w x md g = X
  pointwise []

variable (m : (ℓ : Loc nD τ sig) → Buf (Elt Ideal) ℓ)

/-- Every window's block index at every grid point. -/
theorem idx : ∀ t : Fin cfg0.N, win0_0.index t = ![t.val / 8, t.val % 8, 0]
    ∧ win0_1.index t = ![t.val / 8, t.val % 8, 0]
    ∧ win0_2.index t = ![0, 0]
    ∧ win0_3.index t = ![t.val / 8, t.val % 8, 0]
    ∧ win0_4.index t = ![t.val / 8, 0, 2]
    ∧ win0_5.index t = ![t.val / 8, 0, 3]
    ∧ win0_6.index t = ![t.val / 8, 0, 4]
    ∧ win0_7.index t = ![0, 0]
    ∧ win0_8.index t = ![t.val / 8, t.val % 8, 0]
    ∧ win0_9.index t = ![t.val / 8, t.val % 8, 0]
    ∧ win0_10.index t = ![0, t.val] :=
  (by decide +kernel : ∀ t : Fin grid0.N, _)

/-- The stream over the kernel's arguments. -/
def streamK (c : Dev nD) : FVec Ideal S2x4096x2048 .f32 := fun i =>
  stream (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The normalised stream over the kernel's arguments. -/
def hiddenK (c : Dev nD) : FVec Ideal S2x4096x2048 .bf16 := fun i =>
  hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

/-- The normalised stream, one column a token. -/
def hiddenT (c : Dev nD) : FVec Ideal S2048x8192 .bf16 := fun i =>
  hiddenK m c (ix3 ⟨(i 1).val / 4096, by have := (i 1).isLt; simp [S2048x8192] at this; omega⟩ ⟨(i 1).val % 4096, by omega⟩ (i 0))

/-- The stream a point computes, at its row `r` and lane `d`. -/
theorem stream_blk (c : Dev nD) (t : Fin cfg0.N) (r : Fin 512) (d : Fin 2048) (b : Fin 2) (s : Fin 4096)
    (hb : b.val = t.val / 8) (hs : s.val = (t.val % 8) * 512 + r.val) :
    k0_pay4 (View.ld (iblk m c 0 t) r0_0) (View.ld (iblk m c 2 t) r0_1) (View.ld (iblk m c 1 t) r0_0)
      (View.ld (iblk m c 2 t) r0_2) (View.ld (iblk m c 3 t) r0_3) (View.ld (iblk m c 4 t) r0_4) (ix2 r d)
      = streamK m c (ix3 b s d) := by
  pointwise [k0_pay4, streamK, stream]
  blk_point [iblk, V, idx t]

/-- The normalised stream a point computes. -/
theorem hidden_blk (c : Dev nD) (t : Fin cfg0.N) (r : Fin 512) (d : Fin 2048) (b : Fin 2) (s : Fin 4096)
    (hb : b.val = t.val / 8) (hs : s.val = (t.val % 8) * 512 + r.val) :
    k0_pay1 (k0_pay10 (iblk m c 0 t) (iblk m c 1 t) (iblk m c 2 t) (iblk m c 3 t) (iblk m c 4 t) (iblk m c 5 t) (iblk m c 6 t) (iblk m c 7 t))
        (k0_pay11 (iblk m c 0 t) (iblk m c 1 t) (iblk m c 2 t) (iblk m c 3 t) (iblk m c 4 t) (iblk m c 5 t) (iblk m c 6 t) (iblk m c 7 t))
        (k0_pay12 (iblk m c 0 t) (iblk m c 1 t) (iblk m c 2 t) (iblk m c 3 t) (iblk m c 4 t) (iblk m c 5 t) (iblk m c 6 t) (iblk m c 7 t))
        (k0_pay13 (iblk m c 0 t) (iblk m c 1 t) (iblk m c 2 t) (iblk m c 3 t) (iblk m c 4 t) (iblk m c 5 t) (iblk m c 6 t) (iblk m c 7 t))
        (k0_pay14 (iblk m c 0 t) (iblk m c 1 t) (iblk m c 2 t) (iblk m c 3 t) (iblk m c 4 t) (iblk m c 5 t) (iblk m c 6 t) (iblk m c 7 t)) (ix2 r d)
      = hiddenK m c (ix3 b s d) := by
  have e := fun d' => stream_blk m c t r d' b s hb hs
  unfold k0_pay10 k0_pay14 k0_pay9
  generalize k0_pay4 (View.ld (iblk m c 0 t) r0_0) (View.ld (iblk m c 2 t) r0_1) (View.ld (iblk m c 1 t) r0_0)
      (View.ld (iblk m c 2 t) r0_2) (View.ld (iblk m c 3 t) r0_3) (View.ld (iblk m c 4 t) r0_4) = X at e ⊢
  have e' : (fun d' => streamK m c (ix3 b s d')) = fun d' => X (ix2 r d') := funext fun d' => (e d').symm
  change _ = normMod (fun d' => streamK m c (ix3 b s d')) _ _ _ _
  rw [e']
  pointwise [k0_pay1, k0_pay11, k0_pay12, k0_pay13, k0_pay6, k0_pay7, k0_pay8, normMod]
  blk_point [iblk, V, idx t]

/-- The stream a point computes, at its row `r` and lane `d`, its whole blocks read as they are. -/
theorem stream_blk_whole (c : Dev nD) (t : Fin cfg0.N) (r : Fin 512) (d : Fin 2048) (b : Fin 2) (s : Fin 4096)
    (hb : b.val = t.val / 8) (hs : s.val = (t.val % 8) * 512 + r.val) :
    k0_pay4 (iblk m c 0 t) (View.ld (iblk m c 2 t) r0_1) (iblk m c 1 t)
      (View.ld (iblk m c 2 t) r0_2) (iblk m c 3 t) (iblk m c 4 t) (ix2 r d)
      = streamK m c (ix3 b s d) := by
  pointwise [k0_pay4, streamK, stream]
  blk_point [iblk, V, idx t]

/-- What a point stores in its block of the stream. -/
theorem point1 (c : Dev nD) (t : Fin cfg0.N) (y) :
    k0_pay5 (iblk m c 0 t) (View.ld (iblk m c 2 t) r0_1) (iblk m c 1 t)
      (View.ld (iblk m c 2 t) r0_2) (iblk m c 3 t) (iblk m c 4 t) y
      = streamK m c (((cfg0.win 8).blk t).view.emb y) := by
  unfold k0_pay5
  have e := fun r d => stream_blk_whole m c t r d
  generalize k0_pay4 (iblk m c 0 t) (View.ld (iblk m c 2 t) r0_1) (iblk m c 1 t)
      (View.ld (iblk m c 2 t) r0_2) (iblk m c 3 t) (iblk m c 4 t) = X at e ⊢
  pointwise []
  refine (e _ _ ⟨t.val / 8, by have := t.isLt; have : cfg0.N = 16 := rfl; omega⟩ ⟨(t.val % 8) * 512 + (y 1).val, by have h : (y 1).val < 512 := (y 1).isLt; omega⟩ rfl rfl).trans ?_
  refine congrArg (streamK m c) ?_
  blk_ext [idx t]

/-- What a point stores in its block of the normalised stream. -/
theorem point2 (c : Dev nD) (t : Fin cfg0.N) (y) :
    k0_pay2 (k0_pay10 (iblk m c 0 t) (iblk m c 1 t) (iblk m c 2 t) (iblk m c 3 t) (iblk m c 4 t) (iblk m c 5 t) (iblk m c 6 t) (iblk m c 7 t))
        (k0_pay11 (iblk m c 0 t) (iblk m c 1 t) (iblk m c 2 t) (iblk m c 3 t) (iblk m c 4 t) (iblk m c 5 t) (iblk m c 6 t) (iblk m c 7 t))
        (k0_pay12 (iblk m c 0 t) (iblk m c 1 t) (iblk m c 2 t) (iblk m c 3 t) (iblk m c 4 t) (iblk m c 5 t) (iblk m c 6 t) (iblk m c 7 t))
        (k0_pay13 (iblk m c 0 t) (iblk m c 1 t) (iblk m c 2 t) (iblk m c 3 t) (iblk m c 4 t) (iblk m c 5 t) (iblk m c 6 t) (iblk m c 7 t))
        (k0_pay14 (iblk m c 0 t) (iblk m c 1 t) (iblk m c 2 t) (iblk m c 3 t) (iblk m c 4 t) (iblk m c 5 t) (iblk m c 6 t) (iblk m c 7 t)) y
      = hiddenK m c (((cfg0.win 9).blk t).view.emb y) := by
  have e := fun r d => hidden_blk m c t r d
  unfold k0_pay2
  generalize k0_pay1 (F := Ideal) _ _ _ _ _ = X at e ⊢
  pointwise []
  refine (e _ _ ⟨t.val / 8, by have := t.isLt; have : cfg0.N = 16 := rfl; omega⟩ ⟨(t.val % 8) * 512 + (y 1).val, by have h : (y 1).val < 512 := (y 1).isLt; omega⟩ rfl rfl).trans ?_
  refine congrArg (hiddenK m c) ?_
  blk_ext [idx t]

/-- What a point stores in its block of the transposed normalised stream. -/
theorem point3 (c : Dev nD) (t : Fin cfg0.N) (y) :
    k0_pay3 (k0_pay10 (iblk m c 0 t) (iblk m c 1 t) (iblk m c 2 t) (iblk m c 3 t) (iblk m c 4 t) (iblk m c 5 t) (iblk m c 6 t) (iblk m c 7 t))
        (k0_pay11 (iblk m c 0 t) (iblk m c 1 t) (iblk m c 2 t) (iblk m c 3 t) (iblk m c 4 t) (iblk m c 5 t) (iblk m c 6 t) (iblk m c 7 t))
        (k0_pay12 (iblk m c 0 t) (iblk m c 1 t) (iblk m c 2 t) (iblk m c 3 t) (iblk m c 4 t) (iblk m c 5 t) (iblk m c 6 t) (iblk m c 7 t))
        (k0_pay13 (iblk m c 0 t) (iblk m c 1 t) (iblk m c 2 t) (iblk m c 3 t) (iblk m c 4 t) (iblk m c 5 t) (iblk m c 6 t) (iblk m c 7 t))
        (k0_pay14 (iblk m c 0 t) (iblk m c 1 t) (iblk m c 2 t) (iblk m c 3 t) (iblk m c 4 t) (iblk m c 5 t) (iblk m c 6 t) (iblk m c 7 t)) y
      = hiddenT m c (((cfg0.win 10).blk t).view.emb y) := by
  have e := fun r d => hidden_blk m c t r d
  unfold k0_pay3 hiddenT
  generalize k0_pay1 (F := Ideal) _ _ _ _ _ = X at e ⊢
  pointwise []
  refine (e _ _ ⟨t.val / 8, by have := t.isLt; have : cfg0.N = 16 := rfl; omega⟩ ⟨(t.val % 8) * 512 + (y 1).val, by have h : (y 1).val < 512 := (y 1).isLt; omega⟩ rfl rfl).trans ?_
  have h0 : ((((cfg0.win 10).blk t).view.emb y) 0).val = (y 0).val := by blk_simp [idx t]
  have h1 : ((((cfg0.win 10).blk t).view.emb y) 1).val = t.val * 512 + (y 1).val := by blk_simp [idx t]
  have hy : (y 1).val < 512 := (y 1).isLt
  refine congrArg (hiddenK m c) (congr (congr (congrArg ix3 (Fin.ext ?_)) (Fin.ext ?_)) (Fin.ext h0.symm))
  · show t.val / 8 = ((((cfg0.win 10).blk t).view.emb y) 1).val / 4096
    omega
  · show (t.val % 8) * 512 + (y 1).val = ((((cfg0.win 10).blk t).view.emb y) 1).val % 4096
    omega

/-- The stream after the run. -/
theorem final1 (c : Dev nD) : (dats m 0 c).arrAt 8 (cfgs 0).N
    = ref1 (m ((c : Thread nD τ).loc main_arg0)) (m ((c : Thread nD τ).loc main_arg1)) (m ((c : Thread nD τ).loc main_arg2))
        (m ((c : Thread nD τ).loc main_arg3)) (m ((c : Thread nD τ).loc main_arg4)) := by
  refine Eq.trans (b := streamK m c) ?_ (by funext i; idx_vars i; exact (ref1_at _ _ _ _ _ _ _ _).symm)
  refine (dats m 0 c).arrAt_eq_of_covers 8 _ (by decide +kernel) fun t hf y => ?_
  blk_simp; rw [after0_8]; frame_out
  exact point1 m c t y

/-- The normalised stream after the run. -/
theorem final2 (c : Dev nD) : (dats m 0 c).arrAt 9 (cfgs 0).N
    = ref2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine Eq.trans (b := hiddenK m c) ?_ (by funext i; idx_vars i; exact (ref2_at _ _ _ _ _ _ _ _ _).symm)
  refine (dats m 0 c).arrAt_eq_of_covers 9 _ (by decide +kernel) fun t hf y => ?_
  blk_simp; rw [after0_9]; frame_out
  exact point2 m c t y

/-- The transposed normalised stream after the run. -/
theorem final3 (c : Dev nD) : (dats m 0 c).arrAt 10 (cfgs 0).N
    = ref3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine Eq.trans (b := hiddenT m c) ?_ (by funext i; idx_vars i; exact (ref3_at _ _ _ _ _ _ _ _).symm)
  refine (dats m 0 c).arrAt_eq_of_covers 10 _ (by decide +kernel) fun t hf y => ?_
  blk_simp; rw [after0_10]; frame_out
  exact point3 m c t y

/-- Kernel and reference leave the same stream and the same normalised stream, plain and transposed. -/
theorem algebraic : _root_.Cert.algebraic_Kernel3Ideal_Reference3Ideal := by
  pair_intro
  · run_from Cert.Kernel3Ideal.Value.run_blocks m g
  · run_from Cert.Reference3Ideal.Value.run m' g'
    · exact (final1 m c).symm
    · exact (final2 m c).symm
    · exact (final3 m c).symm

end Cert.OutProj
end
-- ==== Proof.Ada.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

/- What the modulation call computes, over the extended reals. -/

@[expose] public section

set_option maxRecDepth 16384

noncomputable section

namespace Cert.Ada

open Idealize.ShloMosaic Idealize.ShloMosaic.TcCoe Idealize.SL.Sem
open Idealize.ShloMosaic.Pipeline (Dat)
section
open Cert.Reference5Ideal Cert.Reference5Ideal.Gen

/-- The reference's modulation, as a term of its arguments. -/
abbrev ref1 (cc : FVec Ideal S2x2048 .f32) (wa : FVec Ideal S2048x12288 .f32) (ba : FVec Ideal S12288 .f32) : FVec Ideal S2x12288 .f32 :=
  addf (Host.dotGeneral dot_S2x2048_S2048x12288_S2x12288_1_0_0_1_n_n none (mulf cc (Host.divf (broadcastInDim S2x2048 ![] bcast_S_S2x2048 (constant S_ .f32 0x3F800000#32)) (addf (broadcastInDim S2x2048 ![] bcast_S_S2x2048 (constant S_ .f32 0x3F800000#32)) (Host.exp (Host.negf cc))))) wa) (broadcastInDim S2x12288 ![0, 1] bcast_S1x12288_S2x12288_0_1 (broadcastInDim S1x12288 ![1] bcast_S12288_S1x12288_1 ba))

/-- The reference's main weights. -/
abbrev ref2 (wi : FVec Ideal S2048x6160 .f32) : FVec Ideal S2048x6144 .bf16 :=
  truncf .bf16 (concatenate S2048x6144 1 [⟨S2048x3072, (extractStridedSlice S2048x3072 ![0, 0] wi slices_S2048x6160_S2048x3072_0_0)⟩, ⟨S2048x3072, (extractStridedSlice S2048x3072 ![0, 3088] wi slices_S2048x6160_S2048x3072_0_3088)⟩] concatenates_S2048x3072_S2048x3072_S2048x6144_d1) bitsLt_bf16_f32

/-- The reference's gate weights. -/
abbrev ref3 (wi : FVec Ideal S2048x6160 .f32) : FVec Ideal S2048x128 .bf16 :=
  truncf .bf16 (concatenate S2048x128 1 [⟨S2048x16, (extractStridedSlice S2048x16 ![0, 3072] wi slices_S2048x6160_S2048x16_0_3072)⟩, ⟨S2048x112, (broadcastInDim S2048x112 ![] bcast_S_S2048x112 (constant S_ .f32 0x00000000#32))⟩] concatenates_S2048x16_S2048x112_S2048x128_d1) bitsLt_bf16_f32

end

open Cert.Kernel5Ideal Cert.Kernel5Ideal.Gen

/-- Lane `j` of batch `b`'s modulation: the weights' column against the activated conditioning, plus the bias. -/
def modAt (cc : FVec Ideal S2x2048 .f32) (wa : FVec Ideal S2048x12288 .f32) (ba : FVec Ideal S12288 .f32) (b : Fin 2) (j : Fin 12288) : EReal :=
  (∑ d : Fin 2048, wa (ix2 d j) * (cc (ix2 b d) * Ideal.logistic (cc (ix2 b d)))) + ba (ix1 j)

/-- The reference's modulation at a lane. -/
theorem ref1_at (cc : FVec Ideal S2x2048 .f32) (wa : FVec Ideal S2048x12288 .f32) (ba : FVec Ideal S12288 .f32) (b : Fin 2) (j : Fin 12288) :
    ref1 cc wa ba (ix2 b j) = modAt cc wa ba b j := by
  pointwise [ref1]
  unfold modAt
  congr 1
  exact Finset.sum_congr rfl fun d _ => by rw [mul_comm]; rfl

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val]
    ∧ win0_3.index t = ![t.val, 0]
    ∧ win0_4.index t = ![0, t.val]
    ∧ win0_5.index t = ![t.val, 0]
    ∧ win0_6.index t = ![t.val, 0] :=
  (by decide +kernel : ∀ t : Fin grid0.N, _)

/-- The modulation over the kernel's arguments. -/
def modK (c : Dev nD) : FVec Ideal S2x12288 .f32 := fun i =>
  modAt (m ((c : Thread nD τ).loc main_arg0)) (m ((c : Thread nD τ).loc main_arg1)) (m ((c : Thread nD τ).loc main_arg2)) (i 0) (i 1)

set_option maxHeartbeats 1600000 in
/-- What a point stores in its block of the modulation. -/
theorem point1 (c : Dev nD) (t : Fin cfg0.N) (y) :
    out0_4 (iblk m c 0 t) (iblk m c 1 t) (iblk m c 2 t) (iblk m c 3 t) y
      = modK m c (((cfg0.win 4).blk t).view.emb y) := by
  unfold modK
  canon_tiles x h
  all_goals (open_payloads; pointwise [modAt, k0_pay2]; blk_point [iblk, V, idx t])

/-- What a point stores in its block of the main weights. -/
theorem point2 (c : Dev nD) (t : Fin cfg0.N) (y) :
    out0_5 (iblk m c 0 t) (iblk m c 1 t) (iblk m c 2 t) (iblk m c 3 t) y
      = ref2 (m ((c : Thread nD τ).loc main_arg3)) (((cfg0.win 5).blk t).view.emb y) := by
  have e : (((View.whole main_v2_1).slice ((win0 5).rect t)).emb y 1).val = (y 1).val := by
    change ((((cfg0.win 5).blk t).view.emb y) 1).val = _
    blk_simp [idx t]
  canon_tiles x h
  all_goals (open_payloads; pointwise [ref2]; blk_point [iblk, V, idx t])
  all_goals (exfalso; omega)

/-- What a point stores in its block of the gate weights. -/
theorem point3 (c : Dev nD) (t : Fin cfg0.N) (y) :
    k0_pay1 (View.ld (iblk m c 3 t) r0_9) (Scalar.ofBits .f32 0x00000000#32) y
      = ref3 (m ((c : Thread nD τ).loc main_arg3)) (((cfg0.win 6).blk t).view.emb y) := by
  have e : (((View.whole main_v2_2).slice ((win0 6).rect t)).emb y 1).val = (y 1).val := by
    change ((((cfg0.win 6).blk t).view.emb y) 1).val = _
    blk_simp [idx t]
  pointwise [k0_pay1, ref3]
  blk_point [iblk, V, idx t]
  all_goals (exfalso; omega)

/-- The modulation after the run. -/
theorem final1 (c : Dev nD) : (dats m 0 c).arrAt 4 (cfgs 0).N
    = ref1 (m ((c : Thread nD τ).loc main_arg0)) (m ((c : Thread nD τ).loc main_arg1)) (m ((c : Thread nD τ).loc main_arg2)) := by
  refine Eq.trans (b := modK m c) ?_ (by funext i; idx_vars i; exact (ref1_at _ _ _ _ _).symm)
  refine (dats m 0 c).arrAt_eq_of_covers 4 _ (by decide +kernel) fun t hf y => ?_
  blk_simp; rw [after0_4]
  exact point1 m c t y

/-- The main weights after the run. -/
theorem final2 (c : Dev nD) : (dats m 0 c).arrAt 5 (cfgs 0).N = ref2 (m ((c : Thread nD τ).loc main_arg3)) := by
  refine (dats m 0 c).arrAt_eq_of_covers 5 _ (by decide +kernel) fun t hf y => ?_
  blk_simp; rw [after0_5]
  exact point2 m c t y

/-- The gate weights after the run. -/
theorem final3 (c : Dev nD) : (dats m 0 c).arrAt 6 (cfgs 0).N = ref3 (m ((c : Thread nD τ).loc main_arg3)) := by
  refine (dats m 0 c).arrAt_eq_of_covers 6 _ (by decide +kernel) fun t hf y => ?_
  blk_simp; rw [after0_6]; frame_out
  exact point3 m c t y

/-- Kernel and reference leave the same modulation and the same rounded weights. -/
theorem algebraic : _root_.Cert.algebraic_Kernel5Ideal_Reference5Ideal := by
  pair_intro
  · run_from Cert.Kernel5Ideal.Value.run_blocks m g
  · run_from Cert.Reference5Ideal.Value.run m' g'
    · exact (final1 m c).symm
    · exact (congrArg ref2 (hagree c).2.2.2).trans (final2 m c).symm
    · exact (congrArg ref3 (hagree c).2.2.2).trans (final3 m c).symm

end Cert.Ada
end
-- ==== Proof.InprojRun.lean ====
module

public import proofs.«01_k».proof.Defs
public import proofs.«01_k».proof.Proof.Gen.Kernel2
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.ValueKit
public import Idealize.ShloMosaic.Lib.Tactic
public import Idealize.ShloMosaic.Lib.WordCmp
public import Idealize.ShloMosaic.Lib.VecWindow
public import Idealize.ShloMosaic.Lib.Pipeline.TableIdle

/-! # The run of the input projections

The grid walks, row block by row block, over the six column blocks of the wide weight. At the first of the six the
body normalises and modulates its rows, keeps them in the scratch buffer and multiplies them by the narrow weight;
at every one it multiplies the kept rows by its column block. What every buffer holds after a point is thus a
function of that point's own blocks: the rows, the gain and the modulation do not move within a row block, and the
narrow output's buffer stays as the first column block left it until the last one writes it back. -/

@[expose] public section

set_option maxRecDepth 65536
set_option synthInstance.maxSize 4096

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 1000000 in
/-- The body at the first column block of a row block, on whole buffers: the normalised rows go to the scratch buffer, and
    both products of them to the outputs. -/
theorem body_first (c : Dev nD) (E : Set ℕ) (i : grid0.Coords) (a3 : Memref sig .tc .vmem S1x1024x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .f32) (h9 : a9.IsWhole) (a10 : Memref sig .tc .vmem S1x1024x128 .f32) (h10 : a10.IsWhole) (a11 : Memref sig .tc .vmem S1024x2048 .bf16) (h11 : a11.IsWhole)
    (hc : k0_cond1 i = 1#1) (x : Vec F S1x1024x2048 .f32) (sh sc : Vec F S1x1x2048 .f32) (g : Vec F S1x2048 .f32)
    (w : Vec F S2048x1024 .bf16) (wga : Vec F S2048x128 .bf16) (K : PUnit → sProp 𝕄) :
    iprop(owns (c : Thread nD τ) a3 fullShare x ∗ owns (c : Thread nD τ) a4 fullShare sh ∗ owns (c : Thread nD τ) a5 fullShare sc ∗ owns (c : Thread nD τ) a6 fullShare g ∗ owns (c : Thread nD τ) a7 fullShare w ∗ owns (c : Thread nD τ) a8 fullShare wga
        ∗ (∃ d, owns (c : Thread nD τ) a9 fullShare d) ∗ (∃ d, owns (c : Thread nD τ) a10 fullShare d) ∗ (∃ d, owns (c : Thread nD τ) a11 fullShare d)
        ∗ (iprop(owns (c : Thread nD τ) a3 fullShare x ∗ owns (c : Thread nD τ) a4 fullShare sh ∗ owns (c : Thread nD τ) a5 fullShare sc ∗ owns (c : Thread nD τ) a6 fullShare g ∗ owns (c : Thread nD τ) a7 fullShare w ∗ owns (c : Thread nD τ) a8 fullShare wga
            ∗ owns (c : Thread nD τ) a9 fullShare (k0_pay1 (k0_pay3 x g sh sc) w) ∗ owns (c : Thread nD τ) a10 fullShare (k0_pay4 x g sh sc wga) ∗ owns (c : Thread nD τ) a11 fullShare (k0_pay3 x g sh sc)) -∗ K ⟨⟩))
      ⊢ wp frame (wpE (defs₀ (F := F)) Variants.none c none) E (cc0_inproj i a3 h3 a4 h4 a5 h5 a6 h6 a7 h7 a8 h8 a9 h9 a10 h10 a11 h11) K := by
  simp only [cc0_inproj_eq_skeleton]; unfold cc0_inproj_skel
  simp only [k0_part1_eq_skeleton]
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, Hk⟩
  obtain rfl := h3.eq_unread e3
  obtain rfl := h4.eq_unread e4
  obtain rfl := h5.eq_unread e5
  obtain rfl := h6.eq_unread e6
  obtain rfl := h7.eq_unread e7
  obtain rfl := h8.eq_unread e8
  sl_exec (disch := first | sl_exact hc)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    exact (View.read_writes_full _ _ _ _ _).trans (congrArg₂ k0_pay1 ((View.readCov_full _ _ _ _ _).trans
      (by rw [View.readAt_full, View.readAt_full, View.readAt_full, View.readAt_full, e3, e4, e5, e6]))
      (by rw [View.readAt_full, e7]))
  isplitl [H10]
  · iexists _; isplitr
    swap; · iexact H10
    ipureintro
    exact (View.read_writes_full _ _ _ _ _).trans
      (by rw [View.readAt_full, View.readAt_full, View.readAt_full, View.readAt_full, View.readAt_full, e3, e4, e5, e6, e8])
  iexists _; isplitr
  swap; · iexact H11
  ipureintro
  exact (View.read_writes_full _ _ _ _ _).trans
    (by rw [View.readAt_full, View.readAt_full, View.readAt_full, View.readAt_full, e3, e4, e5, e6])

set_option maxHeartbeats 1000000 in
/-- The body at a later column block: the scratch buffer holds the normalised rows, the second output's buffer is
    left alone. -/
theorem body_later (c : Dev nD) (E : Set ℕ) (i : grid0.Coords) (a3 : Memref sig .tc .vmem S1x1024x2048 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .f32) (h9 : a9.IsWhole) (a10 : Memref sig .tc .vmem S1x1024x128 .f32) (h10 : a10.IsWhole) (a11 : Memref sig .tc .vmem S1024x2048 .bf16) (h11 : a11.IsWhole)
    (hc : ¬k0_cond1 i = 1#1) (x : Vec F S1x1024x2048 .f32) (sh sc : Vec F S1x1x2048 .f32) (g : Vec F S1x2048 .f32)
    (w : Vec F S2048x1024 .bf16) (wga : Vec F S2048x128 .bf16)
    (y : Vec F S1x1024x128 .f32) (n : Vec F S1024x2048 .bf16) (K : PUnit → sProp 𝕄) :
    iprop(owns (c : Thread nD τ) a3 fullShare x ∗ owns (c : Thread nD τ) a4 fullShare sh ∗ owns (c : Thread nD τ) a5 fullShare sc ∗ owns (c : Thread nD τ) a6 fullShare g ∗ owns (c : Thread nD τ) a7 fullShare w ∗ owns (c : Thread nD τ) a8 fullShare wga
        ∗ (∃ d, owns (c : Thread nD τ) a9 fullShare d) ∗ owns (c : Thread nD τ) a10 fullShare y ∗ owns (c : Thread nD τ) a11 fullShare n
        ∗ (iprop(owns (c : Thread nD τ) a3 fullShare x ∗ owns (c : Thread nD τ) a4 fullShare sh ∗ owns (c : Thread nD τ) a5 fullShare sc ∗ owns (c : Thread nD τ) a6 fullShare g ∗ owns (c : Thread nD τ) a7 fullShare w ∗ owns (c : Thread nD τ) a8 fullShare wga
            ∗ owns (c : Thread nD τ) a9 fullShare (k0_pay1 n w) ∗ owns (c : Thread nD τ) a10 fullShare y ∗ owns (c : Thread nD τ) a11 fullShare n) -∗ K ⟨⟩))
      ⊢ wp frame (wpE (defs₀ (F := F)) Variants.none c none) E (cc0_inproj i a3 h3 a4 h4 a5 h5 a6 h6 a7 h7 a8 h8 a9 h9 a10 h10 a11 h11) K := by
  simp only [cc0_inproj_eq_skeleton]; unfold cc0_inproj_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%f10, %e10, H10⟩, ⟨%f11, %e11, H11⟩, Hk⟩
  obtain rfl := h3.eq_unread e3
  obtain rfl := h4.eq_unread e4
  obtain rfl := h5.eq_unread e5
  obtain rfl := h6.eq_unread e6
  obtain rfl := h7.eq_unread e7
  obtain rfl := h8.eq_unread e8
  obtain rfl := h10.eq_unread e10
  obtain rfl := h11.eq_unread e11
  sl_exec (disch := first | sl_exact hc)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    exact (View.read_writes_full _ _ _ _ _).trans (by rw [View.readAt_full, View.readAt_full, e11, e7])
  isplitl [H10]
  · iexists _; isplitr; · ipureintro; exact h10.read_unread _
    iexact H10
  iexists _; isplitr; · ipureintro; exact h11.read_unread _
  iexact H11

variable (m : (ℓ : Loc nD τ sig) → Buf (Elt F) ℓ) (ρ : Dev nD → PrngReg)

/-! ## The program up to the pipeline, and the windows' blocks -/

/-- What a core's buffers hold when the pipeline begins: the launch's, with the modulation and the gain reshaped. -/
abbrev V (c : Dev nD) (b : Ref sig .tc) : Buf (Elt F) ((c : Thread nD τ).loc b) :=
  StableHlo.after hostOps0 (fun b => m (c, b)) b

theorem main_prefix (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact ⟨rfl, rfl⟩) main_chain

/-- A buffer neither reshape writes is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes,
      Finset.mem_singleton]
    exact ⟨StableHlo.devRef_ne_of_ne h0, StableHlo.devRef_ne_of_ne h1⟩))

/-- A window's block at a point, read off its array as the pipeline finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The body's condition: the first of the six column blocks. -/
theorem cond_iff (t : Fin cfg0.N) : k0_cond1 (grid0.coords t) = 1#1 ↔ t.val % 6 = 0 := by
  have ht : t.val < 48 := Nat.lt_of_lt_of_eq t.isLt N_0
  have e0 : (grid0.coords t 0).val = t.val / 24 % 2 := Pipeline.Grid.coords_val t 0 (by decide) rfl
  have e1 : (grid0.coords t 1).val = t.val / 6 % 4 := Pipeline.Grid.coords_val t 1 (by decide) rfl
  have e2 : (grid0.coords t 2).val = t.val / 1 % 6 := Pipeline.Grid.coords_val t 2 (by decide) rfl
  simp only [k0_cond1, e0, e1, e2]
  word_cmp

/-! ## What the buffers hold after a point -/

/-- The scratch buffer: the normalised rows of the point's row block. -/
def rows (c : Dev nD) (t : Fin cfg0.N) : Vec F S1024x2048 .bf16 :=
  k0_pay3 (iblk m c 0 t) (iblk m c 3 t) (iblk m c 1 t) (iblk m c 2 t)
/-- The wide output's buffer: the rows by the point's column block. -/
def wide (c : Dev nD) (t : Fin cfg0.N) : Vec F S1x1024x1024 .f32 := k0_pay1 (rows m c t) (iblk m c 4 t)
/-- The narrow output's buffer: the rows by the narrow weight. -/
def narrow (c : Dev nD) (t : Fin cfg0.N) : Vec F S1x1024x128 .f32 :=
  k0_pay4 (iblk m c 0 t) (iblk m c 3 t) (iblk m c 1 t) (iblk m c 2 t) (iblk m c 5 t)

/-- The scratch buffer, as the body is passed it. -/
abbrev scratch : Memref sig .tc .vmem S1024x2048 .bf16 := Memref.whole cc0_scratch0

/-- Between points: before the first the scratch buffer holds anything, after a point that point's rows. -/
def inv (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem inv_zero (c : Dev nD) (n : ℕ) (h : n ≤ cfg0.N) (hz : n = 0) : inv m c n h = Pipeline.ΦA spec0 c := by
  subst hz; rfl
theorem inv_pos (c : Dev nD) (n : ℕ) (h : n ≤ cfg0.N) (hz : n ≠ 0) :
    inv m c n h = iprop(owns (c : Thread nD τ) scratch fullShare (rows m c ⟨n - 1, by omega⟩) ∗ (∃ r, prngReg c r)) := by
  cases n with
  | zero => exact absurd rfl hz
  | succ n => rfl
theorem start_eq (c : Dev nD) : (Pipeline.ΦA spec0 c : sProp 𝕄)
    = iprop((∃ d, owns (c : Thread nD τ) scratch fullShare d) ∗ (∃ r, prngReg c r)) := by
  unfold Pipeline.ΦA; rw [scopedRest0_eq]; simp only [scratch, owns_whole]; try rfl

/-- The pipeline's data: the arrays as found, what each point leaves in every buffer, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => wide m c t
    | ⟨7, _⟩ => narrow m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t
theorem after_wide (c : Dev nD) (t : Fin cfg0.N) : (dats m 0 c).after 6 t = wide m c t := by dsimp only [dats]
theorem after_narrow (c : Dev nD) (t : Fin cfg0.N) : (dats m 0 c).after 7 t = narrow m c t := by dsimp only [dats]

/-! ## Input buffers hold their blocks -/

theorem after_0 (c : Dev nD) (t : Fin cfg0.N) : (dats m 0 c).after 0 t = iblk m c 0 t := by dsimp only [dats]
theorem fetched_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem after_1 (c : Dev nD) (t : Fin cfg0.N) : (dats m 0 c).after 1 t = iblk m c 1 t := by dsimp only [dats]
theorem fetched_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem after_2 (c : Dev nD) (t : Fin cfg0.N) : (dats m 0 c).after 2 t = iblk m c 2 t := by dsimp only [dats]
theorem fetched_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)
theorem after_3 (c : Dev nD) (t : Fin cfg0.N) : (dats m 0 c).after 3 t = iblk m c 3 t := by dsimp only [dats]
theorem fetched_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans
    (by unfold Dat.fetched Dat.blockOf iblk; rw [A_eq]; rfl)
theorem after_4 (c : Dev nD) (t : Fin cfg0.N) : (dats m 0 c).after 4 t = iblk m c 4 t := by dsimp only [dats]
theorem fetched_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans
    (by unfold Dat.fetched Dat.blockOf iblk; rw [A_eq]; rfl)
theorem after_5 (c : Dev nD) (t : Fin cfg0.N) : (dats m 0 c).after 5 t = iblk m c 5 t := by dsimp only [dats]
theorem fetched_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]) t d).trans
    (by unfold Dat.fetched Dat.blockOf iblk; rw [A_eq]; rfl)

/-! ## Within a row block nothing but the column block moves -/

/-- The point before. -/
abbrev prev (t : Fin cfg0.N) : Fin cfg0.N := ⟨t.val - 1, Nat.lt_of_le_of_lt (Nat.sub_le _ _) t.isLt⟩

theorem stays_0 (c : Dev nD) (t : Fin cfg0.N) (h : ¬t.val % 6 = 0) : iblk m c 0 (prev t) = iblk m c 0 t := by
  have ht : t.val < 48 := Nat.lt_of_lt_of_eq t.isLt N_0
  have hf : (cfg0.win 0).fetch t = false := by
    rw [Bool.eq_false_iff]; exact fun hf => h (by have := (fetch0_0 t).mp hf; omega)
  have e := (dats m 0 c).before_unfetched_in 0 rfl t hf (fun _ => rfl) (iblk m c 0 t)
  rw [fetched_0] at e
  exact (e.trans (after_0 m c (prev t))).symm
theorem stays_1 (c : Dev nD) (t : Fin cfg0.N) (h : ¬t.val % 6 = 0) : iblk m c 1 (prev t) = iblk m c 1 t := by
  have ht : t.val < 48 := Nat.lt_of_lt_of_eq t.isLt N_0
  have hf : (cfg0.win 1).fetch t = false := by
    rw [Bool.eq_false_iff]; exact fun hf => h (by have := (fetch0_1 t).mp hf; omega)
  have e := (dats m 0 c).before_unfetched_in 1 rfl t hf (fun _ => rfl) (iblk m c 1 t)
  rw [fetched_1] at e
  exact (e.trans (after_1 m c (prev t))).symm
theorem stays_2 (c : Dev nD) (t : Fin cfg0.N) (h : ¬t.val % 6 = 0) : iblk m c 2 (prev t) = iblk m c 2 t := by
  have ht : t.val < 48 := Nat.lt_of_lt_of_eq t.isLt N_0
  have hf : (cfg0.win 2).fetch t = false := by
    rw [Bool.eq_false_iff]; exact fun hf => h (by have := (fetch0_2 t).mp hf; omega)
  have e := (dats m 0 c).before_unfetched_in 2 rfl t hf (fun _ => rfl) (iblk m c 2 t)
  rw [fetched_2] at e
  exact (e.trans (after_2 m c (prev t))).symm
theorem stays_3 (c : Dev nD) (t : Fin cfg0.N) (h : ¬t.val % 6 = 0) : iblk m c 3 (prev t) = iblk m c 3 t := by
  have ht : t.val < 48 := Nat.lt_of_lt_of_eq t.isLt N_0
  have hf : (cfg0.win 3).fetch t = false := by
    rw [Bool.eq_false_iff]; exact fun hf => h (by have := (fetch0_3 t).mp hf; omega)
  have e := (dats m 0 c).before_unfetched_in 3 rfl t hf (fun _ => rfl) (iblk m c 3 t)
  rw [fetched_3] at e
  exact (e.trans (after_3 m c (prev t))).symm
theorem stays_5 (c : Dev nD) (t : Fin cfg0.N) (h : ¬t.val % 6 = 0) : iblk m c 5 (prev t) = iblk m c 5 t := by
  have ht : t.val < 48 := Nat.lt_of_lt_of_eq t.isLt N_0
  have hf : (cfg0.win 5).fetch t = false := by
    rw [Bool.eq_false_iff]; exact fun hf => h (by have := (fetch0_5 t).mp hf; omega)
  have e := (dats m 0 c).before_unfetched_in 5 rfl t hf (fun _ => rfl) (iblk m c 5 t)
  rw [fetched_5] at e
  exact (e.trans (after_5 m c (prev t))).symm

theorem rows_prev (c : Dev nD) (t : Fin cfg0.N) (h : ¬t.val % 6 = 0) : rows m c (prev t) = rows m c t := by
  unfold rows; rw [stays_0 m c t h, stays_1 m c t h, stays_2 m c t h, stays_3 m c t h]
theorem narrow_prev (c : Dev nD) (t : Fin cfg0.N) (h : ¬t.val % 6 = 0) : narrow m c (prev t) = narrow m c t := by
  unfold narrow; rw [stays_0 m c t h, stays_1 m c t h, stays_2 m c t h, stays_3 m c t h, stays_5 m c t h]

theorem idle_false (t : Fin cfg0.N) (h : t.val % 6 = 0) : cfg0.idle 7 (cfg0.grid.coords t) = false := by
  show (!(k0_cond1 (grid0.coords t) == 1#1)) = false
  rw [(cond_iff t).mpr h]; rfl
theorem idle_true (t : Fin cfg0.N) (h : ¬t.val % 6 = 0) : cfg0.idle 7 (cfg0.grid.coords t) = true := by
  show (!(k0_cond1 (grid0.coords t) == 1#1)) = true
  rw [Bool.not_eq_true', beq_eq_false_iff_ne]; exact fun e => h ((cond_iff t).mp e)

/-- The narrow output's buffer holds nothing yet exactly at a first column block. -/
theorem fresh_step (t : Fin cfg0.N) : decide ((t.val + 1) % 6 = 0)
    = ((cfg0.win 7).flush t || (cfg0.idle 7 (cfg0.grid.coords t) && decide (t.val % 6 = 0))) := by
  have e : (cfg0.idle 7 (cfg0.grid.coords t) && decide (t.val % 6 = 0)) = false := by
    by_cases h : t.val % 6 = 0
    · rw [idle_false t h]; rfl
    · rw [decide_eq_false h, Bool.and_false]
  rw [e, Bool.or_false, Bool.eq_iff_iff, decide_eq_true_iff, flush0_7]
  omega

/-- At a later column block the narrow output's buffer still holds what the first one left. -/
theorem narrow_kept (c : Dev nD) (t : Fin cfg0.N) (h : ¬t.val % 6 = 0) (d) : (dats m 0 c).before 7 t d = narrow m c t := by
  have ht : t.val < 48 := Nat.lt_of_lt_of_eq t.isLt N_0
  have hfr : cfg0.fresh 7 t.val = false :=
    (cfg0.fresh_tab 7 (fun n => decide (n % 6 = 0)) rfl fresh_step t.val (Nat.le_of_lt t.isLt)).trans (decide_eq_false h)
  refine ((dats m 0 c).before_out_traj 7 rfl (fun _ _ => rfl) (fun t _ hi _ => ?_) t.val t rfl d).trans ?_
  · rw [after_narrow]
    refine Eq.trans ?_ (after_narrow m c (prev t)).symm
    exact (narrow_prev m c t fun h => by rw [idle_false t h] at hi; exact Bool.false_ne_true hi).symm
  · rw [hfr, if_neg Bool.false_ne_true]
    exact (after_narrow m c (prev t)).trans (narrow_prev m c t h)

/-- What the body leaves in the narrow output's buffer, in the form asked of an output some points leave alone. -/
theorem narrow_post (c : Dev nD) (t : Fin cfg0.N) (q : sProp 𝕄)
    (hq : q = match cfg0.idle 7 (cfg0.grid.coords t) with
      | true =>
        match (cfg0.win 7).flush t with
        | false => iprop(∃ d, owns (c : Thread nD τ) ((cfg0.win 7).stage (cfg0.slots t 7)) fullShare ((dats m 0 c).before 7 t d))
        | true => owns (c : Thread nD τ) ((cfg0.win 7).stage (cfg0.slots t 7)) fullShare ((dats m 0 c).after 7 t)
      | false => owns (c : Thread nD τ) ((cfg0.win 7).stage (cfg0.slots t 7)) fullShare ((dats m 0 c).after 7 t)) :
    owns (c : Thread nD τ) (win0_7.stage (cfg0.slots t 7)) fullShare ((dats m 0 c).after 7 t) ⊢ q := by
  subst hq
  by_cases h : t.val % 6 = 0
  · rw [idle_false t h]
  · rw [idle_true t h]
    cases hf : (cfg0.win 7).flush t
    · simp only [narrow_kept m c t h]
      rw [after_narrow]
      iintro H
      iexists (narrow m c t); iexact H
    · exact Idealize.SL.BI.Entails.refl _

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [fetched_0, fetched_1, fetched_2, fetched_3, fetched_4, fetched_5]
  rw [show (dats m 0 c).owesAt () t.succ = (dats m 0 c).owesAt () t.castSucc from rfl,
    after_0, after_1, after_2, after_3, after_4, after_5, after_wide, after_narrow,
    show (dats m 0 c).Φ t.succ = iprop(owns (c : Thread nD τ) scratch fullShare (rows m c t) ∗ (∃ r, prngReg c r)) from rfl]
  by_cases h : t.val % 6 = 0
  · have hs : (dats m 0 c).Φ t.castSucc ⊢ iprop((∃ d, owns (c : Thread nD τ) scratch fullShare d) ∗ (∃ r, prngReg c r)) := by
      rw [inv_castSucc]
      by_cases hz : t.val = 0
      · rw [inv_zero m c _ _ hz, start_eq]
      · rw [inv_pos m c _ _ hz]
        iintro ⟨HS, Hg⟩
        isplitl [HS]
        · iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ := hs $$ HΦ
    icases HΦ with ⟨HS, Hg⟩
    iapply (body_first c Set.univ (grid0.coords t) _ _ _ _ _ _ _ _ _ _ _ _ _ _ _ _ _ _ ((cond_iff t).mpr h) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun hz => h (by omega)
    simp only [narrow_kept m c t h]
    rw [inv_castSucc, inv_pos m c _ _ hz, show rows m c ⟨t.val - 1, _⟩ = rows m c t from rows_prev m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c Set.univ (grid0.coords t) _ _ _ _ _ _ _ _ _ _ _ _ _ _ _ _ _ _ (fun e => h ((cond_iff t).mp e)) (iblk m c 0 t) (iblk m c 1 t) (iblk m c 2 t) (iblk m c 3 t) (iblk m c 4 t) (iblk m c 5 t) (narrow m c t) (rows m c t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What the library asks of the body, at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => by
    unfold bodyPost
    exact BIClass.sep_mono .rfl (BIClass.sep_mono .rfl (BIClass.sep_mono .rfl (BIClass.sep_mono .rfl (BIClass.sep_mono .rfl
      (BIClass.sep_mono .rfl (BIClass.sep_mono .rfl (BIClass.sep_mono .rfl (BIClass.sep_mono .rfl (narrow_post m c t _ rfl)))))))))

theorem inv_start (c : Dev nD) : Pipeline.ΦA spec0 c ⊢ (dats m 0 c).Φ 0 := by
  rw [show (dats m 0 c).Φ 0 = inv m c 0 (Nat.zero_le _) from rfl, inv_zero m c 0 _ rfl]

theorem inv_end (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 48 := N_0; omega), start_eq]
  iintro ⟨HS, Hg⟩
  isplitl [HS]
  · iexists _; iexact HS
  iexact Hg

/-! ## The run -/

set_option backward.isDefEq.respectTransparency.types false in
/-- Every execution ends, with every counter at zero, each window's array as the points leave it and every other
    buffer as the pipeline found it. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := main_prefix m Variants.none) (hA := A_eq m) (hin := inv_start m)
    (hout := inv_end m)

theorem run_main : θ_run defs (onTc (τ := τ) (main (F := F))) (s₀ m ρ) (Pipeline.FramePost cfgs (dats m) 0 (V m)) :=
  (θ_run defs _ _).mono (fun _ h => h.1) (run_quiescent m ρ)

/-- Every execution ends with the two results as the points leave them, the arguments unchanged and the machine at rest. -/
theorem run_full : θ_run defs (onTc (τ := τ) (main (F := F))) ⟨m, fun _ => 0, ρ⟩ (fun r => (∀ c : Dev nD,
      r.2.mem ((c.tc : Thread nD τ).loc main_v2_0) = (dats m 0 c).arrAt 6 (cfgs 0).N
      ∧ r.2.mem ((c.tc : Thread nD τ).loc main_v2_1) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_quiescent m ρ)
  have hw (w : Fin cfg0.W) (hin : (cfg0.win w).isOut = false) :=
    ((h.1 c).1 w).trans (((dats m 0 c).arrAt_in w hin _).trans (A_eq m c w))
  exact ⟨(h.1 c).1 6, (h.1 c).1 7, (hw 0 rfl).trans (V_of_ne m c main_arg0 (by decide) (by decide)),
    ((h.1 c).2 main_arg1 (Pipeline.mem_restRefs_of main_arg1 (by decide) (by decide))).trans (V_of_ne m c main_arg1 (by decide) (by decide)),
    ((h.1 c).2 main_arg2 (Pipeline.mem_restRefs_of main_arg2 (by decide) (by decide))).trans (V_of_ne m c main_arg2 (by decide) (by decide)),
    (hw 4 rfl).trans (V_of_ne m c main_arg3 (by decide) (by decide)),
    (hw 5 rfl).trans (V_of_ne m c main_arg4 (by decide) (by decide))⟩

/-- The same without the counters. -/
theorem run_results : θ_run defs (onTc (τ := τ) (main (F := F))) ⟨m, fun _ => 0, ρ⟩ (fun r => ∀ c : Dev nD,
      r.2.mem ((c.tc : Thread nD τ).loc main_v2_0) = (dats m 0 c).arrAt 6 (cfgs 0).N
      ∧ r.2.mem ((c.tc : Thread nD τ).loc main_v2_1) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (run_full m ρ)

/-- The arguments end unchanged, and the machine ends at rest. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run_full m ρ)

/-- The frame of the program over the ideal numbers, -/
theorem frame_ideal : _root_.Cert.quiescent_Kernel2Ideal := fun m ρ _ => run_frame m ρ

/-- and of the program over the machine's numbers: the two have one text. -/
theorem frame_machine : _root_.Cert.quiescent_Kernel2 := fun m ρ _ => by
  have e₀ : Cert.Kernel2.defs₀ (F := Bits) = Cert.Kernel2Ideal.defs₀ (F := Bits) := by
    unfold Cert.Kernel2.defs₀ Cert.Kernel2Ideal.defs₀
    refine congrArg Defs.onTc (funext fun ℓ => funext fun a => ?_)
    match ℓ with
    | 0 => rfl
    | ⟨_ + 1, h⟩ => exact absurd h (Nat.not_lt.2 (Nat.le_add_left _ _))
  have e : Cert.Kernel2.defs (F := Bits) = Cert.Kernel2Ideal.defs (F := Bits) := by
    unfold Cert.Kernel2.defs Cert.Kernel2Ideal.defs
    rw [e₀]; rfl
  rw [e]
  exact (θ_run Cert.Kernel2Ideal.defs _ _).mono (fun _ h => h) (run_frame (F := Bits) m ρ)

end Cert.Inproj

end
-- ==== Proof.Inproj.lean ====
module

public import proofs.«01_k».proof.Defs
public import proofs.«01_k».proof.Proof.InprojRun
public import proofs.«01_k».proof.Proof.Gen.Reference2Ideal.Run
public import Idealize.ShloMosaic.Lib.Pipeline.ValueKit
public import Idealize.ShloMosaic.Lib.Pointwise
public import Idealize.ShloMosaic.Lib.Claim
public import proofs.«01_k».proof.Proof.Norm

/- What the input projections compute, over the extended reals. -/

@[expose] public section

set_option maxRecDepth 16384

noncomputable section

namespace Cert.Inproj

open Idealize.ShloMosaic Idealize.ShloMosaic.TcCoe Idealize.SL.Sem
open Idealize.ShloMosaic.Pipeline (Dat)
section
open Cert.Reference2Ideal Cert.Reference2Ideal.Gen

/-- The reference's normalised and modulated input. -/
abbrev refH (x : FVec Ideal S2x4096x2048 .f32) (md : FVec Ideal S2x12288 .f32) (g : FVec Ideal S2048 .f32) : FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 2048] md slices_S2x12288_S2x2048_0_2048))))) (broadcastInDim S2x4096x2048 ![0, 1, 2] bcast_S2x1x2048_S2x4096x2048_0_1_2 (broadcastInDim S2x1x2048 ![0, 2] bcast_S2x2048_S2x1x2048_0_2 (extractStridedSlice S2x2048 ![0, 0] md slices_S2x12288_S2x2048_0_0)))

/-- The reference's wide projection. -/
abbrev ref1 (x : FVec Ideal S2x4096x2048 .f32) (md : FVec Ideal S2x12288 .f32) (g : FVec Ideal S2048 .f32)
    (w : FVec Ideal S2048x6144 .bf16) : FVec Ideal S2x4096x6144 .f32 :=
  Host.dotGeneral dot_S2x4096x2048_S2048x6144_S2x4096x6144_2_0_01_1_n_n none (refH x md g) (extf .f32 w bitsLt_bf16_f32)

/-- The reference's narrow projection. -/
abbrev ref2 (x : FVec Ideal S2x4096x2048 .f32) (md : FVec Ideal S2x12288 .f32) (g : FVec Ideal S2048 .f32)
    (wga : FVec Ideal S2048x128 .bf16) : FVec Ideal S2x4096x128 .f32 :=
  Host.dotGeneral dot_S2x4096x2048_S2048x128_S2x4096x128_2_0_01_1_n_n none (refH x md g) (extf .f32 wga bitsLt_bf16_f32)

end

open Cert.Kernel2Ideal Cert.Kernel2Ideal.Gen

open Cert.Norm (normMod)

/-- The input normalised and modulated. -/
def hidden (x : FVec Ideal S2x4096x2048 .f32) (md : FVec Ideal S2x12288 .f32) (g : FVec Ideal S2048 .f32)
    (b : Fin 2) (s : Fin 4096) (d : Fin 2048) : EReal :=
  normMod (fun e => x (ix3 b s e)) (g (ix1 d)) (md (ix2 b ⟨2048 + d.val, by omega⟩)) (md (ix2 b ⟨d.val, by omega⟩)) d

/-- The reference's normalised input. -/
theorem refH_at (x : FVec Ideal S2x4096x2048 .f32) (md : FVec Ideal S2x12288 .f32) (g : FVec Ideal S2048 .f32)
    (b : Fin 2) (s : Fin 4096) (d : Fin 2048) : refH x md g (ix3 b s d) = hidden x md g b s d := by
  pointwise [refH, hidden, normMod]

/-- The reference's wide projection, an inner product. -/
theorem ref1_at (x : FVec Ideal S2x4096x2048 .f32) (md : FVec Ideal S2x12288 .f32) (g : FVec Ideal S2048 .f32)
    (w : FVec Ideal S2048x6144 .bf16) (b : Fin 2) (s : Fin 4096) (j : Fin 6144) :
    ref1 x md g w (ix3 b s j) = ∑ d : Fin 2048, hidden x md g b s d * w (ix2 d j) := by
  simp only [← refH_at]
  unfold ref1
  generalize refH x md g = X
  pointwise []

/-- The reference's narrow projection. -/
theorem ref2_at (x : FVec Ideal S2x4096x2048 .f32) (md : FVec Ideal S2x12288 .f32) (g : FVec Ideal S2048 .f32)
    (wga : FVec Ideal S2048x128 .bf16) (b : Fin 2) (s : Fin 4096) (j : Fin 128) :
    ref2 x md g wga (ix3 b s j) = ∑ d : Fin 2048, hidden x md g b s d * wga (ix2 d j) := by
  simp only [← refH_at]
  unfold ref2
  generalize refH x md g = X
  pointwise []

variable (m : (ℓ : Loc nD τ sig) → Buf (Elt Ideal) ℓ)

/-- Every window's block index at every grid point. -/
theorem idx : ∀ t : Fin cfg0.N, win0_0.index t = ![t.val / 24, t.val / 6 % 4, 0]
    ∧ win0_1.index t = ![t.val / 24, 0, 0]
    ∧ win0_2.index t = ![t.val / 24, 0, 1]
    ∧ win0_3.index t = ![0, 0]
    ∧ win0_4.index t = ![0, t.val % 6]
    ∧ win0_5.index t = ![0, 0]
    ∧ win0_6.index t = ![t.val / 24, t.val / 6 % 4, t.val % 6]
    ∧ win0_7.index t = ![t.val / 24, t.val / 6 % 4, 0] :=
  (by decide +kernel : ∀ t : Fin grid0.N, _)

/-- The normalised input over the kernel's arguments. -/
def hiddenK (c : Dev nD) : FVec Ideal S2x4096x2048 .f32 := fun i =>
  hidden (m ((c : Thread nD τ).loc main_arg0)) (m ((c : Thread nD τ).loc main_arg1)) (m ((c : Thread nD τ).loc main_arg2)) (i 0) (i 1) (i 2)

/-- The wide projection over the kernel's arguments. -/
def wideK (c : Dev nD) : FVec Ideal S2x4096x6144 .f32 := fun i =>
  ∑ d : Fin 2048, hiddenK m c (ix3 (i 0) (i 1) d) * (m ((c : Thread nD τ).loc main_arg3) : FVec Ideal S2048x6144 .bf16) (ix2 d (i 2))

/-- The narrow projection over the kernel's arguments. -/
def narrowK (c : Dev nD) : FVec Ideal S2x4096x128 .f32 := fun i =>
  ∑ d : Fin 2048, hiddenK m c (ix3 (i 0) (i 1) d) * (m ((c : Thread nD τ).loc main_arg4) : FVec Ideal S2048x128 .bf16) (ix2 d (i 2))

/-- The rows a point keeps. -/
theorem rows_blk (c : Dev nD) (t : Fin cfg0.N) (r : Fin 1024) (d : Fin 2048) (b : Fin 2) (s : Fin 4096)
    (hb : b.val = t.val / 24) (hs : s.val = (t.val / 6 % 4) * 1024 + r.val) :
    k0_pay2 (F := Ideal) (iblk m c 0 t) (iblk m c 3 t) (iblk m c 1 t) (iblk m c 2 t) (ix2 r d) = hiddenK m c (ix3 b s d) := by
  pointwise [k0_pay2, hiddenK, hidden, normMod]
  blk_point [iblk, V, idx t]

/-- What a point stores in its block of the wide projection. -/
theorem point1 (c : Dev nD) (t : Fin cfg0.N) (y) :
    wide m c t y = wideK m c (((cfg0.win 6).blk t).view.emb y) := by
  have e := fun r d => rows_blk m c t r d
  unfold wide rows k0_pay3
  generalize k0_pay2 (F := Ideal) _ _ _ _ = X at e ⊢
  pointwise [k0_pay1, wideK]
  refine Finset.sum_congr rfl fun d _ => congrArg₂ (· * ·) (e (y 1) d _ _ ?_ ?_) ?_
  · change ((((cfg0.win 6).blk t).view.emb y) 0).val = _
    blk_simp [idx t]
  · change ((((cfg0.win 6).blk t).view.emb y) 1).val = _
    blk_simp [idx t]
  · blk_point [iblk, V, idx t]

/-- What a point stores in its block of the narrow projection. -/
theorem point2 (c : Dev nD) (t : Fin cfg0.N) (y) :
    narrow m c t y = narrowK m c (((cfg0.win 7).blk t).view.emb y) := by
  have e := fun r d => rows_blk m c t r d
  unfold narrow k0_pay4
  generalize k0_pay2 (F := Ideal) _ _ _ _ = X at e ⊢
  pointwise [narrowK]
  refine Finset.sum_congr rfl fun d _ => congrArg₂ (· * ·) (e (y 1) d _ _ ?_ ?_) ?_
  · change ((((cfg0.win 7).blk t).view.emb y) 0).val = _
    blk_simp [idx t]
  · change ((((cfg0.win 7).blk t).view.emb y) 1).val = _
    blk_simp [idx t]
  · blk_point [iblk, V, idx t]

/-- The wide projection after the run. -/
theorem final1 (c : Dev nD) : (dats m 0 c).arrAt 6 (cfgs 0).N = ref1 (m ((c : Thread nD τ).loc main_arg0)) (m ((c : Thread nD τ).loc main_arg1)) (m ((c : Thread nD τ).loc main_arg2)) (m ((c : Thread nD τ).loc main_arg3)) := by
  refine Eq.trans (b := wideK m c) ?_ (by funext i; idx_vars i; exact (ref1_at _ _ _ _ _ _ _).symm)
  refine (dats m 0 c).arrAt_eq_of_covers 6 _ (by decide +kernel) fun t hf y => ?_
  blk_simp; rw [after_wide]
  exact point1 m c t y

/-- The narrow projection after the run. -/
theorem final2 (c : Dev nD) : (dats m 0 c).arrAt 7 (cfgs 0).N = ref2 (m ((c : Thread nD τ).loc main_arg0)) (m ((c : Thread nD τ).loc main_arg1)) (m ((c : Thread nD τ).loc main_arg2)) (m ((c : Thread nD τ).loc main_arg4)) := by
  refine Eq.trans (b := narrowK m c) ?_ (by funext i; idx_vars i; exact (ref2_at _ _ _ _ _ _ _).symm)
  refine (dats m 0 c).arrAt_eq_of_covers 7 _ (by decide +kernel) fun t hf y => ?_
  blk_simp; rw [after_narrow]
  exact point2 m c t y

/-- Kernel and reference leave the same two projections. -/
theorem algebraic : _root_.Cert.algebraic_Kernel2Ideal_Reference2Ideal := by
  pair_intro
  · run_from run_results m g
  · run_from Cert.Reference2Ideal.Value.run m' g'
    · exact (final1 m c).symm
    · exact (final2 m c).symm

end Cert.Inproj
end
-- ==== Proof.GlaTile.lean ====
module

public import proofs.«01_k».proof.Proof.Gen.KernelIdeal.Value
public import Idealize.ShloMosaic.Lib.Pipeline.ValueKit
public import Idealize.ShloMosaic.Lib.Pipeline.ReadBack
public import Idealize.ShloMosaic.Lib.WholeRead
public import Idealize.ShloMosaic.Lib.Pointwise

/- What one grid point of the gated-linear-attention call leaves: each of its 32 output tiles and its eight states,
   as one function of the chunk and the head. -/

@[expose] public section

set_option maxRecDepth 65536

noncomputable section

namespace Cert.Gla

open Idealize.ShloMosaic Idealize.ShloMosaic.TcCoe Idealize.SL.Sem
open Cert.KernelIdeal Cert.KernelIdeal.Gen

variable {F : FTy → Type} [FloatOps F]

/-- The 64 rows of chunk `n` and the 128 lanes of head pair `p`, of a block of 512 lanes. -/
def boxQ (n p : ℕ) (hn : n < 4) (hp : p < 4) : Rect S1x256x512 :=
  Rect.unit ![0, 64 * n, 128 * p] S1x64x128.size (by
    intro a
    fin_cases a
    · show 0 + 1 ≤ 1; omega
    · show 64 * n + 64 ≤ 256; omega
    · show 128 * p + 128 ≤ 512; omega)

/-- The 64 rows of chunk `n` and the 128 lanes of head `h`, of a block of 1024 lanes. -/
def boxV (n h : ℕ) (hn : n < 4) (hh : h < 8) : Rect S1x256x1024 :=
  Rect.unit ![0, 64 * n, 128 * h] S1x64x128.size (by
    intro a
    fin_cases a
    · show 0 + 1 ≤ 1; omega
    · show 64 * n + 64 ≤ 256; omega
    · show 128 * h + 128 ≤ 1024; omega)

/-- The state of head `h`. -/
def boxS (h : ℕ) (hh : h < 8) : Rect S8x128x128 :=
  Rect.unit ![h, 0, 0] S1x128x128.size (by
    intro a
    fin_cases a
    · show h + 1 ≤ 8; omega
    · show 0 + 128 ≤ 128; omega
    · show 0 + 128 ≤ 128; omega)

theorem slices_log (n p : ℕ) (hn : n < 4) (hp : p < 4) : S256x512.Slices ![64 * n, 128 * p] S64x128 :=
  ⟨rfl, by
    intro a
    fin_cases a
    · show 64 * n + 64 ≤ 256; omega
    · show 128 * p + 128 ≤ 512; omega⟩

/-- The log-decay block's rows of chunk `n` and lanes of head pair `p`. -/
def logBox (la : FVec F S256x512 .f32) (n p : ℕ) (hn : n < 4) (hp : p < 4) : FVec F S64x128 .f32 :=
  extractStridedSlice S64x128 ![64 * n, 128 * p] la (slices_log n p hn hp)

/-- A head's state, as a block of its own. -/
def ldS (X : Vec F S8x128x128 .f32) (h : ℕ) (hh : h < 8) : Vec F S1x128x128 .f32 :=
  fun j => X ((boxS h hh).toLoadRect.idx j)

/-- A chunk of the queries or keys of a head pair, as a block of its own. -/
def ldQ (X : Vec F S1x256x512 .f32) (n p : ℕ) (hn : n < 4) (hp : p < 4) : Vec F S1x64x128 .f32 :=
  fun j => X ((boxQ n p hn hp).toLoadRect.idx j)

/-- A chunk of the values or gates of a head, as a block of its own. -/
def ldV (X : Vec F S1x256x1024 .f32) (n h : ℕ) (hn : n < 4) (hh : h < 8) : Vec F S1x64x128 .f32 :=
  fun j => X ((boxV n h hn hh).toLoadRect.idx j)

/-- A head's state after a list of stores over junk is the stores read back through the state's box. -/
theorem ldS_writes {κ : Kind} {sp : Space} (v : View sig κ sp S8x128x128 .f32)
    (L : List (View.Piece (Elt F) S8x128x128 .f32)) (h : ℕ) (hh : h < 8) :
    ldS (v.read (Elt F) (v.writes (Elt F) v.junk L)) h hh = v.readCov L (boxS h hh).toLoadRect := by
  rw [View.readCov_eq_canon', View.read_writes_junk_eq_canon]
  rfl

/-- A load through a whole buffer held at `X` reads `X`. -/
theorem readAt_unread_fun {κ : Kind} {sp : Space} {s : Shape} {e : EltTy} {m : Memref sig κ sp s e} (h : m.IsWhole)
    (X : s.Idx → Elt F e) (B : LoadRect s) :
    View.readAt (Elt F) m.view B (h.unread X) = fun x => X (B.idx x) :=
  funext fun x => h.readAt_unread X B x

/-- A chunk of a head's outputs, as a block of its own. -/
def ldO (X : Vec F S1x256x1024 .bf16) (n h : ℕ) (hn : n < 4) (hh : h < 8) : Vec F S1x64x128 .bf16 :=
  fun j => X ((boxV n h hn hh).toLoadRect.idx j)

/-- A chunk of a head's outputs after a list of stores over junk is the stores read back through the chunk's box. -/
theorem ldO_writes {κ : Kind} {sp : Space} (v : View sig κ sp S1x256x1024 .bf16)
    (L : List (View.Piece (Elt F) S1x256x1024 .bf16)) (n h : ℕ) (hn : n < 4) (hh : h < 8) :
    ldO (v.read (Elt F) (v.writes (Elt F) v.junk L)) n h hn hh = v.readCov L (boxV n h hn hh).toLoadRect := by
  rw [View.readCov_eq_canon', View.read_writes_junk_eq_canon]
  rfl

/-- The log-decays of a block of 256 tokens. -/
def logs (x4 : Vec F S1x256x128 .f32) (x5 : Vec F S128x512 .bf16) (x6 : Vec F S1x512 .f32) : FVec F S256x512 .f32 :=
  k0_pay3 (fun x => x4 ((Rect.unit ![0, 0, 0] S1x256x128.size inb_S1x256x128_S1x256x128_0_0_0).toLoadRect.idx x))
    (fun x => x5 ((Rect.unit ![0, 0] S128x512.size inb_S128x512_S128x512_0_0).toLoadRect.idx x))
    (fun x => x6 ((Rect.unit ![0, 0] S1x512.size inb_S1x512_S1x512_0_0).toLoadRect.idx x))

/-- The state of head `h` after chunk `n`, from the one before it. -/
def stStep (la : FVec F S256x512 .f32) (x1 : Vec F S1x256x512 .f32) (x2 : Vec F S1x256x1024 .f32) (n h : ℕ)
    (hn : n < 4) (hh : h < 8) (st : Vec F S1x128x128 .f32) : Vec F S1x128x128 .f32 :=
  k0_pay59 (k0_pay15 k0_pay5 (logBox la n (h / 2) hn (by omega)) (ldQ x1 n (h / 2) hn (by omega)))
    (k0_pay16 k0_pay5 (logBox la n (h / 2) hn (by omega))) (ldV x2 n h hn hh) st

/-- The state of head `h` before chunk `n` of the block. -/
def stAt (la : FVec F S256x512 .f32) (x1 : Vec F S1x256x512 .f32) (x2 : Vec F S1x256x1024 .f32) (h : ℕ) (hh : h < 8)
    (s0 : Vec F S1x128x128 .f32) : (n : ℕ) → n ≤ 4 → Vec F S1x128x128 .f32
  | 0, _ => s0
  | n + 1, hn => stStep la x1 x2 n h (by omega) hh (stAt la x1 x2 h hh s0 n (by omega))

/-- The lanes of head `h` among its pair's 128. -/
def headMask (h : ℕ) : IVec S1x128 1 := if h % 2 = 0 then k0_pay6 else k0_pay7

/-- The output tile of chunk `n` and head `h`, from the state before the chunk. -/
def outTile (la : FVec F S256x512 .f32) (x0 x1 : Vec F S1x256x512 .f32) (x2 x3 : Vec F S1x256x1024 .f32)
    (gn : Vec F S1x128 .f32) (n h : ℕ) (hn : n < 4) (hh : h < 8) (st : Vec F S1x128x128 .f32) :
    Vec F S1x64x128 .bf16 :=
  k0_pay61 (k0_pay60
    (k0_pay8 (fun x => gn ((Rect.unit ![0, 0] S1x128.size inb_S1x128_S1x128_0_0).toLoadRect.idx x)))
    (k0_pay17 k0_pay5 (headMask h) (logBox la n (h / 2) hn (by omega)) (ldQ x0 n (h / 2) hn (by omega)))
    (k0_pay48 k0_pay4
      (k0_pay14 k0_pay5 (logBox la n (h / 2) hn (by omega)) (ldQ x1 n (h / 2) hn (by omega)))
      (k0_pay17 k0_pay5 (headMask h) (logBox la n (h / 2) hn (by omega)) (ldQ x0 n (h / 2) hn (by omega))))
    (ldV x2 n h hn hh) st (ldV x3 n h hn hh))

set_option maxHeartbeats 8000000 in
/-- The state of each head after a later block of its row. -/
theorem stateB (c : Dev nD) (i : grid0.Coords) (arg2 : Memref sig .tc .vmem S1x256x512 .f32) (harg2 : arg2.IsWhole)
    (arg3 : Memref sig .tc .vmem S1x256x512 .f32) (harg3 : arg3.IsWhole)
    (arg4 : Memref sig .tc .vmem S1x256x1024 .f32) (harg4 : arg4.IsWhole)
    (arg5 : Memref sig .tc .vmem S1x256x1024 .f32) (harg5 : arg5.IsWhole)
    (arg6 : Memref sig .tc .vmem S1x256x128 .f32) (harg6 : arg6.IsWhole)
    (arg7 : Memref sig .tc .vmem S128x512 .bf16) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S1x256x1024 .bf16) (harg10 : arg10.IsWhole)
    (arg11 : Memref sig .tc .vmem S8x128x128 .f32) (harg11 : arg11.IsWhole) (hc0 : ¬cond0_0 i)
    (x0 : Vec F S1x256x512 .f32) (x1 : Vec F S1x256x512 .f32) (x2 : Vec F S1x256x1024 .f32)
    (x3 : Vec F S1x256x1024 .f32) (x4 : Vec F S1x256x128 .f32) (x5 : Vec F S128x512 .bf16) (x6 : Vec F S1x512 .f32)
    (x7 : Vec F S1x128 .f32) (xs0 : Vec F S8x128x128 .f32)
    (h : ℕ) (hh : h < 8) :
    ldS (sout0_B_0 c i arg2 harg2 arg3 harg3 arg4 harg4 arg5 harg5 arg6 harg6 arg7 harg7 arg8 harg8 arg9 harg9 arg10 harg10 arg11 harg11 hc0 x0 x1 x2 x3 x4 x5 x6 x7 xs0) h hh =
      stAt (logs x4 x5 x6) x1 x2 h hh (ldS xs0 h hh) 4 (by omega) := by
  unfold sout0_B_0
  rw [ldS_writes]
  unfold kernelRun0_B
  dsimp only
  interval_cases h <;>
  · simp only [boxS, boxV, Nat.reduceMul]
    repeat refine (View.readCov_skip _ _ _ _ _ rfl).trans ?_
    refine (View.readCov_cons_toLoadRect _ _ _ _).trans ?_
    try simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189]
    try simp (disch := decide) only [↓View.readCov_skip, ↓View.readCov_cons_toLoadRect, kernelRun0_B.sl.HS0_8, kernelRun0_B.sl.HS0_9, kernelRun0_B.sl.HS0_10, kernelRun0_B.sl.HS0_11, kernelRun0_B.sl.HS0_12, kernelRun0_B.sl.HS0_13, kernelRun0_B.sl.HS0_14, kernelRun0_B.sl.HS0_15, kernelRun0_B.sl.HS0_16, kernelRun0_B.sl.HS0_17, kernelRun0_B.sl.HS0_18, kernelRun0_B.sl.HS0_19, kernelRun0_B.sl.HS0_20, kernelRun0_B.sl.HS0_21, kernelRun0_B.sl.HS0_22, kernelRun0_B.sl.HS0_23, kernelRun0_B.sl.HS0_24, kernelRun0_B.sl.HS0_25, kernelRun0_B.sl.HS0_26, kernelRun0_B.sl.HS0_27, kernelRun0_B.sl.HS0_28, kernelRun0_B.sl.HS0_29, kernelRun0_B.sl.HS0_30, kernelRun0_B.sl.HS0_31, kernelRun0_B.sl.v261, kernelRun0_B.sl.v298, kernelRun0_B.sl.v335, kernelRun0_B.sl.v372, kernelRun0_B.sl.v409, kernelRun0_B.sl.v446, kernelRun0_B.sl.v483, kernelRun0_B.sl.v704, kernelRun0_B.sl.v741, kernelRun0_B.sl.v778, kernelRun0_B.sl.v815, kernelRun0_B.sl.v852, kernelRun0_B.sl.v889, kernelRun0_B.sl.v926, kernelRun0_B.sl.v963, kernelRun0_B.sl.v1184, kernelRun0_B.sl.v1221, kernelRun0_B.sl.v1258, kernelRun0_B.sl.v1295, kernelRun0_B.sl.v1332, kernelRun0_B.sl.v1369, kernelRun0_B.sl.v1406, kernelRun0_B.sl.v1443, kernelRun0_B.sl.v1664, kernelRun0_B.sl.v1701, kernelRun0_B.sl.v1738, kernelRun0_B.sl.v1775, kernelRun0_B.sl.v1812, kernelRun0_B.sl.v1849, kernelRun0_B.sl.v1886, kernelRun0_B.sl.v1923]
    try simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189]
    simp only [readAt_unread_fun]
    simp only [stAt, stStep, outTile, headMask, Nat.reduceMod, Nat.reduceEqDiff, ↓reduceIte, logs, logBox, ldQ, ldV, ldS, boxQ, boxV, boxS]
    open_payloads
    rfl

set_option maxHeartbeats 8000000 in
/-- Each output tile of a later block of its row. -/
theorem tileB (c : Dev nD) (i : grid0.Coords) (arg2 : Memref sig .tc .vmem S1x256x512 .f32) (harg2 : arg2.IsWhole)
    (arg3 : Memref sig .tc .vmem S1x256x512 .f32) (harg3 : arg3.IsWhole)
    (arg4 : Memref sig .tc .vmem S1x256x1024 .f32) (harg4 : arg4.IsWhole)
    (arg5 : Memref sig .tc .vmem S1x256x1024 .f32) (harg5 : arg5.IsWhole)
    (arg6 : Memref sig .tc .vmem S1x256x128 .f32) (harg6 : arg6.IsWhole)
    (arg7 : Memref sig .tc .vmem S128x512 .bf16) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S1x256x1024 .bf16) (harg10 : arg10.IsWhole)
    (arg11 : Memref sig .tc .vmem S8x128x128 .f32) (harg11 : arg11.IsWhole) (hc0 : ¬cond0_0 i)
    (x0 : Vec F S1x256x512 .f32) (x1 : Vec F S1x256x512 .f32) (x2 : Vec F S1x256x1024 .f32)
    (x3 : Vec F S1x256x1024 .f32) (x4 : Vec F S1x256x128 .f32) (x5 : Vec F S128x512 .bf16) (x6 : Vec F S1x512 .f32)
    (x7 : Vec F S1x128 .f32) (xs0 : Vec F S8x128x128 .f32)
    (n h : ℕ) (hn : n < 4) (hh : h < 8) :
    ldO (out0_B_8 c i arg2 harg2 arg3 harg3 arg4 harg4 arg5 harg5 arg6 harg6 arg7 harg7 arg8 harg8 arg9 harg9 arg10 harg10 arg11 harg11 hc0 x0 x1 x2 x3 x4 x5 x6 x7 xs0) n h hn hh =
      outTile (logs x4 x5 x6) x0 x1 x2 x3 x7 n h hn hh
        (stAt (logs x4 x5 x6) x1 x2 h hh (ldS xs0 h hh) n (by omega)) := by
  unfold out0_B_8
  rw [ldO_writes]
  unfold kernelRun0_B
  dsimp only
  interval_cases n <;> interval_cases h <;>
  · simp only [boxS, boxV, Nat.reduceMul]
    repeat refine (View.readCov_skip _ _ _ _ _ rfl).trans ?_
    refine (View.readCov_cons_toLoadRect _ _ _ _).trans ?_
    try simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189]
    try simp (disch := decide) only [↓View.readCov_skip, ↓View.readCov_cons_toLoadRect, kernelRun0_B.sl.HS0_8, kernelRun0_B.sl.HS0_9, kernelRun0_B.sl.HS0_10, kernelRun0_B.sl.HS0_11, kernelRun0_B.sl.HS0_12, kernelRun0_B.sl.HS0_13, kernelRun0_B.sl.HS0_14, kernelRun0_B.sl.HS0_15, kernelRun0_B.sl.HS0_16, kernelRun0_B.sl.HS0_17, kernelRun0_B.sl.HS0_18, kernelRun0_B.sl.HS0_19, kernelRun0_B.sl.HS0_20, kernelRun0_B.sl.HS0_21, kernelRun0_B.sl.HS0_22, kernelRun0_B.sl.HS0_23, kernelRun0_B.sl.HS0_24, kernelRun0_B.sl.HS0_25, kernelRun0_B.sl.HS0_26, kernelRun0_B.sl.HS0_27, kernelRun0_B.sl.HS0_28, kernelRun0_B.sl.HS0_29, kernelRun0_B.sl.HS0_30, kernelRun0_B.sl.HS0_31, kernelRun0_B.sl.v261, kernelRun0_B.sl.v298, kernelRun0_B.sl.v335, kernelRun0_B.sl.v372, kernelRun0_B.sl.v409, kernelRun0_B.sl.v446, kernelRun0_B.sl.v483, kernelRun0_B.sl.v704, kernelRun0_B.sl.v741, kernelRun0_B.sl.v778, kernelRun0_B.sl.v815, kernelRun0_B.sl.v852, kernelRun0_B.sl.v889, kernelRun0_B.sl.v926, kernelRun0_B.sl.v963, kernelRun0_B.sl.v1184, kernelRun0_B.sl.v1221, kernelRun0_B.sl.v1258, kernelRun0_B.sl.v1295, kernelRun0_B.sl.v1332, kernelRun0_B.sl.v1369, kernelRun0_B.sl.v1406, kernelRun0_B.sl.v1443, kernelRun0_B.sl.v1664, kernelRun0_B.sl.v1701, kernelRun0_B.sl.v1738, kernelRun0_B.sl.v1775, kernelRun0_B.sl.v1812, kernelRun0_B.sl.v1849, kernelRun0_B.sl.v1886, kernelRun0_B.sl.v1923]
    try simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189]
    simp only [readAt_unread_fun]
    simp only [stAt, stStep, outTile, headMask, Nat.reduceMod, Nat.reduceEqDiff, ↓reduceIte, logs, logBox, ldQ, ldV, ldS, boxQ, boxV, boxS]
    open_payloads
    rfl

set_option maxHeartbeats 8000000 in
/-- The state of each head after the first block of its row. -/
theorem stateA (c : Dev nD) (i : grid0.Coords) (arg2 : Memref sig .tc .vmem S1x256x512 .f32) (harg2 : arg2.IsWhole)
    (arg3 : Memref sig .tc .vmem S1x256x512 .f32) (harg3 : arg3.IsWhole)
    (arg4 : Memref sig .tc .vmem S1x256x1024 .f32) (harg4 : arg4.IsWhole)
    (arg5 : Memref sig .tc .vmem S1x256x1024 .f32) (harg5 : arg5.IsWhole)
    (arg6 : Memref sig .tc .vmem S1x256x128 .f32) (harg6 : arg6.IsWhole)
    (arg7 : Memref sig .tc .vmem S128x512 .bf16) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S1x256x1024 .bf16) (harg10 : arg10.IsWhole)
    (arg11 : Memref sig .tc .vmem S8x128x128 .f32) (harg11 : arg11.IsWhole) (hc0 : cond0_0 i)
    (x0 : Vec F S1x256x512 .f32) (x1 : Vec F S1x256x512 .f32) (x2 : Vec F S1x256x1024 .f32)
    (x3 : Vec F S1x256x1024 .f32) (x4 : Vec F S1x256x128 .f32) (x5 : Vec F S128x512 .bf16) (x6 : Vec F S1x512 .f32)
    (x7 : Vec F S1x128 .f32)
    (h : ℕ) (hh : h < 8) :
    ldS (sout0_A_0 c i arg2 harg2 arg3 harg3 arg4 harg4 arg5 harg5 arg6 harg6 arg7 harg7 arg8 harg8 arg9 harg9 arg10 harg10 arg11 harg11 hc0 x0 x1 x2 x3 x4 x5 x6 x7) h hh =
      stAt (logs x4 x5 x6) x1 x2 h hh (ldS k0_pay2 h hh) 4 (by omega) := by
  unfold sout0_A_0
  rw [ldS_writes]
  unfold kernelRun0_A
  dsimp only
  interval_cases h <;>
  · simp only [boxS, boxV, Nat.reduceMul]
    repeat refine (View.readCov_skip _ _ _ _ _ rfl).trans ?_
    refine (View.readCov_cons_toLoadRect _ _ _ _).trans ?_
    try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189]
    try simp (disch := decide) only [↓View.readCov_skip, ↓View.readCov_cons_toLoadRect, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_30, kernelRun0_A.sl.HS0_31, kernelRun0_A.sl.HS0_32, kernelRun0_A.sl.v224, kernelRun0_A.sl.v261, kernelRun0_A.sl.v298, kernelRun0_A.sl.v335, kernelRun0_A.sl.v372, kernelRun0_A.sl.v409, kernelRun0_A.sl.v446, kernelRun0_A.sl.v483, kernelRun0_A.sl.v704, kernelRun0_A.sl.v741, kernelRun0_A.sl.v778, kernelRun0_A.sl.v815, kernelRun0_A.sl.v852, kernelRun0_A.sl.v889, kernelRun0_A.sl.v926, kernelRun0_A.sl.v963, kernelRun0_A.sl.v1184, kernelRun0_A.sl.v1221, kernelRun0_A.sl.v1258, kernelRun0_A.sl.v1295, kernelRun0_A.sl.v1332, kernelRun0_A.sl.v1369, kernelRun0_A.sl.v1406, kernelRun0_A.sl.v1443, kernelRun0_A.sl.v1664, kernelRun0_A.sl.v1701, kernelRun0_A.sl.v1738, kernelRun0_A.sl.v1775, kernelRun0_A.sl.v1812, kernelRun0_A.sl.v1849, kernelRun0_A.sl.v1886, kernelRun0_A.sl.v1923]
    try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189]
    simp only [readAt_unread_fun]
    simp only [stAt, stStep, outTile, headMask, Nat.reduceMod, Nat.reduceEqDiff, ↓reduceIte, logs, logBox, ldQ, ldV, ldS, boxQ, boxV, boxS]
    open_payloads
    rfl

set_option maxHeartbeats 8000000 in
/-- Each output tile of the first block of its row. -/
theorem tileA (c : Dev nD) (i : grid0.Coords) (arg2 : Memref sig .tc .vmem S1x256x512 .f32) (harg2 : arg2.IsWhole)
    (arg3 : Memref sig .tc .vmem S1x256x512 .f32) (harg3 : arg3.IsWhole)
    (arg4 : Memref sig .tc .vmem S1x256x1024 .f32) (harg4 : arg4.IsWhole)
    (arg5 : Memref sig .tc .vmem S1x256x1024 .f32) (harg5 : arg5.IsWhole)
    (arg6 : Memref sig .tc .vmem S1x256x128 .f32) (harg6 : arg6.IsWhole)
    (arg7 : Memref sig .tc .vmem S128x512 .bf16) (harg7 : arg7.IsWhole)
    (arg8 : Memref sig .tc .vmem S1x512 .f32) (harg8 : arg8.IsWhole)
    (arg9 : Memref sig .tc .vmem S1x128 .f32) (harg9 : arg9.IsWhole)
    (arg10 : Memref sig .tc .vmem S1x256x1024 .bf16) (harg10 : arg10.IsWhole)
    (arg11 : Memref sig .tc .vmem S8x128x128 .f32) (harg11 : arg11.IsWhole) (hc0 : cond0_0 i)
    (x0 : Vec F S1x256x512 .f32) (x1 : Vec F S1x256x512 .f32) (x2 : Vec F S1x256x1024 .f32)
    (x3 : Vec F S1x256x1024 .f32) (x4 : Vec F S1x256x128 .f32) (x5 : Vec F S128x512 .bf16) (x6 : Vec F S1x512 .f32)
    (x7 : Vec F S1x128 .f32)
    (n h : ℕ) (hn : n < 4) (hh : h < 8) :
    ldO (out0_A_8 c i arg2 harg2 arg3 harg3 arg4 harg4 arg5 harg5 arg6 harg6 arg7 harg7 arg8 harg8 arg9 harg9 arg10 harg10 arg11 harg11 hc0 x0 x1 x2 x3 x4 x5 x6 x7) n h hn hh =
      outTile (logs x4 x5 x6) x0 x1 x2 x3 x7 n h hn hh
        (stAt (logs x4 x5 x6) x1 x2 h hh (ldS k0_pay2 h hh) n (by omega)) := by
  unfold out0_A_8
  rw [ldO_writes]
  unfold kernelRun0_A
  dsimp only
  interval_cases n <;> interval_cases h <;>
  · simp only [boxS, boxV, Nat.reduceMul]
    repeat refine (View.readCov_skip _ _ _ _ _ rfl).trans ?_
    refine (View.readCov_cons_toLoadRect _ _ _ _).trans ?_
    try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189]
    try simp (disch := decide) only [↓View.readCov_skip, ↓View.readCov_cons_toLoadRect, ↓View.readCov_fill, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_20, kernelRun0_A.sl.HS0_21, kernelRun0_A.sl.HS0_22, kernelRun0_A.sl.HS0_23, kernelRun0_A.sl.HS0_24, kernelRun0_A.sl.HS0_25, kernelRun0_A.sl.HS0_26, kernelRun0_A.sl.HS0_27, kernelRun0_A.sl.HS0_28, kernelRun0_A.sl.HS0_29, kernelRun0_A.sl.HS0_30, kernelRun0_A.sl.HS0_31, kernelRun0_A.sl.HS0_32, kernelRun0_A.sl.v224, kernelRun0_A.sl.v261, kernelRun0_A.sl.v298, kernelRun0_A.sl.v335, kernelRun0_A.sl.v372, kernelRun0_A.sl.v409, kernelRun0_A.sl.v446, kernelRun0_A.sl.v483, kernelRun0_A.sl.v704, kernelRun0_A.sl.v741, kernelRun0_A.sl.v778, kernelRun0_A.sl.v815, kernelRun0_A.sl.v852, kernelRun0_A.sl.v889, kernelRun0_A.sl.v926, kernelRun0_A.sl.v963, kernelRun0_A.sl.v1184, kernelRun0_A.sl.v1221, kernelRun0_A.sl.v1258, kernelRun0_A.sl.v1295, kernelRun0_A.sl.v1332, kernelRun0_A.sl.v1369, kernelRun0_A.sl.v1406, kernelRun0_A.sl.v1443, kernelRun0_A.sl.v1664, kernelRun0_A.sl.v1701, kernelRun0_A.sl.v1738, kernelRun0_A.sl.v1775, kernelRun0_A.sl.v1812, kernelRun0_A.sl.v1849, kernelRun0_A.sl.v1886, kernelRun0_A.sl.v1923]
    try simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189]
    simp only [readAt_unread_fun]
    simp only [stAt, stStep, outTile, headMask, Nat.reduceMod, Nat.reduceEqDiff, ↓reduceIte, logs, logBox, ldQ, ldV, ldS, boxQ, boxV, boxS]
    open_payloads
    rfl

end Cert.Gla

end
-- ==== Proof.GlaSpec.lean ====
module

public import Idealize.ShloMosaic.Lib.Pipeline.ValueKit
public import Idealize.ShloMosaic.Lib.Pointwise

/- The gated linear attention of one batch entry, over the extended reals: chunks of 64 tokens, a state per head. -/

@[expose] public section

noncomputable section

namespace Cert.Gla

open Idealize.ShloMosaic

/-- Token `i` of chunk `n`. -/
abbrev tok (n i : Fin 64) : Fin 4096 := ⟨n.val * 64 + i.val, by omega⟩

/-- Key lane `d` of head `h`. -/
abbrev klane (h : Fin 8) (d : Fin 64) : Fin 512 := ⟨h.val * 64 + d.val, by omega⟩

/-- Value lane `v` of head `h`. -/
abbrev vlane (h : Fin 8) (v : Fin 128) : Fin 1024 := ⟨h.val * 128 + v.val, by omega⟩

/-- The log of the decay, of its logit: the log of the logistic function, over sixteen. -/
def decay (z : EReal) : EReal :=
  (min z 0 - Ideal.log1p (Ideal.exp (0 - max z (-z)))) * Ideal.ofBits FTy.f32 0x3D800000#32

variable (la : Fin 4096 → Fin 512 → EReal) (q k : Fin 4096 → Fin 512 → EReal) (v : Fin 4096 → Fin 1024 → EReal)

/-- The log decays of chunk `n` summed up to token `i`. -/
def cum (n i : Fin 64) (j : Fin 512) : EReal := ∑ m : Fin 64, if m.val ≤ i.val then la (tok n m) j else 0

/-- The query, scaled and decayed from the chunk's start. -/
def qd (n i : Fin 64) (j : Fin 512) : EReal := q (tok n i) j * Ideal.ofBits FTy.f32 0x3E000000#32 * Ideal.exp (cum la n i j)

/-- The key, with the decay from the chunk's start undone. -/
def kd (n i : Fin 64) (j : Fin 512) : EReal := k (tok n i) j * Ideal.exp (-(cum la n i j))

/-- The key, decayed to the chunk's end. -/
def ku (n i : Fin 64) (j : Fin 512) : EReal := k (tok n i) j * Ideal.exp (cum la n 63 j - cum la n i j)

/-- The state of head `h` before chunk `n`: value lane `u` against key lane `j`. -/
def state (h : Fin 8) (u : Fin 128) (j : Fin 512) : (n : Nat) → n ≤ 64 → EReal
  | 0, _ => 0
  | n + 1, hn => state h u j n (by omega) * Ideal.exp (cum la ⟨n, by omega⟩ 63 j)
      + ∑ m : Fin 64, v (tok ⟨n, by omega⟩ m) (vlane h u) * ku la k ⟨n, by omega⟩ m j

/-- The attention inside chunk `n` of token `i` to token `m`. -/
def attn (h : Fin 8) (n i m : Fin 64) : EReal :=
  if m.val ≤ i.val then ∑ d : Fin 64, qd la q n i (klane h d) * kd la k n m (klane h d) else 0

/-- Head `h`'s output at token `i` of chunk `n`. -/
def mix (h : Fin 8) (n i : Fin 64) (u : Fin 128) : EReal :=
  (∑ m : Fin 64, attn la q k h n i m * v (tok n m) (vlane h u))
    + ∑ d : Fin 64, qd la q n i (klane h d) * state la k v h u (klane h d) n.val (by omega)

/-- A head's output normalised by its root mean square, times the gain, times the gate's silu. -/
def gated (f : Fin 128 → EReal) (gn : Fin 128 → EReal) (g : EReal) (u : Fin 128) : EReal :=
  f u * Ideal.rsqrt (Ideal.div (∑ e, f e * f e) (Ideal.ofBits FTy.f32 0x43000000#32) + Ideal.ofBits FTy.f32 0x358637BD#32)
    * gn u * (g * Ideal.logistic g)

/-- The windowed sum over the 64 places that end at `i` is the sum up to `i`. -/
theorem window_sum (f : Fin 64 → EReal) (i : Fin 64) :
    (∑ m : Fin 64, if h : 63 ≤ i.val + m.val then f ⟨i.val + m.val - 63, by omega⟩ else 0)
      = ∑ m : Fin 64, if m.val ≤ i.val then f m else 0 := by
  refine Fintype.sum_equiv (Equiv.addRight (i + 1)) _ _ fun m => ?_
  have e : (m + (i + 1)).val = (m.val + i.val + 1) % 64 := by
    simp only [Fin.val_add, Fin.val_one]; omega
  change _ = if (m + (i + 1)).val ≤ i.val then f (m + (i + 1)) else 0
  by_cases h : 63 ≤ i.val + m.val
  · rw [dif_pos h, if_pos (by omega)]
    exact congrArg f (Fin.ext (by simp only [e]; omega))
  · rw [dif_neg h, if_neg (by omega)]

/-- The softplus term of the decay is a real number, not negative. -/
theorem softplus_real (z : EReal) : ∃ l : ℝ, 0 ≤ l ∧ Ideal.log1p (Ideal.exp (0 - max z (-z))) = (l : EReal) := by
  have h0 : Ideal.log1p (Ideal.exp ⊥) = ((0 : ℝ) : EReal) := by
    have e : (1 : EReal) + 0 = ((1 : ℝ) : EReal) := by norm_num
    change Ideal.log (1 + 0) = _
    rw [e]
    change (if (1 : ℝ) ≤ 0 then (⊥ : EReal) else (Real.log 1 : EReal)) = _
    rw [if_neg (by norm_num), Real.log_one]
  induction z using EReal.rec with
  | bot => exact ⟨0, le_refl _, by simpa using h0⟩
  | top => exact ⟨0, le_refl _, by simpa using h0⟩
  | coe r =>
    have e1 : (0 : EReal) - max (r : EReal) (-(r : EReal)) = ((0 - max r (-r) : ℝ) : EReal) := by
      push_cast; rfl
    refine ⟨Real.log (1 + Real.exp (0 - max r (-r))), Real.log_nonneg (by linarith [Real.exp_pos (0 - max r (-r))]), ?_⟩
    rw [e1]
    have e2 : (1 : EReal) + ((Real.exp (0 - max r (-r)) : ℝ) : EReal) = ((1 + Real.exp (0 - max r (-r)) : ℝ) : EReal) := by
      push_cast; rfl
    change Ideal.log (1 + ((Real.exp (0 - max r (-r)) : ℝ) : EReal)) = _
    rw [e2]
    change (if (1 + Real.exp (0 - max r (-r)) : ℝ) ≤ 0 then (⊥ : EReal) else (Real.log _ : EReal)) = _
    rw [if_neg (by linarith [Real.exp_pos (0 - max r (-r))])]

/-- One sixteenth, as written. -/
theorem sixteenth : Ideal.ofBits FTy.f32 0x3D800000#32 = ((16⁻¹ : ℝ) : EReal) := by
  simp [Ideal.ofBits, Ideal.ieee]; rw [← EReal.coe_mul]; norm_num

/-- Sixteen, as written. -/
theorem sixteen : Ideal.ofBits FTy.f32 0x41800000#32 = ((16 : ℝ) : EReal) := by
  simp [Ideal.ofBits, Ideal.ieee]; rw [← EReal.coe_mul]; norm_num

/-- The decay's log is never `+∞`. -/
theorem decay_ne_top (z : EReal) : decay z ≠ ⊤ := by
  obtain ⟨l, hl, e⟩ := softplus_real z
  unfold decay
  rw [e, sixteenth]
  induction z using EReal.rec with
  | bot => simp [EReal.bot_mul_coe_of_pos]
  | top =>
    have : min (⊤ : EReal) 0 - (l : EReal) = ((0 - l : ℝ) : EReal) := by simp
    rw [this, ← EReal.coe_mul]; exact EReal.coe_ne_top _
  | coe r =>
    have : min (r : EReal) 0 - (l : EReal) = ((min r 0 - l : ℝ) : EReal) := by push_cast; rfl
    rw [this, ← EReal.coe_mul]; exact EReal.coe_ne_top _

/-- The reference's form of the decay's log. -/
theorem decay_ref (z : EReal) :
    Ideal.div (-(max (-z) 0 + Ideal.log1p (Ideal.exp (-(max (-z - 0) (-(-z - 0))))))) (Ideal.ofBits FTy.f32 0x41800000#32) = decay z := by
  obtain ⟨l, hl, e⟩ := softplus_real z
  have e' : -(max (-z - 0) (-(-z - 0))) = 0 - max z (-z) := by
    rw [sub_zero, neg_neg, max_comm, zero_sub]
  unfold decay
  rw [e', e, sixteen, sixteenth, Ideal.div, if_neg (by norm_num)]
  congr 1
  rw [EReal.neg_add (Or.inr (EReal.coe_ne_top l)) (Or.inr (EReal.coe_ne_bot l))]
  congr 1
  rcases le_total z 0 with h | h
  · rw [min_eq_left h, max_eq_left (by simpa using h), neg_neg]
  · rw [min_eq_right h, max_eq_right (by simpa using h), neg_zero]

end Cert.Gla
end
-- ==== Proof.GlaKer.lean ====
module

public import proofs.«01_k».proof.Proof.GlaTile
public import proofs.«01_k».proof.Proof.GlaSpec
public import Idealize.ShloMosaic.Lib.IdealHost

/- The gated-linear-attention kernel's steps over the extended reals, entry by entry. -/

@[expose] public section

set_option maxRecDepth 65536

noncomputable section

namespace Cert.Gla

open Idealize.ShloMosaic Idealize.ShloMosaic.TcCoe Idealize.SL.Sem
open Cert.KernelIdeal Cert.KernelIdeal.Gen

/-- The causal mask. -/
theorem pay4_at : ∀ i m : Fin 64, k0_pay4 (ix2 i m) = if m.val ≤ i.val then 1#1 else 0#1 := by
  decide +kernel

/-- The lanes of an even head. -/
theorem pay6_at : ∀ l : Fin 128, k0_pay6 (ix2 0 l) = if l.val < 64 then 1#1 else 0#1 := by
  decide +kernel

/-- The lanes of an odd head. -/
theorem pay7_at : ∀ l : Fin 128, k0_pay7 (ix2 0 l) = if 64 ≤ l.val then 1#1 else 0#1 := by
  decide +kernel

/-- A selection by a set bit. -/
theorem select_set {α : Type} (c : BitVec 1) (x y : α) (h : c = 1#1) : Scalar.select c x y = x := by
  subst h; rfl

/-- A selection by a clear bit. -/
theorem select_clear {α : Type} (c : BitVec 1) (x y : α) (h : ¬c = 1#1) : Scalar.select c x y = y := if_neg h

/-- The lower triangle of ones. -/
theorem pay5_at (i m : Fin 64) : (k0_pay5 : FVec Ideal S64x64 .bf16) (ix2 i m) = if m.val ≤ i.val then (1 : EReal) else 0 := by
  have e := pay4_at i m
  unfold k0_pay5
  generalize k0_pay4 = M at e ⊢
  pointwise []
  rw [e]
  by_cases h : m.val ≤ i.val
  · simp [h, select_set]
  · simp [h, select_clear]

/-- The log decays of a block's rows summed up to a row. -/
def lcum (L : FVec Ideal S64x128 .f32) (i : Fin 64) (l : Fin 128) : EReal :=
  ∑ m : Fin 64, if m.val ≤ i.val then L (ix2 m l) else 0

/-- The two products with the triangle of ones are the sum up to the row: the second, over the rounding's remainder, is zero. -/
theorem pay10_at (L : FVec Ideal S64x128 .f32) (hL : ∀ i l, L (ix2 i l) ≠ ⊤) (i : Fin 64) (l : Fin 128) :
    k0_pay10 (F := Ideal) k0_pay5 L (ix2 i l) = lcum L i l := by
  have e := pay5_at i
  unfold lcum
  generalize (k0_pay5 : FVec Ideal S64x64 .bf16) = T at e ⊢
  pointwise [k0_pay10]
  rw [← Finset.sum_add_distrib]
  refine Finset.sum_congr rfl fun m _ => ?_
  rw [e]
  have h := hL m l
  split
  · simp only [one_mul]
    generalize L (ix2 m l) = x at h
    induction x using EReal.rec with
    | bot => simp
    | top => exact absurd rfl h
    | coe r => rw [← EReal.coe_sub, ← EReal.coe_add]; simp
  · simp

/-- A query's lanes, scaled and decayed. -/
def lqd (L : FVec Ideal S64x128 .f32) (Q : FVec Ideal S1x64x128 .f32) (i : Fin 64) (l : Fin 128) : EReal :=
  Q (ix3 0 i l) * Ideal.ofBits FTy.f32 0x3E000000#32 * Ideal.exp (lcum L i l)

/-- A key's lanes with the decay undone. -/
def lkd (L : FVec Ideal S64x128 .f32) (K : FVec Ideal S1x64x128 .f32) (i : Fin 64) (l : Fin 128) : EReal :=
  K (ix3 0 i l) * Ideal.exp (-(lcum L i l))

/-- A key's lanes decayed to the chunk's end. -/
def lku (L : FVec Ideal S64x128 .f32) (K : FVec Ideal S1x64x128 .f32) (i : Fin 64) (l : Fin 128) : EReal :=
  K (ix3 0 i l) * Ideal.exp (lcum L 63 l - lcum L i l)

/-- The lanes of head `h` are those whose half is its parity. -/
theorem headMask_at (h : ℕ) (l : Fin 128) : headMask h (ix2 0 l) = 1#1 ↔ l.val / 64 = h % 2 := by
  unfold headMask
  split
  · rw [pay6_at]; split <;> simp <;> omega
  · rw [pay7_at]; split <;> simp <;> omega

section

variable (L : FVec Ideal S64x128 .f32) (hL : ∀ i l, L (ix2 i l) ≠ ⊤)

include hL

/-- The queries of one head, zero in the other head's lanes. -/
theorem pay17_at (h : ℕ) (Q : FVec Ideal S1x64x128 .f32) (i : Fin 64) (l : Fin 128) :
    k0_pay17 (F := Ideal) k0_pay5 (headMask h) L Q (ix2 i l) = if l.val / 64 = h % 2 then lqd L Q i l else 0 := by
  have e := pay10_at L hL i l
  have eh := headMask_at h l
  unfold k0_pay17 k0_pay13
  generalize k0_pay10 (F := Ideal) k0_pay5 L = P at e ⊢
  generalize headMask h = M at eh ⊢
  pointwise [lqd]
  rw [e]
  by_cases hh : l.val / 64 = h % 2
  · rw [select_set _ _ _ (eh.mpr hh), if_pos hh]
  · rw [select_clear _ _ _ (mt eh.mp hh), if_neg hh]

/-- The keys with the decay undone. -/
theorem pay14_at (K : FVec Ideal S1x64x128 .f32) (i : Fin 64) (l : Fin 128) :
    k0_pay14 (F := Ideal) k0_pay5 L K (ix2 i l) = lkd L K i l := by
  have e := pay10_at L hL i l
  unfold k0_pay14
  generalize k0_pay10 (F := Ideal) k0_pay5 L = P at e ⊢
  pointwise [lkd, k0_pay12]
  rw [e]
  simp [Ideal.ofBits_zero_f32]

/-- The keys decayed to the chunk's end. -/
theorem pay15_at (K : FVec Ideal S1x64x128 .f32) (i : Fin 64) (l : Fin 128) :
    k0_pay15 (F := Ideal) k0_pay5 L K (ix2 i l) = lku L K i l := by
  have e := pay10_at L hL i l
  have e' := pay10_at L hL 63 l
  unfold k0_pay15 k0_pay11
  generalize k0_pay10 (F := Ideal) k0_pay5 L = P at e e' ⊢
  pointwise [lku, k0_pay12]
  rw [e, ← e']

/-- The chunk's whole decay. -/
theorem pay16_at (l : Fin 128) :
    k0_pay16 (F := Ideal) k0_pay5 L (ix2 0 l) = Ideal.exp (lcum L 63 l) := by
  have e' := pay10_at L hL 63 l
  unfold k0_pay16 k0_pay11
  generalize k0_pay10 (F := Ideal) k0_pay5 L = P at e' ⊢
  pointwise []
  rw [← e']

/-- The state's step. -/
theorem pay59_at (K V : FVec Ideal S1x64x128 .f32) (st : FVec Ideal S1x128x128 .f32) (u l : Fin 128) :
    k0_pay59 (F := Ideal) (k0_pay15 k0_pay5 L K) (k0_pay16 k0_pay5 L) V st (ix3 0 u l)
      = st (ix3 0 u l) * Ideal.exp (lcum L 63 l) + ∑ m : Fin 64, V (ix3 0 m u) * lku L K m l := by
  simp only [← pay16_at L hL, ← pay15_at L hL]
  generalize k0_pay15 (F := Ideal) k0_pay5 L K = A
  generalize k0_pay16 (F := Ideal) k0_pay5 L = B
  pointwise [k0_pay59, k0_pay58, k0_pay57]

/-- A head's attention inside the chunk, over its pair's lanes. -/
def lattn (h : ℕ) (Q K : FVec Ideal S1x64x128 .f32) (i m : Fin 64) : EReal :=
  if m.val ≤ i.val then ∑ l : Fin 128, (if l.val / 64 = h % 2 then lqd L Q i l else 0) * lkd L K m l else 0

theorem pay48_at (h : ℕ) (Q K : FVec Ideal S1x64x128 .f32) (i m : Fin 64) :
    k0_pay48 (F := Ideal) k0_pay4 (k0_pay14 k0_pay5 L K) (k0_pay17 k0_pay5 (headMask h) L Q) (ix2 i m) = lattn L h Q K i m := by
  unfold lattn
  simp only [← pay14_at L hL, ← pay17_at L hL]
  have e := pay4_at i m
  generalize k0_pay14 (F := Ideal) k0_pay5 L K = A
  generalize k0_pay17 (F := Ideal) k0_pay5 (headMask h) L Q = B
  unfold k0_pay48
  generalize k0_pay4 = M at e ⊢
  pointwise []
  rw [e]
  by_cases hh : m.val ≤ i.val
  · simp [hh, select_set]
  · simp [hh, select_clear]

/-- A head's output before its norm, over its pair's lanes. -/
def lmix (h : ℕ) (Q K V : FVec Ideal S1x64x128 .f32) (st : FVec Ideal S1x128x128 .f32) (i : Fin 64) (u : Fin 128) : EReal :=
  (∑ m : Fin 64, lattn L h Q K i m * V (ix3 0 m u))
    + ∑ l : Fin 128, (if l.val / 64 = h % 2 then lqd L Q i l else 0) * st (ix3 0 u l)

/-- A tile of the output. -/
theorem pay61_at (h : ℕ) (Q K V G : FVec Ideal S1x64x128 .f32) (gn : FVec Ideal S1x128 .f32)
    (st : FVec Ideal S1x128x128 .f32) (i : Fin 64) (u : Fin 128) :
    k0_pay61 (F := Ideal) (k0_pay60 (k0_pay8 gn) (k0_pay17 k0_pay5 (headMask h) L Q)
      (k0_pay48 k0_pay4 (k0_pay14 k0_pay5 L K) (k0_pay17 k0_pay5 (headMask h) L Q)) V st G) (ix3 0 i u)
      = gated (lmix L h Q K V st i) (fun e => gn (ix2 0 e)) (G (ix3 0 i u)) u := by
  unfold lmix
  simp only [← pay48_at L hL, ← pay17_at L hL]
  generalize k0_pay48 (F := Ideal) k0_pay4 (k0_pay14 k0_pay5 L K) (k0_pay17 k0_pay5 (headMask h) L Q) = A
  generalize k0_pay17 (F := Ideal) k0_pay5 (headMask h) L Q = B
  pointwise [k0_pay61, k0_pay60, k0_pay58, k0_pay57, k0_pay8, gated]

omit hL in
/-- A sum over a pair's lanes of one head's, in that head's lanes alone. -/
theorem pair_sum (p : ℕ) (hp : p < 2) (f g : Fin 128 → EReal) :
    (∑ l : Fin 128, (if l.val / 64 = p then f l else 0) * g l)
      = ∑ d : Fin 64, f ⟨64 * p + d.val, by omega⟩ * g ⟨64 * p + d.val, by omega⟩ := by
  have e := Fin.sum_univ_add (a := 64) (b := 64) (fun l : Fin 128 => (if l.val / 64 = p then f l else 0) * g l)
  refine e.trans ?_
  have hlo : ∀ d : Fin 64, (Fin.castAdd 64 d).val / 64 = 0 := fun d => by
    have := d.isLt; simp only [Fin.val_castAdd]; omega
  have hhi : ∀ d : Fin 64, (Fin.natAdd 64 d).val / 64 = 1 := fun d => by
    have := d.isLt; simp only [Fin.val_natAdd]; omega
  simp only [hlo, hhi]
  interval_cases p
  · simp only [if_pos, one_ne_zero, if_false, zero_mul, Finset.sum_const_zero, add_zero]
    refine Finset.sum_congr rfl fun d _ => ?_
    rw [show (⟨64 * 0 + d.val, by omega⟩ : Fin 128) = Fin.castAdd 64 d from Fin.ext (by simp [Nat.add_comm])]
  · simp only [if_pos, zero_ne_one, if_false, zero_mul, Finset.sum_const_zero, zero_add]
    refine Finset.sum_congr rfl fun d _ => ?_
    rw [show (⟨64 * 1 + d.val, by omega⟩ : Fin 128) = Fin.natAdd 64 d from Fin.ext (by simp [Nat.add_comm])]

end

/-! ## A block's chunks, as chunks of the whole row of tokens -/

/-- The log decays of a chunk and a head pair. -/
theorem logBox_at (LA : FVec Ideal S256x512 .f32) (n p : ℕ) (hn : n < 4) (hp : p < 4) (i : Fin 64) (l : Fin 128) :
    logBox LA n p hn hp (ix2 i l) = LA (ix2 ⟨64 * n + i.val, by omega⟩ ⟨128 * p + l.val, by omega⟩) := by
  pointwise [logBox]

/-- A chunk of queries or keys. -/
theorem ldQ_at (X : FVec Ideal S1x256x512 .f32) (n p : ℕ) (hn : n < 4) (hp : p < 4) (i : Fin 64) (l : Fin 128) :
    ldQ (F := Ideal) X n p hn hp (ix3 0 i l) = X (ix3 0 ⟨64 * n + i.val, by omega⟩ ⟨128 * p + l.val, by omega⟩) := by
  refine congrArg X (funext fun a => ?_)
  fin_cases a
  · rfl
  · exact Fin.ext (show 64 * n + 1 * i.val = 64 * n + i.val by omega)
  · exact Fin.ext (show 128 * p + 1 * l.val = 128 * p + l.val by omega)

/-- A chunk of values or gates. -/
theorem ldV_at (X : FVec Ideal S1x256x1024 .f32) (n h : ℕ) (hn : n < 4) (hh : h < 8) (i : Fin 64) (u : Fin 128) :
    ldV (F := Ideal) X n h hn hh (ix3 0 i u) = X (ix3 0 ⟨64 * n + i.val, by omega⟩ ⟨128 * h + u.val, by omega⟩) := by
  refine congrArg X (funext fun a => ?_)
  fin_cases a
  · rfl
  · exact Fin.ext (show 64 * n + 1 * i.val = 64 * n + i.val by omega)
  · exact Fin.ext (show 128 * h + 1 * u.val = 128 * h + u.val by omega)

/-- Row `r` of block `s`. -/
abbrev row (s : Fin 16) (r : Fin 256) : Fin 4096 := ⟨256 * s.val + r.val, by omega⟩

/-- Chunk `n` of block `s`. -/
abbrev chunk (s : Fin 16) (n : ℕ) (hn : n < 4) : Fin 64 := ⟨4 * s.val + n, by omega⟩

section

variable (la q k : Fin 4096 → Fin 512 → EReal) (v g : Fin 4096 → Fin 1024 → EReal) (s : Fin 16)
  (LA : FVec Ideal S256x512 .f32) (x0 x1 : FVec Ideal S1x256x512 .f32) (x2 x3 : FVec Ideal S1x256x1024 .f32)
  (hla : ∀ r j, LA (ix2 r j) = la (row s r) j) (ht : ∀ r j, la r j ≠ ⊤)
  (hq : ∀ r j, x0 (ix3 0 r j) = q (row s r) j) (hk : ∀ r j, x1 (ix3 0 r j) = k (row s r) j)
  (hv : ∀ r j, x2 (ix3 0 r j) = v (row s r) j) (hg : ∀ r j, x3 (ix3 0 r j) = g (row s r) j)

/-- A row of a chunk of a block is a token of the chunk. -/
theorem row_chunk (n : ℕ) (hn : n < 4) (i : Fin 64) :
    row s ⟨64 * n + i.val, by omega⟩ = tok (chunk s n hn) i := Fin.ext (by simp only; omega)

include hla

theorem logBox_tok (n p : ℕ) (hn : n < 4) (hp : p < 4) (i : Fin 64) (l : Fin 128) :
    logBox LA n p hn hp (ix2 i l) = la (tok (chunk s n hn) i) ⟨128 * p + l.val, by omega⟩ := by
  rw [logBox_at, hla, row_chunk]

theorem lcum_cum (n p : ℕ) (hn : n < 4) (hp : p < 4) (i : Fin 64) (l : Fin 128) :
    lcum (logBox LA n p hn hp) i l = cum la (chunk s n hn) i ⟨128 * p + l.val, by omega⟩ := by
  unfold lcum cum
  simp only [logBox_tok la s LA hla]

include hk

theorem lkd_kd (n p : ℕ) (hn : n < 4) (hp : p < 4) (i : Fin 64) (l : Fin 128) :
    lkd (logBox LA n p hn hp) (ldQ (F := Ideal) x1 n p hn hp) i l = kd la k (chunk s n hn) i ⟨128 * p + l.val, by omega⟩ := by
  unfold lkd kd
  rw [lcum_cum la s LA hla, ldQ_at, hk, row_chunk]

theorem lku_ku (n p : ℕ) (hn : n < 4) (hp : p < 4) (i : Fin 64) (l : Fin 128) :
    lku (logBox LA n p hn hp) (ldQ (F := Ideal) x1 n p hn hp) i l = ku la k (chunk s n hn) i ⟨128 * p + l.val, by omega⟩ := by
  unfold lku ku
  rw [lcum_cum la s LA hla, lcum_cum la s LA hla, ldQ_at, hk, row_chunk]

omit hk
include hq

theorem lqd_qd (n p : ℕ) (hn : n < 4) (hp : p < 4) (i : Fin 64) (l : Fin 128) :
    lqd (logBox LA n p hn hp) (ldQ (F := Ideal) x0 n p hn hp) i l = qd la q (chunk s n hn) i ⟨128 * p + l.val, by omega⟩ := by
  unfold lqd qd
  rw [lcum_cum la s LA hla, ldQ_at, hq, row_chunk]

omit hq
include ht hk hv

/-- The state before chunk `n` of the block, if it held the state before the block's first. -/
theorem stAt_state (h : ℕ) (hh : h < 8) (s0 : FVec Ideal S1x128x128 .f32)
    (h0 : ∀ u l, s0 (ix3 0 u l) = state la k v ⟨h, hh⟩ u ⟨128 * (h / 2) + l.val, by omega⟩ (4 * s.val) (by omega)) :
    ∀ (n : ℕ) (hn : n ≤ 4) (u l : Fin 128), stAt (F := Ideal) LA x1 x2 h hh s0 n hn (ix3 0 u l)
      = state la k v ⟨h, hh⟩ u ⟨128 * (h / 2) + l.val, by omega⟩ (4 * s.val + n) (by omega)
  | 0, _, u, l => h0 u l
  | n + 1, hn, u, l => by
    have ih := stAt_state h hh s0 h0 n (by omega) u l
    have hL : ∀ i l, logBox LA n (h / 2) (by omega) (by omega) (ix2 i l) ≠ ⊤ := fun i l => by
      rw [logBox_tok la s LA hla]; exact ht _ _
    refine (pay59_at _ hL (ldQ (F := Ideal) x1 n (h / 2) (by omega) (by omega)) (ldV (F := Ideal) x2 n h (by omega) hh) _ u l).trans ?_
    rw [ih, lcum_cum la s LA hla]
    change _ = state la k v ⟨h, hh⟩ u _ (4 * s.val + n) _ * _ + _
    refine congrArg₂ (· + ·) rfl (Finset.sum_congr rfl fun m _ => ?_)
    rw [lku_ku la k s LA x1 hla hk n (h / 2) (by omega) (by omega), ldV_at, hv, row_chunk s n (by omega)]
    exact congrArg₂ (· * ·) (congrArg _ (Fin.ext (by simp only; omega))) rfl

include hq hg

/-- A tile of the block's output. -/
theorem outTile_gated (h : ℕ) (hh : h < 8) (st : FVec Ideal S1x128x128 .f32) (gn : FVec Ideal S1x128 .f32)
    (n : ℕ) (hn : n < 4)
    (hst : ∀ u l, st (ix3 0 u l) = state la k v ⟨h, hh⟩ u ⟨128 * (h / 2) + l.val, by omega⟩ (4 * s.val + n) (by omega))
    (i : Fin 64) (u : Fin 128) :
    outTile (F := Ideal) LA x0 x1 x2 x3 gn n h hn hh st (ix3 0 i u)
      = gated (mix la q k v ⟨h, hh⟩ (chunk s n hn) i) (fun e => gn (ix2 0 e)) (g (tok (chunk s n hn) i) (vlane ⟨h, hh⟩ u)) u := by
  have hL : ∀ i l, logBox LA n (h / 2) (by omega) (by omega) (ix2 i l) ≠ ⊤ := fun i l => by
    rw [logBox_tok la s LA hla]; exact ht _ _
  have ek : ∀ d : Fin 64, (⟨128 * (h / 2) + (64 * (h % 2) + d.val), by omega⟩ : Fin 512) = klane ⟨h, hh⟩ d := fun d =>
    Fin.ext (by simp only; omega)
  have ev : ∀ u : Fin 128, (⟨128 * h + u.val, by omega⟩ : Fin 1024) = vlane ⟨h, hh⟩ u := fun u =>
    Fin.ext (by simp only; omega)
  refine (pay61_at _ hL h (ldQ (F := Ideal) x0 n (h / 2) hn (by omega)) (ldQ (F := Ideal) x1 n (h / 2) hn (by omega)) (ldV (F := Ideal) x2 n h hn hh) (ldV (F := Ideal) x3 n h hn hh)
    (fun x => gn ((Rect.unit ![0, 0] S1x128.size inb_S1x128_S1x128_0_0).toLoadRect.idx x)) st i u).trans ?_
  rw [ldV_at, hg, row_chunk, ev]
  refine congrArg₂ (fun f w => gated f w _ u) (funext fun e => ?_) (funext fun e => congrArg gn (funext fun a => ?_))
  swap
  · fin_cases a
    · rfl
    · exact Fin.ext (show 0 + 1 * e.val = e.val by omega)
  unfold lmix mix
  refine congrArg₂ (· + ·) (Finset.sum_congr rfl fun m _ => congrArg₂ (· * ·) ?_ ?_) ?_
  · unfold lattn attn
    refine if_congr Iff.rfl ?_ rfl
    refine (pair_sum (h % 2) (Nat.mod_lt _ (by decide)) _ _).trans (Finset.sum_congr rfl fun d _ => ?_)
    rw [lqd_qd la q s LA x0 hla hq, lkd_kd la k s LA x1 hla hk, ek]
  · rw [ldV_at, hv, row_chunk, ev]
  · refine (pair_sum (h % 2) (Nat.mod_lt _ (by decide)) _ _).trans (Finset.sum_congr rfl fun d _ => ?_)
    rw [lqd_qd la q s LA x0 hla hq, hst, ek]

end

end Cert.Gla
end
-- ==== Proof.GlaRef.lean ====
module

public import proofs.«01_k».proof.Proof.GlaSpec
public import proofs.«01_k».proof.Proof.Gen.ReferenceIdeal.Run

/- The reference's gated linear attention: what its operations before the loop, its loop and its operations after the loop compute. -/

@[expose] public section

set_option maxRecDepth 16384

noncomputable section

namespace Cert.GlaRef

open Idealize.ShloMosaic Idealize.ShloMosaic.TcCoe Idealize.SL.Sem
open Idealize.ShloMosaic.StableHlo
open Cert.ReferenceIdeal Cert.ReferenceIdeal.Gen Cert.ReferenceIdeal.Value

/-- The gate's logits. -/
def logit (ga : FVec Ideal S2x4096x128 .f32) (w : FVec Ideal S16x512 .f32) (b : FVec Ideal S512 .f32) : FVec Ideal S2x4096x512 .f32 :=
  addf (Host.dotGeneral dot_S2x4096x16_S16x512_S2x4096x512_2_0_01_1_n_n none (extractStridedSlice S2x4096x16 ![0, 0, 0] ga slices_S2x4096x128_S2x4096x16_0_0_0) w)
    (broadcastInDim S2x4096x512 ![0, 1, 2] bcast_S1x1x512_S2x4096x512_0_1_2 (broadcastInDim S1x1x512 ![2] bcast_S512_S1x1x512_2 b))

/-- The log decays, of the logits. -/
def logs (z : FVec Ideal S2x4096x512 .f32) : FVec Ideal S2x4096x512 .f32 :=
  let n := Host.negf z
  let o := broadcastInDim S2x4096x512 ![] bcast_S_S2x4096x512 (constant (F := Ideal) S_ .f32 0x00000000#32)
  let d := subf n o
  Host.divf (Host.negf (select (cmpf .une d d) (addf n o) (addf (maximumf n o) (Host.log1p (Host.exp (Host.negf (Host.absf d)))))))
    (broadcastInDim S2x4096x512 ![] bcast_S_S2x4096x512 (constant (F := Ideal) S_ .f32 0x41800000#32))

/-- A key-lane array, by chunk and head. -/
def chunks (z : FVec Ideal S2x4096x512 .f32) : FVec Ideal S2x8x64x64x64 .f32 :=
  shapeCast _ (transpose S2x8x4096x64 [0, 2, 1, 3] (shapeCast _ z shapeCasts_S2x4096x512_S2x4096x8x64) transposes_S2x4096x8x64_S2x8x4096x64_0_2_1_3) shapeCasts_S2x8x4096x64_S2x8x64x64x64

/-- The queries, by chunk and head, scaled. -/
def qs (x : FVec Ideal S2x4096x6144 .f32) : FVec Ideal S2x8x64x64x64 .f32 :=
  mulf (chunks (extractStridedSlice S2x4096x512 ![0, 0, 0] x slices_S2x4096x6144_S2x4096x512_0_0_0))
    (broadcastInDim S2x8x64x64x64 ![] bcast_S_S2x8x64x64x64 (constant (F := Ideal) S_ .f32 0x3E000000#32))

/-- The keys, by chunk and head. -/
def ks (x : FVec Ideal S2x4096x6144 .f32) : FVec Ideal S2x8x64x64x64 .f32 :=
  chunks (extractStridedSlice S2x4096x512 ![0, 0, 512] x slices_S2x4096x6144_S2x4096x512_0_0_512)

/-- The values, by chunk and head. -/
def vs (x : FVec Ideal S2x4096x6144 .f32) : FVec Ideal S2x8x64x64x128 .f32 :=
  shapeCast _ (transpose S2x8x4096x128 [0, 2, 1, 3] (shapeCast _ (extractStridedSlice S2x4096x1024 ![0, 0, 1024] x slices_S2x4096x6144_S2x4096x1024_0_0_1024) shapeCasts_S2x4096x1024_S2x4096x8x128) transposes_S2x4096x8x128_S2x8x4096x128_0_2_1_3) shapeCasts_S2x8x4096x128_S2x8x64x64x128

/-- The log decays summed along each chunk. -/
def cums (l : FVec Ideal S2x8x64x64x64 .f32) : FVec Ideal S2x8x64x64x64 .f32 :=
  Host.reduceWindowAdd ![1, 1, 1, 64, 1] ![1, 1, 1, 1, 1] ![0, 0, 0, 63, 0] ![0, 0, 0, 0, 0] l (broadcastInDim S_ ![] bcast_S_S_ (constant (F := Ideal) S_ .f32 0x00000000#32)) reduceWindows_S2x8x64x64x64_S2x8x64x64x64_w1s1p0_0_w1s1p0_0_w1s1p0_0_w64s1p63_0_w1s1p0_0 h_S_

/-- The causal mask. -/
def causal : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The attention inside the chunks. -/
def attns (q k : FVec Ideal S2x8x64x64x64 .f32) : FVec Ideal S2x8x64x64x64 .f32 :=
  select (broadcastInDim S2x8x64x64x64 ![3, 4] bcast_S64x64_S2x8x64x64x64_3_4 causal)
    (Host.dotGeneral dot_S2x8x64x64x64_S2x8x64x64x64_S2x8x64x64x64_4_4_3_3_012_012 none q k)
    (broadcastInDim S2x8x64x64x64 ![] bcast_S_S2x8x64x64x64 (constant (F := Ideal) S_ .f32 0x00000000#32))

/-- The last row of the summed log decays. -/
def last (b : FVec Ideal S2x8x64x64x64 .f32) : FVec Ideal S2x8x64x1x64 .f32 :=
  extractStridedSlice S2x8x64x1x64 ![0, 0, 0, 63, 0] b slices_S2x8x64x64x64_S2x8x64x1x64_0_0_0_63_0

variable (m : (ℓ : Loc nD τ sig) → Buf (Elt Ideal) ℓ) (c : Dev nD)

/-- The summed log decays over the arguments. -/
abbrev B : FVec Ideal S2x8x64x64x64 .f32 :=
  cums (chunks (logs (logit (m ((c.tc : Thread nD τ).loc main_arg1)) (m ((c.tc : Thread nD τ).loc main_arg2)) (m ((c.tc : Thread nD τ).loc main_arg3)))))

/-- The projection. -/
abbrev X : FVec Ideal S2x4096x6144 .f32 := m ((c.tc : Thread nD τ).loc main_arg0)

theorem entry0 : entryContents preI m c (Proc.devRef .tc main_v50_0)
    = transpose S64x2x8x64 [2, 0, 1, 3] (Host.exp (shapeCast S2x8x64x64 (last (B m c)) shapeCasts_S2x8x64x1x64_S2x8x64x64)) transposes_S2x8x64x64_S64x2x8x64_2_0_1_3 := by
  simp only [entryContents, afterL_cons, afterL_nil]
  after_reads_simp
  rfl

theorem entry1 : entryContents preI m c (Proc.devRef .tc main_v50_1)
    = transpose S64x2x8x64x128 [2, 0, 1, 3, 4] (Host.dotGeneral dot_S2x8x64x64x64_S2x8x64x64x128_S2x8x64x64x128_3_3_4_4_012_012 none
        (mulf (ks (X m c)) (Host.exp (subf (broadcastInDim S2x8x64x64x64 ![0, 1, 2, 3, 4] bcast_S2x8x64x1x64_S2x8x64x64x64_0_1_2_3_4 (last (B m c))) (B m c)))) (vs (X m c)))
        transposes_S2x8x64x64x128_S64x2x8x64x128_2_0_1_3_4 := by
  simp only [entryContents, afterL_cons, afterL_nil]
  after_reads_simp
  rfl

theorem entry2 : entryContents preI m c (Proc.devRef .tc main_v50_2)
    = transpose S64x2x8x64x64 [2, 0, 1, 3, 4] (mulf (qs (X m c)) (Host.exp (B m c))) transposes_S2x8x64x64x64_S64x2x8x64x64_2_0_1_3_4 := by
  simp only [entryContents, afterL_cons, afterL_nil]
  after_reads_simp
  rfl

theorem entry3 : entryContents preI m c (Proc.devRef .tc main_v50_3)
    = transpose S64x2x8x64x128 [2, 0, 1, 3, 4] (Host.dotGeneral dot_S2x8x64x64x64_S2x8x64x64x128_S2x8x64x64x128_4_3_3_4_012_012 none
        (attns (mulf (qs (X m c)) (Host.exp (B m c))) (mulf (ks (X m c)) (Host.exp (Host.negf (B m c))))) (vs (X m c)))
        transposes_S2x8x64x64x128_S64x2x8x64x128_2_0_1_3_4 := by
  simp only [entryContents, afterL_cons, afterL_nil]
  after_reads_simp
  rfl

theorem entry5 : entryContents preI m c (Proc.devRef .tc main_v50_5)
    = broadcastInDim S2x8x64x128 ![] bcast_S_S2x8x64x128 (constant (F := Ideal) S_ .f32 0x00000000#32) := by
  simp only [entryContents, afterL_cons, afterL_nil]
  after_reads_simp
  rfl

/-- The projection's queries, keys, values and gates of one batch entry. -/
def qOf (x : FVec Ideal S2x4096x6144 .f32) (b : Fin 2) (s : Fin 4096) (j : Fin 512) : EReal := x (ix3 b s ⟨j.val, by omega⟩)
@[inherit_doc qOf] def kOf (x : FVec Ideal S2x4096x6144 .f32) (b : Fin 2) (s : Fin 4096) (j : Fin 512) : EReal := x (ix3 b s ⟨512 + j.val, by omega⟩)
@[inherit_doc qOf] def vOf (x : FVec Ideal S2x4096x6144 .f32) (b : Fin 2) (s : Fin 4096) (j : Fin 1024) : EReal := x (ix3 b s ⟨1024 + j.val, by omega⟩)
@[inherit_doc qOf] def gOf (x : FVec Ideal S2x4096x6144 .f32) (b : Fin 2) (s : Fin 4096) (j : Fin 1024) : EReal := x (ix3 b s ⟨2048 + j.val, by omega⟩)

/-- The log decays of one batch entry. -/
def laOf (ga : FVec Ideal S2x4096x128 .f32) (w : FVec Ideal S16x512 .f32) (bias : FVec Ideal S512 .f32) (b : Fin 2) (s : Fin 4096) (j : Fin 512) : EReal :=
  Cert.Gla.decay ((∑ e : Fin 16, ga (ix3 b s ⟨e.val, by omega⟩) * w (ix2 e j)) + bias (ix1 j))

open Cert.Gla (tok klane vlane)

theorem logit_at (ga : FVec Ideal S2x4096x128 .f32) (w : FVec Ideal S16x512 .f32) (bias : FVec Ideal S512 .f32) (b : Fin 2) (s : Fin 4096) (j : Fin 512) :
    logit ga w bias (ix3 b s j) = (∑ e : Fin 16, ga (ix3 b s ⟨e.val, by omega⟩) * w (ix2 e j)) + bias (ix1 j) := by
  pointwise [logit]

theorem logs_at (z : FVec Ideal S2x4096x512 .f32) (b : Fin 2) (s : Fin 4096) (j : Fin 512) :
    logs z (ix3 b s j) = Cert.Gla.decay (z (ix3 b s j)) := by
  rw [← Cert.Gla.decay_ref]
  pointwise [logs]
  rw [if_neg (not_not.mpr rfl)]
  rfl

theorem chunks_at (z : FVec Ideal S2x4096x512 .f32) (b : Fin 2) (h : Fin 8) (n i d : Fin 64) :
    chunks z (ix5 b h n i d) = z (ix3 b (tok n i) (klane h d)) := by
  pointwise [chunks, tok, klane]

theorem qs_at (x : FVec Ideal S2x4096x6144 .f32) (b : Fin 2) (h : Fin 8) (n i d : Fin 64) :
    qs x (ix5 b h n i d) = qOf x b (tok n i) (klane h d) * Ideal.ofBits FTy.f32 0x3E000000#32 := by
  pointwise [qs, chunks, qOf, tok, klane]

theorem ks_at (x : FVec Ideal S2x4096x6144 .f32) (b : Fin 2) (h : Fin 8) (n i d : Fin 64) :
    ks x (ix5 b h n i d) = kOf x b (tok n i) (klane h d) := by
  pointwise [ks, chunks, kOf, tok, klane]

theorem vs_at (x : FVec Ideal S2x4096x6144 .f32) (b : Fin 2) (h : Fin 8) (n i : Fin 64) (u : Fin 128) :
    vs x (ix5 b h n i u) = vOf x b (tok n i) (vlane h u) := by
  pointwise [vs, vOf, tok, vlane]

theorem causal_at (i m : Fin 64) : causal (ix2 i m) = if m.val ≤ i.val then 1#1 else 0#1 := by
  pointwise [causal]
  revert i m
  decide +kernel

theorem attns_at (q k : FVec Ideal S2x8x64x64x64 .f32) (b : Fin 2) (h : Fin 8) (n i m : Fin 64) :
    attns q k (ix5 b h n i m) = if m.val ≤ i.val then ∑ d : Fin 64, q (ix5 b h n i d) * k (ix5 b h n m d) else 0 := by
  pointwise [attns, causal_at]
  by_cases hm : m.val ≤ i.val
  · rw [if_pos hm, if_pos hm]; rfl
  · rw [if_neg hm, if_neg hm]; rfl

theorem foldl_sum {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The window's places, by their place along the token axis. -/
def placeEquiv : (⟨5, ![1, 1, 1, 64, 1]⟩ : Shape).Idx ≃ Fin 64 where
  toFun j := j 3
  invFun m := ix5 (0 : Fin 1) (0 : Fin 1) (0 : Fin 1) m (0 : Fin 1)
  left_inv j := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  right_inv m := rfl

theorem cums_at (l : FVec Ideal S2x8x64x64x64 .f32) (b : Fin 2) (h : Fin 8) (n i d : Fin 64) :
    cums l (ix5 b h n i d) = ∑ m : Fin 64, if m.val ≤ i.val then l (ix5 b h n m d) else 0 := by
  rw [← Cert.Gla.window_sum (fun m => l (ix5 b h n m d)) i]
  have hv : (broadcastInDim S_ ![] bcast_S_S_ (constant (F := Ideal) S_ .f32 0x00000000#32)) (Shape.Idx.first h_S_) = (0 : EReal) := by
    simp [broadcastInDim, constant, FloatOps.ofBits, Ideal.ofBits, Ideal.ieee]
  refine (foldl_sum (fun n : Fin (⟨5, ![1, 1, 1, 64, 1]⟩ : Shape).numel => _) _ _).trans ?_
  rw [hv, zero_add, ← Fin.sum_univ_def]
  refine Fintype.sum_equiv ((Shape.rowMajor _).symm.trans placeEquiv) _ _ fun w => ?_
  let K := (Shape.rowMajor (⟨5, ![1, 1, 1, 64, 1]⟩ : Shape)).symm w
  have k0 : (K 0).val < 1 := (K 0).isLt
  have k1 : (K 1).val < 1 := (K 1).isLt
  have k2 : (K 2).val < 1 := (K 2).isLt
  have k4 : (K 4).val < 1 := (K 4).isLt
  change _ = if h_1 : 63 ≤ i.val + (K 3).val then l (ix5 b h n ⟨i.val + (K 3).val - 63, _⟩ d) else 0
  split
  · next hin =>
    have h3 := hin 3
    change 63 ≤ i.val * 1 + (K 3).val ∧ i.val * 1 + (K 3).val - 63 < 64 at h3
    rw [dif_pos (by omega)]
    refine congrArg l (funext fun a => Fin.ext ?_)
    match a with
    | ⟨0, _⟩ => change b.val * 1 + (K 0).val - 0 = b.val; omega
    | ⟨1, _⟩ => change h.val * 1 + (K 1).val - 0 = h.val; omega
    | ⟨2, _⟩ => change n.val * 1 + (K 2).val - 0 = n.val; omega
    | ⟨3, _⟩ => change i.val * 1 + (K 3).val - 63 = i.val + (K 3).val - 63; omega
    | ⟨4, _⟩ => change d.val * 1 + (K 4).val - 0 = d.val; omega
  · next hin =>
    have k3 : (K 3).val < 64 := (K 3).isLt
    rw [dif_neg fun hle => hin fun a => ?_]
    match a with
    | ⟨0, _⟩ => change 0 ≤ b.val * 1 + (K 0).val ∧ b.val * 1 + (K 0).val - 0 < 2; omega
    | ⟨1, _⟩ => change 0 ≤ h.val * 1 + (K 1).val ∧ h.val * 1 + (K 1).val - 0 < 8; omega
    | ⟨2, _⟩ => change 0 ≤ n.val * 1 + (K 2).val ∧ n.val * 1 + (K 2).val - 0 < 64; omega
    | ⟨3, _⟩ => change 63 ≤ i.val * 1 + (K 3).val ∧ i.val * 1 + (K 3).val - 63 < 64; omega
    | ⟨4, _⟩ => change 0 ≤ d.val * 1 + (K 4).val ∧ d.val * 1 + (K 4).val - 0 < 64; omega

end Cert.GlaRef
end
-- ==== Proof.GlaLoop.lean ====
module

public import proofs.«01_k».proof.Proof.GlaRef

/- The reference's gated linear attention: its loop over the chunks and what it returns. -/

@[expose] public section

set_option maxRecDepth 16384

noncomputable section

namespace Cert.GlaRef

open Idealize.ShloMosaic Idealize.ShloMosaic.TcCoe Idealize.SL.Sem
open Idealize.ShloMosaic.StableHlo
open Cert.ReferenceIdeal Cert.ReferenceIdeal.Gen Cert.ReferenceIdeal.Value
open Cert.Gla (tok klane vlane)

variable (m : (ℓ : Loc nD τ sig) → Buf (Elt Ideal) ℓ) (c : Dev nD)

/-- The log decays of one batch entry, over the arguments. -/
abbrev la (b : Fin 2) : Fin 4096 → Fin 512 → EReal :=
  laOf (m ((c.tc : Thread nD τ).loc main_arg1)) (m ((c.tc : Thread nD τ).loc main_arg2)) (m ((c.tc : Thread nD τ).loc main_arg3)) b

/-- The loop's buffers, as arrays. -/
abbrev b0 (V : Valuation τ sig (Elt Ideal)) : FVec Ideal S64x2x8x64 .f32 := V (Proc.devRef .tc main_v50_0)
@[inherit_doc b0] abbrev b1 (V : Valuation τ sig (Elt Ideal)) : FVec Ideal S64x2x8x64x128 .f32 := V (Proc.devRef .tc main_v50_1)
@[inherit_doc b0] abbrev b2 (V : Valuation τ sig (Elt Ideal)) : FVec Ideal S64x2x8x64x64 .f32 := V (Proc.devRef .tc main_v50_2)
@[inherit_doc b0] abbrev b3 (V : Valuation τ sig (Elt Ideal)) : FVec Ideal S64x2x8x64x128 .f32 := V (Proc.devRef .tc main_v50_3)
@[inherit_doc b0] abbrev b4 (V : Valuation τ sig (Elt Ideal)) : IVec S_ 32 := V (Proc.devRef .tc main_v50_4)
@[inherit_doc b0] abbrev b5 (V : Valuation τ sig (Elt Ideal)) : FVec Ideal S2x8x64x128 .f32 := V (Proc.devRef .tc main_v50_5)
@[inherit_doc b0] abbrev b6 (V : Valuation τ sig (Elt Ideal)) : FVec Ideal S64x2x8x64x128 .f32 := V (Proc.devRef .tc main_v50_6)

theorem B_at (b : Fin 2) (h : Fin 8) (n i d : Fin 64) : B m c (ix5 b h n i d) = Cert.Gla.cum (la m c b) n i (klane h d) := by
  unfold B Cert.Gla.cum la laOf
  rw [cums_at]
  refine Finset.sum_congr rfl fun t _ => ?_
  rw [chunks_at, logs_at, logit_at]

theorem at0 (n : Fin 64) (b : Fin 2) (h : Fin 8) (d : Fin 64) :
    b0 (entryContents preI m c) (ix4 n b h d) = Ideal.exp (Cert.Gla.cum (la m c b) n 63 (klane h d)) := by
  unfold b0
  rw [entry0, ← B_at]
  generalize B m c = B'
  pointwise [last]

theorem at1 (n : Fin 64) (b : Fin 2) (h : Fin 8) (d : Fin 64) (u : Fin 128) :
    b1 (entryContents preI m c) (ix5 n b h d u)
      = ∑ t : Fin 64, vOf (X m c) b (tok n t) (vlane h u) * Cert.Gla.ku (la m c b) (kOf (X m c) b) n t (klane h d) := by
  unfold b1
  rw [entry1]
  unfold Cert.Gla.ku
  simp only [← B_at, ← ks_at, ← vs_at]
  generalize B m c = B'
  generalize ks _ = K
  generalize vs _ = W
  pointwise [last]
  exact Finset.sum_congr rfl fun t _ => mul_comm _ _

theorem at2 (n : Fin 64) (b : Fin 2) (h : Fin 8) (i d : Fin 64) :
    b2 (entryContents preI m c) (ix5 n b h i d) = Cert.Gla.qd (la m c b) (qOf (X m c) b) n i (klane h d) := by
  unfold b2
  rw [entry2]
  unfold Cert.Gla.qd
  simp only [← B_at, ← qs_at]
  generalize B m c = B'
  generalize qs _ = Q
  pointwise

theorem at3 (n : Fin 64) (b : Fin 2) (h : Fin 8) (i : Fin 64) (u : Fin 128) :
    b3 (entryContents preI m c) (ix5 n b h i u)
      = ∑ t : Fin 64, Cert.Gla.attn (la m c b) (qOf (X m c) b) (kOf (X m c) b) h n i t * vOf (X m c) b (tok n t) (vlane h u) := by
  unfold b3
  rw [entry3]
  unfold Cert.Gla.attn Cert.Gla.qd Cert.Gla.kd
  simp only [← B_at, ← qs_at, ← ks_at, ← vs_at]
  generalize B m c = B'
  generalize qs _ = Q
  generalize ks _ = K
  generalize vs _ = W
  pointwise [attns_at]

theorem toInt_small (k : Fin 64) : (BitVec.ofNat 32 k.val).toInt = (k.val : Int) := by
  revert k
  decide

/-- Five start indices: the counter, then zeros. -/
abbrev start5 (k : Fin 64) : Fin 5 → Int := fun a =>
  ((![fun _ => BitVec.ofNat 32 k.val, constantI S_ 32 0#32, constantI S_ 32 0#32, constantI S_ 32 0#32, constantI S_ 32 0#32] : Fin 5 → IVec S_ 32) a (Shape.Idx.first h_S_)).toInt

/-- Four start indices: the counter, then zeros. -/
abbrev start4 (k : Fin 64) : Fin 4 → Int := fun a =>
  ((![fun _ => BitVec.ofNat 32 k.val, constantI S_ 32 0#32, constantI S_ 32 0#32, constantI S_ 32 0#32] : Fin 4 → IVec S_ 32) a (Shape.Idx.first h_S_)).toInt

theorem clamp_zero {s t : Shape} (ht : t.rank = s.rank) (start : Fin s.rank → Int) (a : Fin s.rank) (h0 : start a = 0) :
    Host.clampedStart s t ht start a = 0 := by
  unfold Host.clampedStart
  rw [h0]; omega

theorem slice4 (x : FVec Ideal S64x2x8x64 .f32) (st : Fin 4 → Int) (k : Fin 64) (h0 : st 0 = (k.val : Int)) (h1 : st 1 = 0) (h2 : st 2 = 0) (h3 : st 3 = 0) (b : Fin 2) (h : Fin 8) (d : Fin 64) :
    Host.dynamicSlice S1x2x8x64 x st sliceFits_S64x2x8x64_S1x2x8x64 (ix4 0 b h d) = x (ix4 k b h d) := by
  have c0 : Host.clampedStart S64x2x8x64 S1x2x8x64 sliceFits_S64x2x8x64_S1x2x8x64.1 st 0 = k.val :=
    Host.clampedStart_of_le (k := k.val) _ _ _ h0 (by change k.val + 1 ≤ 64; omega)
  have cz (a : Fin 4) (ha : st a = 0) : Host.clampedStart S64x2x8x64 S1x2x8x64 sliceFits_S64x2x8x64_S1x2x8x64.1 st a = 0 := clamp_zero _ _ _ ha
  refine congrArg x (funext fun a => Fin.ext ?_)
  match a with
  | ⟨0, _⟩ => exact c0
  | ⟨1, _⟩ => exact (congrArg (· + b.val) (cz 1 h1)).trans (Nat.zero_add _)
  | ⟨2, _⟩ => exact (congrArg (· + h.val) (cz 2 h2)).trans (Nat.zero_add _)
  | ⟨3, _⟩ => exact (congrArg (· + d.val) (cz 3 h3)).trans (Nat.zero_add _)

theorem slice5v (x : FVec Ideal S64x2x8x64x128 .f32) (st : Fin 5 → Int) (k : Fin 64) (h0 : st 0 = (k.val : Int)) (h1 : st 1 = 0) (h2 : st 2 = 0) (h3 : st 3 = 0) (h4 : st 4 = 0) (b : Fin 2) (h : Fin 8) (d : Fin 64) (u : Fin 128) :
    Host.dynamicSlice S1x2x8x64x128 x st sliceFits_S64x2x8x64x128_S1x2x8x64x128 (ix5 0 b h d u) = x (ix5 k b h d u) := by
  have c0 : Host.clampedStart S64x2x8x64x128 S1x2x8x64x128 sliceFits_S64x2x8x64x128_S1x2x8x64x128.1 st 0 = k.val :=
    Host.clampedStart_of_le (k := k.val) _ _ _ h0 (by change k.val + 1 ≤ 64; omega)
  have cz (a : Fin 5) (ha : st a = 0) : Host.clampedStart S64x2x8x64x128 S1x2x8x64x128 sliceFits_S64x2x8x64x128_S1x2x8x64x128.1 st a = 0 := clamp_zero _ _ _ ha
  refine congrArg x (funext fun a => Fin.ext ?_)
  match a with
  | ⟨0, _⟩ => exact c0
  | ⟨1, _⟩ => exact (congrArg (· + b.val) (cz 1 h1)).trans (Nat.zero_add _)
  | ⟨2, _⟩ => exact (congrArg (· + h.val) (cz 2 h2)).trans (Nat.zero_add _)
  | ⟨3, _⟩ => exact (congrArg (· + d.val) (cz 3 h3)).trans (Nat.zero_add _)
  | ⟨4, _⟩ => exact (congrArg (· + u.val) (cz 4 h4)).trans (Nat.zero_add _)

theorem slice5k (x : FVec Ideal S64x2x8x64x64 .f32) (st : Fin 5 → Int) (k : Fin 64) (h0 : st 0 = (k.val : Int)) (h1 : st 1 = 0) (h2 : st 2 = 0) (h3 : st 3 = 0) (h4 : st 4 = 0) (b : Fin 2) (h : Fin 8) (d : Fin 64) (u : Fin 64) :
    Host.dynamicSlice S1x2x8x64x64 x st sliceFits_S64x2x8x64x64_S1x2x8x64x64 (ix5 0 b h d u) = x (ix5 k b h d u) := by
  have c0 : Host.clampedStart S64x2x8x64x64 S1x2x8x64x64 sliceFits_S64x2x8x64x64_S1x2x8x64x64.1 st 0 = k.val :=
    Host.clampedStart_of_le (k := k.val) _ _ _ h0 (by change k.val + 1 ≤ 64; omega)
  have cz (a : Fin 5) (ha : st a = 0) : Host.clampedStart S64x2x8x64x64 S1x2x8x64x64 sliceFits_S64x2x8x64x64_S1x2x8x64x64.1 st a = 0 := clamp_zero _ _ _ ha
  refine congrArg x (funext fun a => Fin.ext ?_)
  match a with
  | ⟨0, _⟩ => exact c0
  | ⟨1, _⟩ => exact (congrArg (· + b.val) (cz 1 h1)).trans (Nat.zero_add _)
  | ⟨2, _⟩ => exact (congrArg (· + h.val) (cz 2 h2)).trans (Nat.zero_add _)
  | ⟨3, _⟩ => exact (congrArg (· + d.val) (cz 3 h3)).trans (Nat.zero_add _)
  | ⟨4, _⟩ => exact (congrArg (· + u.val) (cz 4 h4)).trans (Nat.zero_add _)

/-- A write into the counter's slab, read back. -/
theorem put5 (x : FVec Ideal S64x2x8x64x128 .f32) (y : FVec Ideal S1x2x8x64x128 .f32) (st : Fin 5 → Int) (k n : Fin 64) (h0 : st 0 = (k.val : Int)) (h1 : st 1 = 0) (h2 : st 2 = 0) (h3 : st 3 = 0) (h4 : st 4 = 0)
    (b : Fin 2) (h : Fin 8) (d : Fin 64) (u : Fin 128) :
    Host.dynamicUpdateSlice x y st updateFits_S64x2x8x64x128_S1x2x8x64x128 (ix5 n b h d u) = if n = k then y (ix5 0 b h d u) else x (ix5 n b h d u) := by
  have c0 : Host.clampedStart S64x2x8x64x128 S1x2x8x64x128 updateFits_S64x2x8x64x128_S1x2x8x64x128.1 st 0 = k.val :=
    Host.clampedStart_of_le (k := k.val) _ _ _ h0 (by change k.val + 1 ≤ 64; omega)
  have cz (a : Fin 5) (ha : st a = 0) : Host.clampedStart S64x2x8x64x128 S1x2x8x64x128 updateFits_S64x2x8x64x128_S1x2x8x64x128.1 st a = 0 := clamp_zero _ _ _ ha
  rw [Host.dynamicUpdateSlice_apply]
  by_cases hn : n = k
  · subst hn
    rw [if_pos rfl, dif_pos]
    · refine congrArg y (funext fun a => Fin.ext ?_)
      match a with
      | ⟨0, _⟩ => exact (congrArg (n.val - ·) c0).trans (Nat.sub_self _)
      | ⟨1, _⟩ => exact congrArg (b.val - ·) (cz 1 h1)
      | ⟨2, _⟩ => exact congrArg (h.val - ·) (cz 2 h2)
      | ⟨3, _⟩ => exact congrArg (d.val - ·) (cz 3 h3)
      | ⟨4, _⟩ => exact congrArg (u.val - ·) (cz 4 h4)
    · intro a
      match a with
      | ⟨0, _⟩ => exact ⟨c0.le, (Nat.lt_succ_self _).trans_eq (congrArg (· + 1) c0).symm⟩
      | ⟨1, _⟩ => exact ⟨(cz 1 h1).le.trans (Nat.zero_le _), b.isLt.trans_eq ((congrArg (· + 2) (cz 1 h1)).trans (Nat.zero_add _)).symm⟩
      | ⟨2, _⟩ => exact ⟨(cz 2 h2).le.trans (Nat.zero_le _), h.isLt.trans_eq ((congrArg (· + 8) (cz 2 h2)).trans (Nat.zero_add _)).symm⟩
      | ⟨3, _⟩ => exact ⟨(cz 3 h3).le.trans (Nat.zero_le _), d.isLt.trans_eq ((congrArg (· + 64) (cz 3 h3)).trans (Nat.zero_add _)).symm⟩
      | ⟨4, _⟩ => exact ⟨(cz 4 h4).le.trans (Nat.zero_le _), u.isLt.trans_eq ((congrArg (· + 128) (cz 4 h4)).trans (Nat.zero_add _)).symm⟩
  · rw [if_neg hn, dif_neg]
    intro hin
    have l0 : Host.clampedStart S64x2x8x64x128 S1x2x8x64x128 updateFits_S64x2x8x64x128_S1x2x8x64x128.1 st 0 ≤ n.val
      ∧ n.val < Host.clampedStart S64x2x8x64x128 S1x2x8x64x128 updateFits_S64x2x8x64x128_S1x2x8x64x128.1 st 0 + 1 := hin 0
    rw [c0] at l0
    exact hn (Fin.ext (by omega))

theorem step5_at (A' : FVec Ideal S1x2x8x64 .f32) (S : FVec Ideal S2x8x64x128 .f32) (C' : FVec Ideal S1x2x8x64x128 .f32)
    (b : Fin 2) (h : Fin 8) (d : Fin 64) (u : Fin 128) :
    addf (mulf (broadcastInDim S2x8x64x128 ![0, 1, 2, 3] bcast_S2x8x64x1_S2x8x64x128_0_1_2_3
      (broadcastInDim S2x8x64x1 ![0, 1, 2] bcast_S2x8x64_S2x8x64x1_0_1_2 (shapeCast S2x8x64 A' shapeCasts_S1x2x8x64_S2x8x64))) S)
      (shapeCast S2x8x64x128 C' shapeCasts_S1x2x8x64x128_S2x8x64x128) (ix4 b h d u) = A' (ix4 0 b h d) * S (ix4 b h d u) + C' (ix5 0 b h d u) := by
  pointwise

theorem step5 (V : Valuation τ sig (Elt Ideal)) (k : Fin 64) (hk : b4 V = fun _ => BitVec.ofNat 32 k.val)
    (b : Fin 2) (h : Fin 8) (d : Fin 64) (u : Fin 128) :
    b5 (STEP V) (ix4 b h d u) = b0 V (ix4 k b h d) * b5 V (ix4 b h d u) + b1 V (ix5 k b h d u) := by
  unfold b5 b0 b1
  rw [STEP_main_v50_5]
  unfold step_main_v50_5
  rw [show V (Proc.devRef .tc main_v50_4) = fun _ => BitVec.ofNat 32 k.val from hk]
  generalize V (Proc.devRef .tc main_v50_0) = A
  generalize V (Proc.devRef .tc main_v50_5) = S
  generalize V (Proc.devRef .tc main_v50_1) = C
  rw [← slice4 A (start4 k) k (toInt_small k) rfl rfl rfl, ← slice5v C (start5 k) k (toInt_small k) rfl rfl rfl rfl]
  generalize eA : Host.dynamicSlice S1x2x8x64 A (start4 k) sliceFits_S64x2x8x64_S1x2x8x64 = A'
  generalize eC : Host.dynamicSlice S1x2x8x64x128 C (start5 k) sliceFits_S64x2x8x64x128_S1x2x8x64x128 = C'
  exact step5_at A' S C' b h d u

theorem step6 (V : Valuation τ sig (Elt Ideal)) (k : Fin 64) (hk : b4 V = fun _ => BitVec.ofNat 32 k.val)
    (n : Fin 64) (b : Fin 2) (h : Fin 8) (i : Fin 64) (u : Fin 128) :
    b6 (STEP V) (ix5 n b h i u) = if n = k then b3 V (ix5 k b h i u) + ∑ d : Fin 64, b2 V (ix5 k b h i d) * b5 V (ix4 b h d u)
      else b6 V (ix5 n b h i u) := by
  unfold b5 b2 b3 b6
  rw [STEP_main_v50_6]
  unfold step_main_v50_6
  rw [show V (Proc.devRef .tc main_v50_4) = fun _ => BitVec.ofNat 32 k.val from hk]
  generalize V (Proc.devRef .tc main_v50_2) = A
  generalize V (Proc.devRef .tc main_v50_5) = S
  generalize V (Proc.devRef .tc main_v50_3) = C
  generalize V (Proc.devRef .tc main_v50_6) = D
  refine (put5 D _ (start5 k) k n (toInt_small k) rfl rfl rfl rfl b h i u).trans ?_
  rw [← slice5v C (start5 k) k (toInt_small k) rfl rfl rfl rfl]
  simp only [← slice5k A (start5 k) k (toInt_small k) rfl rfl rfl rfl]
  generalize eA : Host.dynamicSlice S1x2x8x64x64 A (start5 k) sliceFits_S64x2x8x64x64_S1x2x8x64x64 = A'
  generalize eC : Host.dynamicSlice S1x2x8x64x128 C (start5 k) sliceFits_S64x2x8x64x128_S1x2x8x64x128 = C'
  pointwise

/-- The loop's contents before trip `k`. -/
abbrev VK (k : Nat) : Valuation τ sig (Elt Ideal) := STEP^[k] (entryContents preI m c)

theorem VK_succ (k : Nat) : VK m c (k + 1) = STEP (VK m c k) := Function.iterate_succ_apply' _ _ _

theorem keep0 (k : Nat) : b0 (VK m c k) = b0 (VK m c 0) := by
  induction k with
  | zero => rfl
  | succ k ih => rw [VK_succ]; exact (STEP_main_v50_0 _).trans ih

theorem keep1 (k : Nat) : b1 (VK m c k) = b1 (VK m c 0) := by
  induction k with
  | zero => rfl
  | succ k ih => rw [VK_succ]; exact (STEP_main_v50_1 _).trans ih

theorem keep2 (k : Nat) : b2 (VK m c k) = b2 (VK m c 0) := by
  induction k with
  | zero => rfl
  | succ k ih => rw [VK_succ]; exact (STEP_main_v50_2 _).trans ih

theorem keep3 (k : Nat) : b3 (VK m c k) = b3 (VK m c 0) := by
  induction k with
  | zero => rfl
  | succ k ih => rw [VK_succ]; exact (STEP_main_v50_3 _).trans ih

theorem counter (k : Nat) : b4 (VK m c k) = fun _ => BitVec.ofNat 32 k := by
  induction k with
  | zero => exact ctr_entry m c
  | succ k ih =>
    rw [VK_succ]
    refine (STEP_main_v50_4 _).trans ?_
    unfold step_main_v50_4
    rw [show (VK m c k) (Proc.devRef .tc main_v50_4) = fun _ => BitVec.ofNat 32 k from ih]
    funext j
    exact (BitVec.ofNat_add k 1).symm

/-- The state before trip `k`. -/
theorem state_at (k : Nat) (hk : k ≤ 64) (b : Fin 2) (h : Fin 8) (d : Fin 64) (u : Fin 128) :
    b5 (VK m c k) (ix4 b h d u) = Cert.Gla.state (la m c b) (kOf (X m c) b) (vOf (X m c) b) h u (klane h d) k hk := by
  induction k with
  | zero =>
    unfold Cert.Gla.state
    refine (congrFun (entry5 m c) _).trans ?_
    pointwise
  | succ k ih =>
    rw [VK_succ, step5 _ ⟨k, by omega⟩ (counter m c k), ih (by omega), keep0, keep1]
    refine (congrArg₂ (fun x y => x * _ + y) (at0 m c _ b h d) (at1 m c _ b h d u)).trans ?_
    rw [Cert.Gla.state, mul_comm]

/-- The outputs written before trip `k`. -/
theorem outputs_at (k : Nat) (hk : k ≤ 64) (n : Fin 64) (hn : n.val < k) (b : Fin 2) (h : Fin 8) (i : Fin 64) (u : Fin 128) :
    b6 (VK m c k) (ix5 n b h i u) = Cert.Gla.mix (la m c b) (qOf (X m c) b) (kOf (X m c) b) (vOf (X m c) b) h n i u := by
  induction k with
  | zero => omega
  | succ k ih =>
    rw [VK_succ, step6 _ ⟨k, by omega⟩ (counter m c k)]
    by_cases e : n = ⟨k, by omega⟩
    · rw [if_pos e, keep2, keep3]
      rw [e]
      refine (congrArg₂ (· + ·) (at3 m c _ b h i u) (Finset.sum_congr rfl fun d _ => congrArg₂ (· * ·) (at2 m c _ b h i d) (state_at m c k (by omega) b h d u))).trans ?_
      rfl
    · rw [if_neg e]
      exact ih (by omega) (by have : n.val ≠ k := fun h => e (Fin.ext h); omega)

/-- What the operations after the loop make of its outputs. -/
theorem out_at (V : Valuation τ sig (Elt Ideal)) (b : Fin 2) (s : Fin 4096) (h : Fin 8) (u : Fin 128) :
    (out_main_v72 V : FVec Ideal S2x4096x1024 .bf16) (ix3 b s (vlane h u))
      = Cert.Gla.gated (fun e => b6 V (ix5 ⟨s.val / 64, by omega⟩ b h ⟨s.val % 64, by omega⟩ e)) (fun e => (show FVec Ideal S128 .f32 from V (Proc.devRef .tc main_arg4)) (ix1 e))
        (gOf (show FVec Ideal S2x4096x6144 .f32 from V (Proc.devRef .tc main_arg0)) b s (vlane h u)) u := by
  unfold out_main_v72 b6
  generalize V (Proc.devRef .tc main_v50_6) = O
  generalize V (Proc.devRef .tc main_arg4) = G
  generalize V (Proc.devRef .tc main_arg0) = X'
  pointwise [Cert.Gla.gated, gOf, vlane, Ideal.logistic]

/-- The reference's result. -/
theorem result_at (b : Fin 2) (s : Fin 4096) (h : Fin 8) (u : Fin 128) :
    (out_main_v72 (VK m c 64) : FVec Ideal S2x4096x1024 .bf16) (ix3 b s (vlane h u))
      = Cert.Gla.gated (Cert.Gla.mix (la m c b) (qOf (X m c) b) (kOf (X m c) b) (vOf (X m c) b) h ⟨s.val / 64, by omega⟩ ⟨s.val % 64, by omega⟩)
        (fun e => (show FVec Ideal S128 .f32 from m ((c.tc : Thread nD τ).loc main_arg4)) (ix1 e)) (gOf (X m c) b s (vlane h u)) u := by
  rw [out_at]
  have e4 : VK m c 64 (Proc.devRef .tc main_arg4) = m ((c.tc : Thread nD τ).loc main_arg4) := iter_main_arg4 m c 64
  have e0 : VK m c 64 (Proc.devRef .tc main_arg0) = m ((c.tc : Thread nD τ).loc main_arg0) := iter_main_arg0 m c 64
  rw [e4, e0]
  exact congrArg (fun f => Cert.Gla.gated f _ _ u) (funext fun e => outputs_at m c 64 (le_refl _) _ (by omega) b h _ e)

end Cert.GlaRef
end
-- ==== Proof.GlaOut.lean ====
module

public import proofs.«01_k».proof.Defs
public import proofs.«01_k».proof.Proof.GlaKer
public import proofs.«01_k».proof.Proof.GlaLoop
public import Idealize.ShloMosaic.Lib.Claim
public import Idealize.ShloMosaic.Lib.StableHlo.ReadAt

/- What the gated-linear-attention call computes, over the extended reals. -/

@[expose] public section

set_option maxRecDepth 65536

noncomputable section

namespace Cert.Gla

open Idealize.ShloMosaic Idealize.ShloMosaic.TcCoe Idealize.SL.Sem
open Cert.KernelIdeal Cert.KernelIdeal.Gen
open Cert.GlaRef (qOf kOf vOf gOf laOf)

/-- A token's log decays, from its gate's lanes. -/
theorem logs_at (x4 : FVec Ideal S1x256x128 .f32) (x5 : FVec Ideal S128x512 .bf16) (x6 : FVec Ideal S1x512 .f32)
    (r : Fin 256) (j : Fin 512) :
    logs (F := Ideal) x4 x5 x6 (ix2 r j) = decay ((∑ e : Fin 128, x4 (ix3 0 r e) * x5 (ix2 e j)) + x6 (ix2 0 j)) := by
  have e4 : (fun x => x4 ((Rect.unit ![0, 0, 0] S1x256x128.size inb_S1x256x128_S1x256x128_0_0_0).toLoadRect.idx x)) = x4 := by
    funext x
    refine congrArg x4 (funext fun a => Fin.ext ?_)
    fin_cases a
    · show 0 + 1 * (x 0).val = (x 0).val; omega
    · show 0 + 1 * (x 1).val = (x 1).val; omega
    · show 0 + 1 * (x 2).val = (x 2).val; omega
  have e5 : (fun x => x5 ((Rect.unit ![0, 0] S128x512.size inb_S128x512_S128x512_0_0).toLoadRect.idx x)) = x5 := by
    funext x
    refine congrArg x5 (funext fun a => Fin.ext ?_)
    fin_cases a
    · show 0 + 1 * (x 0).val = (x 0).val; omega
    · show 0 + 1 * (x 1).val = (x 1).val; omega
  have e6 : (fun x => x6 ((Rect.unit ![0, 0] S1x512.size inb_S1x512_S1x512_0_0).toLoadRect.idx x)) = x6 := by
    funext x
    refine congrArg x6 (funext fun a => Fin.ext ?_)
    fin_cases a
    · show 0 + 1 * (x 0).val = (x 0).val; omega
    · show 0 + 1 * (x 1).val = (x 1).val; omega
  refine (congrFun (congr (congr (congrArg (k0_pay3 (F := Ideal)) e4) e5) e6) (ix2 r j)).trans ?_
  pointwise [k0_pay3, decay]
  rfl

/-- A sum over 128 places of which all but 16 are zero. -/
theorem sum_first16 (f : Fin 128 → EReal) (g : Fin 16 → EReal)
    (h0 : ∀ e : Fin 16, f ⟨e.val, by omega⟩ = g e) (h1 : ∀ e : Fin 128, 16 ≤ e.val → f e = 0) :
    ∑ e : Fin 128, f e = ∑ e : Fin 16, g e := by
  refine (Fin.sum_univ_add (a := 16) (b := 112) f).trans ?_
  refine (congrArg₂ (· + ·) (Finset.sum_congr rfl fun e _ => h0 e) (Finset.sum_eq_zero fun e _ => h1 _ ?_)).trans (add_zero _)
  simp

variable (m : (ℓ : Loc nD τ sig) → Buf (Elt Ideal) ℓ)

/-- Every window's block index at every grid point. -/
theorem idx : ∀ t : Fin cfg0.N, win0_0.index t = ![t.val / 16, t.val % 16, 0]
    ∧ win0_1.index t = ![t.val / 16, t.val % 16, 1]
    ∧ win0_2.index t = ![t.val / 16, t.val % 16, 1]
    ∧ win0_3.index t = ![t.val / 16, t.val % 16, 2]
    ∧ win0_4.index t = ![t.val / 16, t.val % 16, 0]
    ∧ win0_5.index t = ![0, 0]
    ∧ win0_6.index t = ![0, 0]
    ∧ win0_7.index t = ![0, 0]
    ∧ win0_8.index t = ![t.val / 16, t.val % 16, 0] :=
  (by decide +kernel : ∀ t : Fin grid0.N, _)

/-- The projection, the gates, the gate weights, the gate bias and the gain. -/
abbrev aX (c : Dev nD) : FVec Ideal S2x4096x6144 .f32 := m ((c : Thread nD τ).loc main_arg0)
@[inherit_doc aX] abbrev aG (c : Dev nD) : FVec Ideal S2x4096x128 .f32 := m ((c : Thread nD τ).loc main_arg1)
@[inherit_doc aX] abbrev aW (c : Dev nD) : FVec Ideal S16x512 .f32 := m ((c : Thread nD τ).loc main_arg2)
@[inherit_doc aX] abbrev aB (c : Dev nD) : FVec Ideal S512 .f32 := m ((c : Thread nD τ).loc main_arg3)
@[inherit_doc aX] abbrev aN (c : Dev nD) : FVec Ideal S128 .f32 := m ((c : Thread nD τ).loc main_arg4)

/-- The blocks of a point, at their element types. -/
abbrev b0 (c : Dev nD) (t : Fin cfg0.N) : FVec Ideal S1x256x512 .f32 := iblk m c 0 t
@[inherit_doc b0] abbrev b1 (c : Dev nD) (t : Fin cfg0.N) : FVec Ideal S1x256x512 .f32 := iblk m c 1 t
@[inherit_doc b0] abbrev b2 (c : Dev nD) (t : Fin cfg0.N) : FVec Ideal S1x256x1024 .f32 := iblk m c 2 t
@[inherit_doc b0] abbrev b3 (c : Dev nD) (t : Fin cfg0.N) : FVec Ideal S1x256x1024 .f32 := iblk m c 3 t
@[inherit_doc b0] abbrev b4 (c : Dev nD) (t : Fin cfg0.N) : FVec Ideal S1x256x128 .f32 := iblk m c 4 t
@[inherit_doc b0] abbrev b5 (c : Dev nD) (t : Fin cfg0.N) : FVec Ideal S128x512 .bf16 := iblk m c 5 t
@[inherit_doc b0] abbrev b6 (c : Dev nD) (t : Fin cfg0.N) : FVec Ideal S1x512 .f32 := iblk m c 6 t
@[inherit_doc b0] abbrev b7 (c : Dev nD) (t : Fin cfg0.N) : FVec Ideal S1x128 .f32 := iblk m c 7 t

section

variable (c : Dev nD) (t : Fin cfg0.N) (b : Fin 2) (s : Fin 16) (hb : t.val / 16 = b.val) (hs : t.val % 16 = s.val)

include hb hs

theorem b0_at (r : Fin 256) (j : Fin 512) : b0 m c t (ix3 0 r j) = qOf (aX m c) b (row s r) j := by
  unfold qOf
  blk_point [iblk, V, idx t]

theorem b1_at (r : Fin 256) (j : Fin 512) : b1 m c t (ix3 0 r j) = kOf (aX m c) b (row s r) j := by
  unfold kOf
  blk_point [iblk, V, idx t]

theorem b2_at (r : Fin 256) (j : Fin 1024) : b2 m c t (ix3 0 r j) = vOf (aX m c) b (row s r) j := by
  unfold vOf
  blk_point [iblk, V, idx t]

theorem b3_at (r : Fin 256) (j : Fin 1024) : b3 m c t (ix3 0 r j) = gOf (aX m c) b (row s r) j := by
  unfold gOf
  blk_point [iblk, V, idx t]

theorem b4_at (r : Fin 256) (e : Fin 128) : b4 m c t (ix3 0 r e) = aG m c (ix3 b (row s r) e) := by
  blk_point [iblk, V, idx t]

omit hb hs

/-- The padded gate weights, as the call finds them. -/
theorem padded_at (e : Fin 128) (j : Fin 512) :
    (show FVec Ideal S128x512 .bf16 from V m c main_v1) (ix2 e j) = if h : e.val < 16 then aW m c (ix2 ⟨e.val, h⟩ j) else 0 := by
  have e0 : (FloatOps.sitofp FTy.f32 (0#32) : Ideal .f32) = (0 : EReal) := by
    change (((0#32 : BitVec 32).toInt : ℝ) : EReal) = 0
    simp
  unfold V
  after_reads_at
  rw [e0]

theorem bias_at (j : Fin 512) : (show FVec Ideal S1x512 .f32 from V m c main_v2) (ix2 0 j) = aB m c (ix1 j) := by
  unfold V
  after_reads_at

theorem gain_at (e : Fin 128) : (show FVec Ideal S1x128 .f32 from V m c main_v3) (ix2 0 e) = aN m c (ix1 e) := by
  unfold V
  after_reads_at

theorem b5_at (e : Fin 128) (j : Fin 512) : b5 m c t (ix2 e j) = if h : e.val < 16 then aW m c (ix2 ⟨e.val, h⟩ j) else 0 := by
  refine Eq.trans (congrArg (V m c main_v1) ?_) (padded_at m c e j)
  blk_ext [idx t]

theorem b6_at (j : Fin 512) : b6 m c t (ix2 0 j) = aB m c (ix1 j) := by
  refine Eq.trans (congrArg (V m c main_v2) ?_) (bias_at m c j)
  blk_ext [idx t]

theorem b7_at (e : Fin 128) : b7 m c t (ix2 0 e) = aN m c (ix1 e) := by
  refine Eq.trans (congrArg (V m c main_v3) ?_) (gain_at m c e)
  blk_ext [idx t]

end

/-- The log decays of batch entry `b`. -/
abbrev aLa (c : Dev nD) (b : Fin 2) : Fin 4096 → Fin 512 → EReal := laOf (aG m c) (aW m c) (aB m c) b

/-- A point's log decays. -/
theorem logs_row (c : Dev nD) (t : Fin cfg0.N) (b : Fin 2) (s : Fin 16) (hb : t.val / 16 = b.val) (hs : t.val % 16 = s.val)
    (r : Fin 256) (j : Fin 512) :
    logs (F := Ideal) (b4 m c t) (b5 m c t) (b6 m c t) (ix2 r j) = aLa m c b (row s r) j := by
  rw [logs_at]
  unfold aLa laOf
  refine congrArg decay (congrArg₂ (· + ·) ?_ (b6_at m c t j))
  refine sum_first16 _ _ (fun e => ?_) fun e he => ?_
  · rw [b4_at m c t b s hb hs, b5_at, dif_pos e.isLt]
  · rw [b5_at, dif_neg (by omega), mul_zero]

theorem la_ne_top (c : Dev nD) (b : Fin 2) (r : Fin 4096) (j : Fin 512) : aLa m c b r j ≠ ⊤ := decay_ne_top _

/-- The grid point of block `s` of batch entry `b`. -/
abbrev pt (b : Fin 2) (s : ℕ) (hs : s < 16) : Fin cfg0.N := ⟨16 * b.val + s, by rw [show cfg0.N = 32 from N_0]; omega⟩

/-- The state of head `h` of batch entry `b`. -/
abbrev aState (c : Dev nD) (b : Fin 2) (h : ℕ) (hh : h < 8) (u l : Fin 128) (n : ℕ) (hn : n ≤ 64) : EReal :=
  state (aLa m c b) (kOf (aX m c) b) (vOf (aX m c) b) ⟨h, hh⟩ u ⟨128 * (h / 2) + l.val, by omega⟩ n hn

/-- The state a point starts from, run through its chunks. -/
theorem stAt_pt (c : Dev nD) (b : Fin 2) (s : ℕ) (hs : s < 16) (h : ℕ) (hh : h < 8) (s0 : FVec Ideal S1x128x128 .f32)
    (h0 : ∀ u l, s0 (ix3 0 u l) = aState m c b h hh u l (4 * s) (by omega)) (n : ℕ) (hn : n ≤ 4) (u l : Fin 128) :
    stAt (F := Ideal) (logs (F := Ideal) (b4 m c (pt b s hs)) (b5 m c (pt b s hs)) (b6 m c (pt b s hs))) (b1 m c (pt b s hs)) (b2 m c (pt b s hs)) h hh s0 n hn (ix3 0 u l)
      = aState m c b h hh u l (4 * s + n) (by omega) :=
  have e1 : (pt b s hs).val / 16 = b.val := by simp only; omega
  have e2 : (pt b s hs).val % 16 = s := by simp only; omega
  stAt_state (aLa m c b) (kOf (aX m c) b) (vOf (aX m c) b) ⟨s, hs⟩ _ _ _
    (logs_row m c _ b ⟨s, hs⟩ e1 e2) (la_ne_top m c b) (b1_at m c _ b ⟨s, hs⟩ e1 e2) (b2_at m c _ b ⟨s, hs⟩ e1 e2) h hh s0 h0 n hn u l

/-- A fresh state is zero. -/
theorem fresh_at (h : ℕ) (hh : h < 8) (u l : Fin 128) : ldS (F := Ideal) (k0_pay2 (F := Ideal)) h hh (ix3 0 u l) = (0 : EReal) := by
  unfold ldS
  generalize (boxS h hh).toLoadRect.idx (ix3 0 u l) = x
  idx_vars x
  pointwise [k0_pay2]

set_option maxHeartbeats 400000 in
/-- The states after a row's first point. -/
theorem statesA (c : Dev nD) (t : Fin cfg0.N) (h0 : t.val % 16 = 0) (h : ℕ) (hh : h < 8) :
    ldS (F := Ideal) (outsAt0 m c t.val t.isLt).2 h hh
      = stAt (F := Ideal) (logs (F := Ideal) (b4 m c t) (b5 m c t) (b6 m c t)) (b1 m c t) (b2 m c t) h hh (ldS (F := Ideal) (k0_pay2 (F := Ideal)) h hh) 4 (le_refl _) :=
  (congrArg (fun p => ldS (F := Ideal) p.2 h hh) (outsAt0_A m c t h0)).trans
    (stateA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (b0 m c t) (b1 m c t) (b2 m c t) (b3 m c t) (b4 m c t) (b5 m c t) (b6 m c t) (b7 m c t) h hh)

set_option maxHeartbeats 400000 in
/-- The states after a later point of a row. -/
theorem statesB (c : Dev nD) (t : Fin cfg0.N) (h0 : ¬t.val % 16 = 0) (h : ℕ) (hh : h < 8) :
    ldS (F := Ideal) (outsAt0 m c t.val t.isLt).2 h hh
      = stAt (F := Ideal) (logs (F := Ideal) (b4 m c t) (b5 m c t) (b6 m c t)) (b1 m c t) (b2 m c t) h hh
        (ldS (F := Ideal) (outsAt0 m c (t.val - 1) (Nat.lt_of_le_of_lt (Nat.sub_le _ _) t.isLt)).2 h hh) 4 (le_refl _) :=
  (congrArg (fun p => ldS (F := Ideal) p.2 h hh) (outsAt0_B m c t h0)).trans
    (stateB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (b0 m c t) (b1 m c t) (b2 m c t) (b3 m c t) (b4 m c t) (b5 m c t) (b6 m c t) (b7 m c t) _ h hh)

set_option maxHeartbeats 400000 in
/-- The tiles of a row's first point. -/
theorem tilesA (c : Dev nD) (t : Fin cfg0.N) (h0 : t.val % 16 = 0) (n h : ℕ) (hn : n < 4) (hh : h < 8) :
    ldO (F := Ideal) (outsAt0 m c t.val t.isLt).1 n h hn hh
      = outTile (F := Ideal) (logs (F := Ideal) (b4 m c t) (b5 m c t) (b6 m c t)) (b0 m c t) (b1 m c t) (b2 m c t) (b3 m c t) (b7 m c t) n h hn hh
        (stAt (F := Ideal) (logs (F := Ideal) (b4 m c t) (b5 m c t) (b6 m c t)) (b1 m c t) (b2 m c t) h hh (ldS (F := Ideal) (k0_pay2 (F := Ideal)) h hh) n (by omega)) :=
  (congrArg (fun p => ldO (F := Ideal) p.1 n h hn hh) (outsAt0_A m c t h0)).trans
    (tileA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (b0 m c t) (b1 m c t) (b2 m c t) (b3 m c t) (b4 m c t) (b5 m c t) (b6 m c t) (b7 m c t) n h hn hh)

set_option maxHeartbeats 400000 in
/-- The tiles of a later point of a row. -/
theorem tilesB (c : Dev nD) (t : Fin cfg0.N) (h0 : ¬t.val % 16 = 0) (n h : ℕ) (hn : n < 4) (hh : h < 8) :
    ldO (F := Ideal) (outsAt0 m c t.val t.isLt).1 n h hn hh
      = outTile (F := Ideal) (logs (F := Ideal) (b4 m c t) (b5 m c t) (b6 m c t)) (b0 m c t) (b1 m c t) (b2 m c t) (b3 m c t) (b7 m c t) n h hn hh
        (stAt (F := Ideal) (logs (F := Ideal) (b4 m c t) (b5 m c t) (b6 m c t)) (b1 m c t) (b2 m c t) h hh
          (ldS (F := Ideal) (outsAt0 m c (t.val - 1) (Nat.lt_of_le_of_lt (Nat.sub_le _ _) t.isLt)).2 h hh) n (by omega)) :=
  (congrArg (fun p => ldO (F := Ideal) p.1 n h hn hh) (outsAt0_B m c t h0)).trans
    (tileB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (b0 m c t) (b1 m c t) (b2 m c t) (b3 m c t) (b4 m c t) (b5 m c t) (b6 m c t) (b7 m c t) _ n h hn hh)

/-- The states after a point. -/
theorem state_pt (c : Dev nD) (b : Fin 2) (h : ℕ) (hh : h < 8) (u l : Fin 128) : ∀ (s : ℕ) (hs : s < 16),
    ldS (F := Ideal) (outsAt0 m c (pt b s hs).val (pt b s hs).isLt).2 h hh (ix3 0 u l) = aState m c b h hh u l (4 * s + 4) (by omega)
  | 0, hs => (congrFun (statesA m c (pt b 0 hs) (by simp only; omega) h hh) (ix3 0 u l)).trans
      (stAt_pt m c b 0 hs h hh _ (fun u l => fresh_at h hh u l) 4 (le_refl _) u l)
  | s + 1, hs => (congrFun (statesB m c (pt b (s + 1) hs) (by simp only; omega) h hh) (ix3 0 u l)).trans
      (stAt_pt m c b (s + 1) hs h hh _ (fun u l => state_pt c b h hh u l s (by omega)) 4 (le_refl _) u l)

/-- The result at token `s` of batch entry `b`, value lane `u` of head `h`. -/
def resAt (c : Dev nD) (b : Fin 2) (h : Fin 8) (n i : Fin 64) (u : Fin 128) : EReal :=
  gated (mix (aLa m c b) (qOf (aX m c) b) (kOf (aX m c) b) (vOf (aX m c) b) h n i) (fun e => aN m c (ix1 e))
    (gOf (aX m c) b (tok n i) (vlane h u)) u

/-- A tile over the state it starts from. -/
theorem outTile_pt (c : Dev nD) (b : Fin 2) (s : ℕ) (hs : s < 16) (n h : ℕ) (hn : n < 4) (hh : h < 8) (s0 : FVec Ideal S1x128x128 .f32)
    (h0 : ∀ u l, s0 (ix3 0 u l) = aState m c b h hh u l (4 * s) (by omega)) (t : Fin cfg0.N) (ht : t = pt b s hs) (i : Fin 64) (u : Fin 128) :
    outTile (F := Ideal) (logs (F := Ideal) (b4 m c t) (b5 m c t) (b6 m c t)) (b0 m c t) (b1 m c t) (b2 m c t) (b3 m c t) (b7 m c t) n h hn hh
        (stAt (F := Ideal) (logs (F := Ideal) (b4 m c t) (b5 m c t) (b6 m c t)) (b1 m c t) (b2 m c t) h hh s0 n (by omega)) (ix3 0 i u)
      = resAt m c b ⟨h, hh⟩ (chunk ⟨s, hs⟩ n hn) i u := by
  have e1 : t.val / 16 = b.val := by subst ht; simp only; omega
  have e2 : t.val % 16 = s := by subst ht; simp only; omega
  refine (outTile_gated (aLa m c b) (qOf (aX m c) b) (kOf (aX m c) b) (vOf (aX m c) b) (gOf (aX m c) b) ⟨s, hs⟩ _ _ _ _ _
    (logs_row m c t b ⟨s, hs⟩ e1 e2) (la_ne_top m c b) (b0_at m c t b ⟨s, hs⟩ e1 e2) (b1_at m c t b ⟨s, hs⟩ e1 e2)
    (b2_at m c t b ⟨s, hs⟩ e1 e2) (b3_at m c t b ⟨s, hs⟩ e1 e2) h hh _ (b7 m c t) n hn ?_ i u).trans ?_
  · subst ht
    exact fun u l => stAt_pt m c b s hs h hh s0 h0 n (by omega) u l
  · unfold resAt
    simp only [b7_at]

/-- A point's tiles. -/
theorem tile_pt (c : Dev nD) (b : Fin 2) (n h : ℕ) (hn : n < 4) (hh : h < 8) (i : Fin 64) (u : Fin 128) : ∀ (s : ℕ) (hs : s < 16),
    ldO (F := Ideal) (outsAt0 m c (pt b s hs).val (pt b s hs).isLt).1 n h hn hh (ix3 0 i u) = resAt m c b ⟨h, hh⟩ (chunk ⟨s, hs⟩ n hn) i u
  | 0, hs => (congrFun (tilesA m c (pt b 0 hs) (by simp only; omega) n h hn hh) (ix3 0 i u)).trans
      (outTile_pt m c b 0 hs n h hn hh _ (fun u l => fresh_at h hh u l) _ rfl i u)
  | s + 1, hs => (congrFun (tilesB m c (pt b (s + 1) hs) (by simp only; omega) n h hn hh) (ix3 0 i u)).trans
      (outTile_pt m c b (s + 1) hs n h hn hh _ (fun u l => state_pt m c b h hh u l s (by omega)) _ rfl i u)

/-- The result over the kernel's arguments. -/
def resK (c : Dev nD) : FVec Ideal S2x4096x1024 .bf16 := fun i =>
  resAt m c (i 0) ⟨(i 2).val / 128, by have h : (i 2).val < 1024 := (i 2).isLt; omega⟩ ⟨(i 1).val / 64, by have h : (i 1).val < 4096 := (i 1).isLt; omega⟩
    ⟨(i 1).val % 64, Nat.mod_lt _ (by decide)⟩ ⟨(i 2).val % 128, Nat.mod_lt _ (by decide)⟩

/-- What a point stores in its block of the result. -/
theorem point_res (c : Dev nD) (t : Fin cfg0.N) (y : S1x256x1024.Idx) :
    (outsAt0 m c t.val t.isLt).1 y = resK m c (((cfg0.win 8).blk t).view.emb y) := by
  have hN : t.val < 32 := lt_of_lt_of_eq t.isLt (show cfg0.N = 32 from N_0)
  have h0 : (y 0).val < 1 := (y 0).isLt
  have h1 : (y 1).val < 256 := (y 1).isLt
  have h2 : (y 2).val < 1024 := (y 2).isLt
  have hn : (y 1).val / 64 < 4 := by omega
  have hh : (y 2).val / 128 < 8 := by omega
  have et : pt ⟨t.val / 16, by omega⟩ (t.val % 16) (Nat.mod_lt _ (by decide)) = t := Fin.ext (by simp only; omega)
  have e := tile_pt m c ⟨t.val / 16, by omega⟩ ((y 1).val / 64) ((y 2).val / 128) hn hh ⟨(y 1).val % 64, Nat.mod_lt _ (by decide)⟩
    ⟨(y 2).val % 128, Nat.mod_lt _ (by decide)⟩ (t.val % 16) (Nat.mod_lt _ (by decide))
  rw [et] at e
  have v0 : ((((cfg0.win 8).blk t).view.emb y) 0).val = t.val / 16 := by blk_simp [idx t]
  have v1 : ((((cfg0.win 8).blk t).view.emb y) 1).val = 256 * (t.val % 16) + (y 1).val := by blk_simp [idx t]; omega
  have v2 : ((((cfg0.win 8).blk t).view.emb y) 2).val = (y 2).val := by blk_simp [idx t]
  refine Eq.trans ?_ (e.trans ?_)
  · refine congrArg (outsAt0 m c t.val t.isLt).1 (funext fun a => Fin.ext ?_)
    fin_cases a
    · show (y 0).val = 0 + 1 * 0; omega
    · show (y 1).val = 64 * ((y 1).val / 64) + 1 * ((y 1).val % 64); omega
    · show (y 2).val = 128 * ((y 2).val / 128) + 1 * ((y 2).val % 128); omega
  · generalize ((cfg0.win 8).blk t).view.emb y = z at v0 v1 v2
    unfold resK
    congr 1
    · exact Fin.ext v0.symm
    · exact Fin.ext (by simp only [v2])
    · exact Fin.ext (by simp only [v1]; omega)
    · exact Fin.ext (by simp only [v1]; omega)
    · exact Fin.ext (by simp only [v2])

/-- The result after the run. -/
theorem final (c : Dev nD) : (dats m 0 c).arrAt 8 (cfgs 0).N = resK m c := by
  refine (dats m 0 c).arrAt_eq_of_covers 8 _ (by decide +kernel) fun t hf y => ?_
  blk_simp; rw [after0_8]
  exact point_res m c t y

/-- The common result, of the arguments. -/
def whole (X : FVec Ideal S2x4096x6144 .f32) (G : FVec Ideal S2x4096x128 .f32) (W : FVec Ideal S16x512 .f32) (B : FVec Ideal S512 .f32)
    (N : FVec Ideal S128 .f32) : FVec Ideal S2x4096x1024 .bf16 := fun i =>
  gated (mix (laOf G W B (i 0)) (qOf X (i 0)) (kOf X (i 0)) (vOf X (i 0))
      ⟨(i 2).val / 128, by have h : (i 2).val < 1024 := (i 2).isLt; omega⟩
      ⟨(i 1).val / 64, by have h : (i 1).val < 4096 := (i 1).isLt; omega⟩ ⟨(i 1).val % 64, Nat.mod_lt _ (by decide)⟩)
    (fun e => N (ix1 e)) (gOf X (i 0) (i 1) (i 2)) ⟨(i 2).val % 128, Nat.mod_lt _ (by decide)⟩

/-- The kernel leaves it, -/
theorem resK_whole (c : Dev nD) : resK m c = whole (aX m c) (aG m c) (aW m c) (aB m c) (aN m c) := by
  funext i
  unfold resK resAt whole aLa
  have et : tok ⟨(i 1).val / 64, by have h : (i 1).val < 4096 := (i 1).isLt; omega⟩ ⟨(i 1).val % 64, Nat.mod_lt _ (by decide)⟩ = i 1 :=
    Fin.ext (by simp only [tok]; omega)
  have ev : vlane ⟨(i 2).val / 128, by have h : (i 2).val < 1024 := (i 2).isLt; omega⟩ ⟨(i 2).val % 128, Nat.mod_lt _ (by decide)⟩ = i 2 :=
    Fin.ext (by simp only [vlane]; omega)
  rw [et, ev]

/-- and so does the reference. -/
theorem ref_whole (m' : (ℓ : Loc Cert.ReferenceIdeal.nD Cert.ReferenceIdeal.τ Cert.ReferenceIdeal.sig) → Buf (Elt Ideal) ℓ)
    (c : Dev Cert.ReferenceIdeal.nD) :
    (Cert.ReferenceIdeal.Value.out_main_v72 (Cert.GlaRef.VK m' c 64) : FVec Ideal S2x4096x1024 .bf16)
      = whole (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  generalize e : (Cert.ReferenceIdeal.Value.out_main_v72 (Cert.GlaRef.VK m' c 64) : FVec Ideal S2x4096x1024 .bf16) = R
  have key := fun b s h u => (congrFun e (ix3 b s (vlane h u))).symm.trans (Cert.GlaRef.result_at m' c b s h u)
  clear e
  have at_j : ∀ (b : Fin 2) (s : Fin 4096) (j : Fin 1024), R (ix3 b s j) = whole _ _ _ _ _ (ix3 b s j) := fun b s j => by
    have ev : vlane ⟨j.val / 128, by omega⟩ ⟨j.val % 128, Nat.mod_lt _ (by decide)⟩ = j := Fin.ext (by simp only [vlane]; omega)
    have k := key b s ⟨j.val / 128, by omega⟩ ⟨j.val % 128, Nat.mod_lt _ (by decide)⟩
    rw [ev] at k
    exact k
  funext i
  idx_vars i
  exact at_j _ _ _

/-- The kernel's run, with its result named. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v4) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h c).1.trans (final m c), (h c).2⟩) (Cert.KernelIdeal.Value.run_blocks m g)

/-- Kernel and reference leave the same result. -/
theorem algebraic : _root_.Cert.algebraic_KernelIdeal_ReferenceIdeal := by
  intro m g m' g' _ ha
  refine ⟨fun c => resK m c, run_kernel m g, ?_⟩
  refine (θ_run _ _ _).mono (fun r h c => ⟨(h c).1.trans ?_, (h c).2⟩) (Cert.ReferenceIdeal.Value.run m' g')
  refine (ref_whole m' c).trans (Eq.trans ?_ (resK_whole m c).symm)
  rw [(ha c).1, (ha c).2.1, (ha c).2.2.1, (ha c).2.2.2.1, (ha c).2.2.2.2]

end Cert.Gla
end
-- ==== Proof.PrepSpec.lean ====
module

public import Idealize.ShloMosaic.Lib.Pipeline.ValueKit
public import Idealize.ShloMosaic.Lib.Pointwise

/- A head normed and rotated by its token's position, over the extended reals. -/

@[expose] public section

set_option maxRecDepth 16384

noncomputable section

namespace Cert.Prep

open Idealize.ShloMosaic Idealize.ShloMosaic.TcCoe Idealize.SL.Sem

/-- The RMS norm of one head's 128 lanes, at lane `d`. -/
def headNorm (f g : Fin 128 → EReal) (d : Fin 128) : EReal :=
  f d * Ideal.rsqrt (Ideal.div (∑ e, f e * f e) (Ideal.ofBits FTy.f32 0x43000000#32) + Ideal.ofBits FTy.f32 0x358637BD#32) * g d

/-- The rotary frequency of lane `l`. -/
def freq (l : Fin 16) : EReal :=
  Ideal.pow (Ideal.ofBits FTy.f32 0x48F42400#32)
    (-(FloatOps.sitofp (F := Ideal) FTy.f32 (BitVec.ofNat 32 l.val) : EReal) * Ideal.ofBits FTy.f32 0x3D800000#32)

/-- The rotary angle of lane `l` at a token's position. -/
def angle (p : BitVec 32) (l : Fin 16) : EReal := (FloatOps.sitofp (F := Ideal) FTy.f32 p : EReal) * freq l

/-- Lane `d` of a head whose first 32 lanes are rotated and the others kept. -/
def rot (y : Fin 128 → EReal) (a : Fin 16 → EReal) (d : Fin 128) : EReal :=
  if h : d.val < 16 then y d * Ideal.cos (a ⟨d.val, h⟩) - y ⟨d.val + 16, by omega⟩ * Ideal.sin (a ⟨d.val, h⟩)
  else if h' : d.val < 32 then
    y d * Ideal.cos (a ⟨d.val - 16, by omega⟩) + y ⟨d.val - 16, by omega⟩ * Ideal.sin (a ⟨d.val - 16, by omega⟩)
  else y d

/-- A token's head, normed and rotated. -/
def head (x : Fin 1024 → EReal) (g : Fin 128 → EReal) (p : BitVec 32) (h : Fin 8) (d : Fin 128) : EReal :=
  rot (headNorm (fun e => x ⟨h.val * 128 + e.val, by omega⟩) g) (angle p) d

end Cert.Prep
end
-- ==== Proof.PrepTile.lean ====
module

public import proofs.«01_k».proof.Proof.PrepSpec
public import proofs.«01_k».proof.Proof.Gen.Kernel6Ideal.Value
public import Idealize.ShloMosaic.Lib.Claim

/- One head of one block of tokens, as the call that prepares MoBA's operands computes it. -/

@[expose] public section

set_option maxRecDepth 65536

noncomputable section

namespace Cert.Prep

open Idealize.ShloMosaic Idealize.ShloMosaic.TcCoe Idealize.SL.Sem
open Cert.Kernel6Ideal Cert.Kernel6Ideal.Gen

theorem slt_iff16 : ∀ d : Fin 128, (IntOp.cmpi CmpIPredicate.slt (BitVec.ofNat 32 d.val) 16#32 = 1) ↔ d.val < 16 := by decide +kernel

theorem slt_iff32 : ∀ d : Fin 128, (IntOp.cmpi CmpIPredicate.slt (BitVec.ofNat 32 d.val) 32#32 = 1) ↔ d.val < 32 := by decide +kernel

theorem mix_at (cs sl sh : FVec Ideal S256x128 .f32) (X : FVec Ideal S1x256x128 .f32) (g : FVec Ideal S1x128 .f32) (r : Fin 256) (d : Fin 128) :
    k0_pay35 (F := Ideal) cs sl sh X g (ix2 r d)
      = headNorm (fun e => X (ix3 0 r e)) (fun e => g (ix2 0 e)) d * cs (ix2 r d)
        + headNorm (fun e => X (ix3 0 r e)) (fun e => g (ix2 0 e)) ⟨(d.val + 16) % 128, by omega⟩ * sl (ix2 r d)
        + headNorm (fun e => X (ix3 0 r e)) (fun e => g (ix2 0 e)) ⟨(d.val + 112) % 128, by omega⟩ * sh (ix2 r d) := by
  have e1 : ∀ h, (⟨(d.val + 128 - 112) % 128, h⟩ : Fin 128) = ⟨(d.val + 16) % 128, by omega⟩ := fun _ => Fin.ext (by simp only; omega)
  have e2 : ∀ h, (⟨(d.val + 128 - 16) % 128, h⟩ : Fin 128) = ⟨(d.val + 112) % 128, by omega⟩ := fun _ => Fin.ext (by simp only; omega)
  pointwise [k0_pay35, headNorm]
  rw [e1, e2]

theorem cos_at (p : FVec Ideal S1x256x1 .f32) (f : FVec Ideal S1x128 .f32) (r : Fin 256) (d : Fin 128) :
    k0_pay3 (F := Ideal) p f (ix2 r d) = Ideal.cos (p (ix3 0 r 0) * f (ix2 0 d)) := by
  pointwise [k0_pay3, k0_pay2]

theorem sinlo_at (p : FVec Ideal S1x256x1 .f32) (f : FVec Ideal S1x128 .f32) (r : Fin 256) (d : Fin 128) :
    k0_pay5 (F := Ideal) p f (ix2 r d) = if d.val < 16 then -Ideal.sin (p (ix3 0 r 0) * f (ix2 0 d)) else 0 := by
  pointwise [k0_pay5, k0_pay4, k0_pay2]
  unfold Scalar.select
  simp only [slt_iff16, zero_sub]

theorem sinhi_at (p : FVec Ideal S1x256x1 .f32) (f : FVec Ideal S1x128 .f32) (r : Fin 256) (d : Fin 128) :
    k0_pay6 (F := Ideal) p f (ix2 r d) = if d.val < 16 then 0 else if d.val < 32 then Ideal.sin (p (ix3 0 r 0) * f (ix2 0 d)) else 0 := by
  pointwise [k0_pay6, k0_pay4, k0_pay2]
  unfold Scalar.select
  simp only [slt_iff16, slt_iff32]

/-- The query's tile. -/
def qTile (y : FVec Ideal S256x128 .f32) : FVec Ideal S1x128x256 .bf16 := k0_pay36 (F := Ideal) y (Scalar.ofBits .f32 0x3E0293EE#32)

theorem qTile_at (y : FVec Ideal S256x128 .f32) (d : Fin 128) (r : Fin 256) :
    qTile y (ix3 0 d r) = y (ix2 r d) * Ideal.ofBits FTy.f32 0x3E0293EE#32 := by
  pointwise [qTile, k0_pay36]

/-- The key's tile. -/
def kTile (y : FVec Ideal S256x128 .f32) : FVec Ideal S1x256x128 .bf16 :=
  shapeCast S1x256x128 (truncf .bf16 y bitsLt_bf16_f32) shapeCasts_S256x128_S1x256x128

theorem kTile_at (y : FVec Ideal S256x128 .f32) (d : Fin 128) (r : Fin 256) :
    kTile y (ix3 0 r d) = y (ix2 r d) := by
  pointwise [kTile]

/-- The key's tile, averaged over its tokens. -/
def meanTile (y : FVec Ideal S256x128 .f32) : FVec Ideal S1x1x1x128 .f32 :=
  k0_pay40 (F := Ideal) (divf (shapeCast S1x128 (multiReduction .add [0] S128 y 0x00000000#32 reduces_S256x128_S128 (.inl rfl) rfl) shapeCasts_S128_S1x128)
    (broadcast S1x128 (Scalar.ofBits .f32 0x43800000#32)))

theorem meanTile_at (y : FVec Ideal S256x128 .f32) (d : Fin 128) :
    meanTile y (ix4 0 0 0 d) = Ideal.div (∑ r : Fin 256, y (ix2 r d)) (Ideal.ofBits FTy.f32 0x43800000#32) := by
  pointwise [meanTile, k0_pay40]

theorem vTile_at (x : FVec Ideal S1x256x128 .f32) (d : Fin 128) (r : Fin 256) :
    k0_pay1 (F := Ideal) x (ix3 0 d r) = x (ix3 0 r d) := by
  pointwise [k0_pay1]

/-- The lanes of a block of tokens' head, normed and rotated. -/
def tile (p : FVec Ideal S1x256x1 .f32) (f : FVec Ideal S1x128 .f32) (X : FVec Ideal S1x256x128 .f32) (g : FVec Ideal S1x128 .f32) : FVec Ideal S256x128 .f32 :=
  k0_pay35 (F := Ideal) (k0_pay3 (F := Ideal) p f) (k0_pay5 (F := Ideal) p f) (k0_pay6 (F := Ideal) p f) X g

theorem cos_zero : Ideal.cos 0 = 1 := by
  change ((Real.cos 0 : ℝ) : EReal) = 1
  rw [Real.cos_zero]
  rfl

/-- The tile, where the frequencies are those of the first 32 lanes and zero beyond. -/
theorem tile_at (p : FVec Ideal S1x256x1 .f32) (f : FVec Ideal S1x128 .f32) (X : FVec Ideal S1x256x128 .f32) (g : FVec Ideal S1x128 .f32)
    (r : Fin 256) (d : Fin 128) (q : BitVec 32) (hp : p (ix3 0 r 0) = FloatOps.sitofp (F := Ideal) FTy.f32 q)
    (hf : f (ix2 0 d) = if h : d.val < 16 then freq ⟨d.val, h⟩ else if h' : d.val < 32 then freq ⟨d.val - 16, by omega⟩ else 0) :
    tile p f X g (ix2 r d) = rot (headNorm (fun e => X (ix3 0 r e)) (fun e => g (ix2 0 e))) (angle q) d := by
  unfold tile
  rw [mix_at, cos_at, sinlo_at, sinhi_at, hp, hf]
  unfold rot angle
  by_cases h1 : d.val < 16
  · simp only [dif_pos h1, if_pos h1]
    have e1 : (⟨(d.val + 16) % 128, by omega⟩ : Fin 128) = ⟨d.val + 16, by omega⟩ := Fin.ext (by simp only; omega)
    rw [e1, mul_zero, add_zero, mul_neg, sub_eq_add_neg]
  · by_cases h2 : d.val < 32
    · simp only [dif_neg h1, if_neg h1, dif_pos h2, if_pos h2]
      have e1 : (⟨(d.val + 112) % 128, by omega⟩ : Fin 128) = ⟨d.val - 16, by omega⟩ := Fin.ext (by simp only; omega)
      rw [e1, mul_zero, add_zero]
    · simp only [dif_neg h1, if_neg h1, dif_neg h2, if_neg h2]
      rw [mul_zero, mul_zero, mul_zero, add_zero, add_zero, cos_zero, mul_one]

end Cert.Prep
end
-- ==== Proof.PrepRef.lean ====
module

public import proofs.«01_k».proof.Proof.Gen.Reference6Ideal.Run
public import proofs.«01_k».proof.Proof.PrepSpec
public import Idealize.ShloMosaic.Lib.Claim
public import Idealize.ShloMosaic.Lib.Pipeline.ValueKit
public import Idealize.ShloMosaic.Lib.Pointwise

/- What the reference's query, key, value and block-mean arrays hold, over the extended reals. -/

@[expose] public section

set_option maxRecDepth 16384

noncomputable section

namespace Cert.PrepRef

open Idealize.ShloMosaic Idealize.ShloMosaic.TcCoe Idealize.SL.Sem
open Cert.Reference6Ideal Cert.Reference6Ideal.Gen Cert.Reference6Ideal.Value
open Cert.Prep

/-- The heads of a slice of the projection, normed. -/
def normed (x : FVec Ideal S2x4096x1024 .f32) (g : FVec Ideal S128 .f32) : FVec Ideal S2x8x4096x128 .f32 :=
  transpose S2x8x4096x128 [0, 2, 1, 3] (mulf (mulf (shapeCast _ x shapeCasts_S2x4096x1024_S2x4096x8x128) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (shapeCast _ x shapeCasts_S2x4096x1024_S2x4096x8x128) (shapeCast _ x shapeCasts_S2x4096x1024_S2x4096x8x128)) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 g))) transposes_S2x4096x8x128_S2x8x4096x128_0_2_1_3

/-- The rotary angles. -/
def angles (p : IVec S2x4096 32) : FVec Ideal S2x1x4096x16 .f32 :=
  mulf (broadcastInDim S2x1x4096x16 ![0, 1, 2, 3] bcast_S2x1x4096x1_S2x1x4096x16_0_1_2_3 (broadcastInDim S2x1x4096x1 ![0, 2] bcast_S2x4096_S2x1x4096x1_0_2 (sitofp .f32 p))) (broadcastInDim S2x1x4096x16 ![0, 1, 2, 3] bcast_S1x1x1x16_S2x1x4096x16_0_1_2_3 (broadcastInDim S1x1x1x16 ![3] bcast_S16_S1x1x1x16_3 (Host.powf (broadcastInDim S16 ![] bcast_S_S16 (constant S_ .f32 0x48F42400#32)) (mulf (Host.negf (sitofp .f32 (iotaInDim S16 32 0))) (broadcastInDim S16 ![] bcast_S_S16 (constant S_ .f32 0x3D800000#32))))))

/-- The first sixteen lanes. -/
def lo (y : FVec Ideal S2x8x4096x128 .f32) : FVec Ideal S2x8x4096x16 .f32 :=
  extractStridedSlice S2x8x4096x16 ![0, 0, 0, 0] y slices_S2x8x4096x128_S2x8x4096x16_0_0_0_0

/-- The next sixteen lanes. -/
def hi (y : FVec Ideal S2x8x4096x128 .f32) : FVec Ideal S2x8x4096x16 .f32 :=
  extractStridedSlice S2x8x4096x16 ![0, 0, 0, 16] y slices_S2x8x4096x128_S2x8x4096x16_0_0_0_16

/-- An array of one row per token, for every head. -/
def spread (a : FVec Ideal S2x1x4096x16 .f32) : FVec Ideal S2x8x4096x16 .f32 :=
  broadcastInDim S2x8x4096x16 ![0, 1, 2, 3] bcast_S2x1x4096x16_S2x8x4096x16_0_1_2_3 a

/-- The heads, rotated. -/
def rotated (y : FVec Ideal S2x8x4096x128 .f32) (a : FVec Ideal S2x1x4096x16 .f32) : FVec Ideal S2x8x4096x128 .f32 :=
  concatenate S2x8x4096x128 3 [⟨S2x8x4096x32, (concatenate S2x8x4096x32 3
      [⟨S2x8x4096x16, (subf (mulf (lo y) (spread (Host.cos a))) (mulf (hi y) (spread (Host.sin a))))⟩,
       ⟨S2x8x4096x16, (addf (mulf (hi y) (spread (Host.cos a))) (mulf (lo y) (spread (Host.sin a))))⟩]
      concatenates_S2x8x4096x16_S2x8x4096x16_S2x8x4096x32_d3)⟩,
    ⟨S2x8x4096x96, (extractStridedSlice S2x8x4096x96 ![0, 0, 0, 32] y slices_S2x8x4096x128_S2x8x4096x96_0_0_0_32)⟩]
    concatenates_S2x8x4096x32_S2x8x4096x96_S2x8x4096x128_d3

theorem normed_at (x : FVec Ideal S2x4096x1024 .f32) (g : FVec Ideal S128 .f32) (b : Fin 2) (h : Fin 8) (s : Fin 4096) (d : Fin 128) :
    normed x g (ix4 b h s d) = headNorm (fun e => x (ix3 b s ⟨h.val * 128 + e.val, by omega⟩)) (fun e => g (ix1 e)) d := by
  pointwise [normed, headNorm]

theorem angles_at (p : IVec S2x4096 32) (b : Fin 2) (s : Fin 4096) (l : Fin 16) :
    angles p (ix4 b 0 s l) = angle (p (ix2 b s)) l := by
  pointwise [angles, angle, freq]

theorem rotated_at (y : FVec Ideal S2x8x4096x128 .f32) (a : FVec Ideal S2x1x4096x16 .f32) (b : Fin 2) (h : Fin 8) (s : Fin 4096) (d : Fin 128) :
    rotated y a (ix4 b h s d) = rot (fun e => y (ix4 b h s e)) (fun l => a (ix4 b 0 s l)) d := by
  pointwise [rotated, lo, hi, spread, rot]
  have e1 : ∀ (h1 : 16 + d.val < 128) (h2 : d.val + 16 < 128), (⟨16 + d.val, h1⟩ : Fin 128) = ⟨d.val + 16, h2⟩ :=
    fun _ _ => Fin.ext (by simp only; omega)
  by_cases h1 : d.val < 16
  · rw [dif_pos (by omega), dif_pos h1, dif_pos h1, e1]
  · by_cases h2 : d.val < 32
    · rw [dif_pos h2, dif_neg h1, dif_neg h1, dif_pos h2]
      have e2 : ∀ h3, (⟨16 + (d.val - 16), h3⟩ : Fin 128) = d := fun _ => Fin.ext (by simp only; omega)
      rw [e2]
    · rw [dif_neg h2, dif_neg h1, dif_neg h2]
      have e2 : ∀ h3, (⟨32 + (d.val - 32), h3⟩ : Fin 128) = d := fun _ => Fin.ext (by simp only; omega)
      rw [e2]

variable (m : (ℓ : Loc nD τ sig) → Buf (Elt Ideal) ℓ) (c : Dev nD)

/-- The projection, the positions and the two gains. -/
abbrev aX : FVec Ideal S2x4096x6144 .f32 := m ((c.tc : Thread nD τ).loc main_arg0)
@[inherit_doc aX] abbrev aP : IVec S2x4096 32 := m ((c.tc : Thread nD τ).loc main_arg1)
@[inherit_doc aX] abbrev aQ : FVec Ideal S128 .f32 := m ((c.tc : Thread nD τ).loc main_arg2)
@[inherit_doc aX] abbrev aK : FVec Ideal S128 .f32 := m ((c.tc : Thread nD τ).loc main_arg3)

/-- The queries, normed and rotated. -/
def qs : FVec Ideal S2x8x4096x128 .f32 :=
  rotated (normed (extractStridedSlice S2x4096x1024 ![0, 0, 3072] (aX m c) slices_S2x4096x6144_S2x4096x1024_0_0_3072) (aQ m c)) (angles (aP m c))

/-- The keys, normed and rotated. -/
def ks : FVec Ideal S2x8x4096x128 .f32 :=
  rotated (normed (extractStridedSlice S2x4096x1024 ![0, 0, 4096] (aX m c) slices_S2x4096x6144_S2x4096x1024_0_0_4096) (aK m c)) (angles (aP m c))

theorem qs_at (b : Fin 2) (h : Fin 8) (s : Fin 4096) (d : Fin 128) :
    qs m c (ix4 b h s d) = head (fun j => aX m c (ix3 b s ⟨3072 + j.val, by omega⟩)) (fun e => aQ m c (ix1 e)) (aP m c (ix2 b s)) h d := by
  unfold qs head
  rw [rotated_at]
  simp only [angles_at, normed_at]
  pointwise

theorem ks_at (b : Fin 2) (h : Fin 8) (s : Fin 4096) (d : Fin 128) :
    ks m c (ix4 b h s d) = head (fun j => aX m c (ix3 b s ⟨4096 + j.val, by omega⟩)) (fun e => aK m c (ix1 e)) (aP m c (ix2 b s)) h d := by
  unfold ks head
  rw [rotated_at]
  simp only [angles_at, normed_at]
  pointwise

/-- The queries, scaled and laid out by lane. -/
def qOut (y : FVec Ideal S2x8x4096x128 .f32) : FVec Ideal S2x1024x4096 .bf16 :=
  truncf .bf16 (shapeCast _ (transpose S2x8x128x4096 [0, 1, 3, 2] (mulf y (broadcastInDim S2x8x4096x128 ![] bcast_S_S2x8x4096x128 (constant S_ .f32 0x3E0293EE#32))) transposes_S2x8x4096x128_S2x8x128x4096_0_1_3_2) shapeCasts_S2x8x128x4096_S2x1024x4096) bitsLt_bf16_f32

/-- The keys, laid out by token. -/
def kOut (y : FVec Ideal S2x8x4096x128 .f32) : FVec Ideal S2x4096x1024 .bf16 :=
  truncf .bf16 (shapeCast _ (transpose S2x4096x8x128 [0, 2, 1, 3] y transposes_S2x8x4096x128_S2x4096x8x128_0_2_1_3) shapeCasts_S2x4096x8x128_S2x4096x1024) bitsLt_bf16_f32

/-- The keys, averaged over each block of tokens. -/
def mOut (y : FVec Ideal S2x8x4096x128 .f32) : FVec Ideal S2x16x1x1024 .f32 :=
  shapeCast _ (transpose S2x16x8x128 [0, 2, 1, 3] (Host.divf (Host.reduceAdd (shapeCast _ y shapeCasts_S2x8x4096x128_S2x8x16x256x128) (constant S_ .f32 0x00000000#32) reducesTo_S2x8x16x256x128_S2x8x16x128_d3 h_S_) (broadcastInDim S2x8x16x128 ![] bcast_S_S2x8x16x128 (constant S_ .f32 0x43800000#32))) transposes_S2x8x16x128_S2x16x8x128_0_2_1_3) shapeCasts_S2x16x8x128_S2x16x1x1024

/-- The values, laid out by lane. -/
def vOut (x : FVec Ideal S2x4096x6144 .f32) : FVec Ideal S2x1024x4096 .bf16 :=
  truncf .bf16 (transpose S2x1024x4096 [0, 2, 1] (extractStridedSlice S2x4096x1024 ![0, 0, 5120] x slices_S2x4096x6144_S2x4096x1024_0_0_5120) transposes_S2x4096x1024_S2x1024x4096_0_2_1) bitsLt_bf16_f32

theorem v_at (x : FVec Ideal S2x4096x6144 .f32) (b : Fin 2) (j : Fin 1024) (s : Fin 4096) :
    vOut x (ix3 b j s) = x (ix3 b s ⟨5120 + j.val, by omega⟩) := by
  pointwise [vOut]

theorem qOut_at (y : FVec Ideal S2x8x4096x128 .f32) (b : Fin 2) (j : Fin 1024) (s : Fin 4096) :
    qOut y (ix3 b j s) = y (ix4 b ⟨j.val / 128, by omega⟩ s ⟨j.val % 128, by omega⟩) * Ideal.ofBits FTy.f32 0x3E0293EE#32 := by
  pointwise [qOut]

theorem kOut_at (y : FVec Ideal S2x8x4096x128 .f32) (b : Fin 2) (s : Fin 4096) (j : Fin 1024) :
    kOut y (ix3 b s j) = y (ix4 b ⟨j.val / 128, by omega⟩ s ⟨j.val % 128, by omega⟩) := by
  pointwise [kOut]

theorem mOut_at (y : FVec Ideal S2x8x4096x128 .f32) (b : Fin 2) (n : Fin 16) (j : Fin 1024) :
    mOut y (ix4 b n 0 j) = Ideal.div (∑ r : Fin 256, y (ix4 b ⟨j.val / 128, by omega⟩ ⟨n.val * 256 + r.val, by omega⟩ ⟨j.val % 128, by omega⟩)) (Ideal.ofBits FTy.f32 0x43800000#32) := by
  pointwise [mOut]

theorem q_at (b : Fin 2) (j : Fin 1024) (s : Fin 4096) :
    qOut (qs m c) (ix3 b j s)
      = head (fun j => aX m c (ix3 b s ⟨3072 + j.val, by omega⟩)) (fun e => aQ m c (ix1 e)) (aP m c (ix2 b s)) ⟨j.val / 128, by omega⟩ ⟨j.val % 128, by omega⟩
        * Ideal.ofBits FTy.f32 0x3E0293EE#32 := by
  rw [qOut_at, qs_at]

theorem k_at (b : Fin 2) (s : Fin 4096) (j : Fin 1024) :
    kOut (ks m c) (ix3 b s j)
      = head (fun j => aX m c (ix3 b s ⟨4096 + j.val, by omega⟩)) (fun e => aK m c (ix1 e)) (aP m c (ix2 b s)) ⟨j.val / 128, by omega⟩ ⟨j.val % 128, by omega⟩ := by
  rw [kOut_at, ks_at]

theorem mean_at (b : Fin 2) (n : Fin 16) (j : Fin 1024) :
    mOut (ks m c) (ix4 b n 0 j)
      = Ideal.div (∑ r : Fin 256, head (fun j => aX m c (ix3 b ⟨n.val * 256 + r.val, by omega⟩ ⟨4096 + j.val, by omega⟩)) (fun e => aK m c (ix1 e))
          (aP m c (ix2 b ⟨n.val * 256 + r.val, by omega⟩)) ⟨j.val / 128, by omega⟩ ⟨j.val % 128, by omega⟩) (Ideal.ofBits FTy.f32 0x43800000#32) := by
  rw [mOut_at]
  simp only [ks_at]

theorem q_eq : res_main_v99 (F := Ideal) m c = qOut (qs m c) := by
  unfold res_main_v99
  rfl

theorem k_eq : res_main_v102 (F := Ideal) m c = kOut (ks m c) := by
  unfold res_main_v102
  rfl

theorem mean_eq : res_main_v106 (F := Ideal) m c = mOut (ks m c) := by
  unfold res_main_v106
  rfl

end Cert.PrepRef
end
-- ==== Proof.Prep.lean ====
module

public import proofs.«01_k».proof.Defs
public import proofs.«01_k».proof.Proof.PrepTile
public import proofs.«01_k».proof.Proof.PrepRef
public import Idealize.ShloMosaic.Lib.StableHlo.ReadAt
public import Idealize.ShloMosaic.Lib.Claim

/- What the call that prepares MoBA's operands leaves, over the extended reals. -/

@[expose] public section

set_option maxRecDepth 65536

noncomputable section

namespace Cert.Prep

open Idealize.ShloMosaic Idealize.ShloMosaic.TcCoe Idealize.SL.Sem
open Cert.Kernel6Ideal Cert.Kernel6Ideal.Gen

variable (m : (ℓ : Loc nD τ sig) → Buf (Elt Ideal) ℓ)

/-- Row `r` of token block `n`. -/
abbrev row (n : Fin 16) (r : Fin 256) : Fin 4096 := ⟨n.val * 256 + r.val, by omega⟩

/-- Every window's block index at every grid point. -/
theorem idx : ∀ t : Fin cfg0.N, win0_0.index t = ![t.val / 16, t.val % 16, 3]
    ∧ win0_1.index t = ![t.val / 16, t.val % 16, 4]
    ∧ win0_2.index t = ![t.val / 16, t.val % 16, 5]
    ∧ win0_3.index t = ![t.val / 16, t.val % 16, 0]
    ∧ win0_4.index t = ![0, 0]
    ∧ win0_5.index t = ![0, 0]
    ∧ win0_6.index t = ![0, 0]
    ∧ win0_7.index t = ![t.val / 16, 0, t.val % 16]
    ∧ win0_8.index t = ![t.val / 16, t.val % 16, 0]
    ∧ win0_9.index t = ![t.val / 16, 0, t.val % 16]
    ∧ win0_10.index t = ![t.val / 16, t.val % 16, 0, 0] :=
  (by decide +kernel : ∀ t : Fin grid0.N, _)

/-- The projection, the positions and the two gains. -/
abbrev aX (c : Dev nD) : FVec Ideal S2x4096x6144 .f32 := m ((c : Thread nD τ).loc main_arg0)
@[inherit_doc aX] abbrev aP (c : Dev nD) : IVec S2x4096 32 := m ((c : Thread nD τ).loc main_arg1)
@[inherit_doc aX] abbrev aQ (c : Dev nD) : FVec Ideal S128 .f32 := m ((c : Thread nD τ).loc main_arg2)
@[inherit_doc aX] abbrev aK (c : Dev nD) : FVec Ideal S128 .f32 := m ((c : Thread nD τ).loc main_arg3)

/-- The blocks of a point, at their element types. -/
abbrev b0 (c : Dev nD) (t : Fin cfg0.N) : FVec Ideal S1x256x1024 .f32 := iblk m c 0 t
@[inherit_doc b0] abbrev b1 (c : Dev nD) (t : Fin cfg0.N) : FVec Ideal S1x256x1024 .f32 := iblk m c 1 t
@[inherit_doc b0] abbrev b2 (c : Dev nD) (t : Fin cfg0.N) : FVec Ideal S1x256x1024 .f32 := iblk m c 2 t
@[inherit_doc b0] abbrev b3 (c : Dev nD) (t : Fin cfg0.N) : FVec Ideal S1x256x1 .f32 := iblk m c 3 t
@[inherit_doc b0] abbrev b4 (c : Dev nD) (t : Fin cfg0.N) : FVec Ideal S1x128 .f32 := iblk m c 4 t
@[inherit_doc b0] abbrev b5 (c : Dev nD) (t : Fin cfg0.N) : FVec Ideal S1x128 .f32 := iblk m c 5 t
@[inherit_doc b0] abbrev b6 (c : Dev nD) (t : Fin cfg0.N) : FVec Ideal S1x128 .f32 := iblk m c 6 t

section

variable (c : Dev nD) (t : Fin cfg0.N)

/-- The positions, as the call finds them. -/
theorem pos_at (b : Fin 2) (s : Fin 4096) : (show FVec Ideal S2x4096x1 .f32 from V m c main_v10) (ix3 b s 0) = FloatOps.sitofp (F := Ideal) FTy.f32 (aP m c (ix2 b s)) := by
  unfold V
  after_reads_at

theorem powers_at (l : Fin 16) : (show FVec Ideal S16 .f32 from StableHlo.upto hostOps0 (fun b => m (c, b)) 10 (Proc.tc.devRef main_v5)) (ix1 l) = freq l := by
  unfold freq
  after_reads_at

theorem zeros_at (l : Fin 96) : (show FVec Ideal S96 .f32 from StableHlo.upto hostOps0 (fun b => m (c, b)) 10 (Proc.tc.devRef main_v6)) (ix1 l) = 0 := by
  after_reads_at

/-- The frequencies, as the call finds them. -/
theorem freqs_at (d : Fin 128) : (show FVec Ideal S1x128 .f32 from V m c main_v8) (ix2 0 d)
    = if h : d.val < 16 then freq ⟨d.val, h⟩ else if h' : d.val < 32 then freq ⟨d.val - 16, by omega⟩ else 0 := by
  unfold V
  after_reads_at
  by_cases h1 : d.val < 16
  · rw [dif_pos h1, dif_pos h1]
    exact powers_at m c _
  · rw [dif_neg h1, dif_neg h1]
    by_cases h2 : d.val < 32
    · rw [dif_pos h2, dif_pos (by omega)]
      exact powers_at m c _
    · rw [dif_neg h2, dif_neg (by omega)]
      exact zeros_at m c _

theorem gq_at (d : Fin 128) : (show FVec Ideal S1x128 .f32 from V m c main_v11) (ix2 0 d) = aQ m c (ix1 d) := by
  unfold V
  after_reads_at

theorem gk_at (d : Fin 128) : (show FVec Ideal S1x128 .f32 from V m c main_v12) (ix2 0 d) = aK m c (ix1 d) := by
  unfold V
  after_reads_at

theorem b4_at (d : Fin 128) : b4 m c t (ix2 0 d)
    = if h : d.val < 16 then freq ⟨d.val, h⟩ else if h' : d.val < 32 then freq ⟨d.val - 16, by omega⟩ else 0 := by
  refine Eq.trans (congrArg (V m c main_v8) ?_) (freqs_at m c d)
  blk_ext [idx t]

theorem b5_at (d : Fin 128) : b5 m c t (ix2 0 d) = aQ m c (ix1 d) := by
  refine Eq.trans (congrArg (V m c main_v11) ?_) (gq_at m c d)
  blk_ext [idx t]

theorem b6_at (d : Fin 128) : b6 m c t (ix2 0 d) = aK m c (ix1 d) := by
  refine Eq.trans (congrArg (V m c main_v12) ?_) (gk_at m c d)
  blk_ext [idx t]

variable (b : Fin 2) (n : Fin 16) (hb : t.val / 16 = b.val) (hn : t.val % 16 = n.val)

include hb hn

theorem b0_at (r : Fin 256) (j : Fin 1024) : b0 m c t (ix3 0 r j) = aX m c (ix3 b (row n r) ⟨3072 + j.val, by omega⟩) := by
  blk_point [iblk, V, idx t]

theorem b1_at (r : Fin 256) (j : Fin 1024) : b1 m c t (ix3 0 r j) = aX m c (ix3 b (row n r) ⟨4096 + j.val, by omega⟩) := by
  blk_point [iblk, V, idx t]

theorem b2_at (r : Fin 256) (j : Fin 1024) : b2 m c t (ix3 0 r j) = aX m c (ix3 b (row n r) ⟨5120 + j.val, by omega⟩) := by
  blk_point [iblk, V, idx t]

theorem b3_at (r : Fin 256) : b3 m c t (ix3 0 r 0) = FloatOps.sitofp (F := Ideal) FTy.f32 (aP m c (ix2 b (row n r))) := by
  refine Eq.trans (congrArg (V m c main_v10) ?_) (pos_at m c b (row n r))
  blk_ext [idx t]

end

/-- A query's lanes, normed, rotated and scaled. -/
def qv (c : Dev nD) (b : Fin 2) (s : Fin 4096) (j : Fin 1024) : EReal :=
  head (fun j => aX m c (ix3 b s ⟨3072 + j.val, by omega⟩)) (fun e => aQ m c (ix1 e)) (aP m c (ix2 b s)) ⟨j.val / 128, by omega⟩ ⟨j.val % 128, by omega⟩
    * Ideal.ofBits FTy.f32 0x3E0293EE#32

/-- A key's lanes, normed and rotated. -/
def kv (c : Dev nD) (b : Fin 2) (s : Fin 4096) (j : Fin 1024) : EReal :=
  head (fun j => aX m c (ix3 b s ⟨4096 + j.val, by omega⟩)) (fun e => aK m c (ix1 e)) (aP m c (ix2 b s)) ⟨j.val / 128, by omega⟩ ⟨j.val % 128, by omega⟩

/-- The queries, as an array. -/
def resQ (c : Dev nD) : FVec Ideal S2x1024x4096 .bf16 := fun i => qv m c (i 0) (i 2) (i 1)
/-- The keys, as an array. -/
def resK (c : Dev nD) : FVec Ideal S2x4096x1024 .bf16 := fun i => kv m c (i 0) (i 1) (i 2)
/-- The values, as an array. -/
def resV (c : Dev nD) : FVec Ideal S2x1024x4096 .bf16 := fun i => aX m c (ix3 (i 0) (i 2) ⟨5120 + (i 1).val, by have := (i 1).isLt; change (i 1).val < 1024 at this; omega⟩)
/-- The block means of the keys, as an array. -/
def resM (c : Dev nD) : FVec Ideal S2x16x1x1024 .f32 := fun i =>
  Ideal.div (∑ r : Fin 256, kv m c (i 0) (row (i 1) r) (i 3)) (Ideal.ofBits FTy.f32 0x43800000#32)

section

variable (c : Dev nD) (t : Fin cfg0.N) (b : Fin 2) (n : Fin 16) (hb : t.val / 16 = b.val) (hn : t.val % 16 = n.val)

include hb hn

/-- A block's query head, normed and rotated. -/
theorem tileQ_at (p : FVec Ideal S1x256x1 .f32) (f g : FVec Ideal S1x128 .f32) (X : FVec Ideal S1x256x128 .f32) (j : Fin 1024)
    (hp : ∀ r, p (ix3 0 r 0) = b3 m c t (ix3 0 r 0)) (hf : ∀ d, f (ix2 0 d) = b4 m c t (ix2 0 d)) (hg : ∀ d, g (ix2 0 d) = b5 m c t (ix2 0 d))
    (hX : ∀ (r : Fin 256) (e : Fin 128), X (ix3 0 r e) = b0 m c t (ix3 0 r ⟨j.val / 128 * 128 + e.val, by omega⟩)) (r : Fin 256) :
    tile p f X g (ix2 r ⟨j.val % 128, by omega⟩) * Ideal.ofBits FTy.f32 0x3E0293EE#32 = qv m c b (row n r) j := by
  refine (congrArg (· * Ideal.ofBits FTy.f32 0x3E0293EE#32) (tile_at p f X g r ⟨j.val % 128, Nat.mod_lt _ (by norm_num)⟩ (aP m c (ix2 b (row n r))) ((hp r).trans (b3_at m c t b n hb hn r)) ((hf _).trans (b4_at m c t _)))).trans ?_
  simp only [hX, hg, b0_at m c t b n hb hn, b5_at m c t]
  rfl

/-- A block's key head, normed and rotated. -/
theorem tileK_at (p : FVec Ideal S1x256x1 .f32) (f g : FVec Ideal S1x128 .f32) (X : FVec Ideal S1x256x128 .f32) (j : Fin 1024)
    (hp : ∀ r, p (ix3 0 r 0) = b3 m c t (ix3 0 r 0)) (hf : ∀ d, f (ix2 0 d) = b4 m c t (ix2 0 d)) (hg : ∀ d, g (ix2 0 d) = b6 m c t (ix2 0 d))
    (hX : ∀ (r : Fin 256) (e : Fin 128), X (ix3 0 r e) = b1 m c t (ix3 0 r ⟨j.val / 128 * 128 + e.val, by omega⟩)) (r : Fin 256) :
    tile p f X g (ix2 r ⟨j.val % 128, by omega⟩) = kv m c b (row n r) j := by
  refine (tile_at p f X g r ⟨j.val % 128, Nat.mod_lt _ (by norm_num)⟩ (aP m c (ix2 b (row n r))) ((hp r).trans (b3_at m c t b n hb hn r)) ((hf _).trans (b4_at m c t _))).trans ?_
  simp only [hX, hg, b1_at m c t b n hb hn, b6_at m c t]
  rfl

/-- One head of a point's block of queries. -/
theorem piece7 (p : FVec Ideal S1x256x1 .f32) (f g : FVec Ideal S1x128 .f32) (X : FVec Ideal S1x256x128 .f32) (j : Fin 1024) (r : Fin 256)
    (x : S1x128x256.Idx) (h1 : j.val % 128 = (x 1).val) (h2 : r.val = (x 2).val)
    (hp : ∀ r, p (ix3 0 r 0) = b3 m c t (ix3 0 r 0)) (hf : ∀ d, f (ix2 0 d) = b4 m c t (ix2 0 d)) (hg : ∀ d, g (ix2 0 d) = b5 m c t (ix2 0 d))
    (hX : ∀ (r : Fin 256) (e : Fin 128), X (ix3 0 r e) = b0 m c t (ix3 0 r ⟨j.val / 128 * 128 + e.val, by omega⟩)) :
    qTile (tile p f X g) x = qv m c b (row n r) j := by
  have hj : j.val % 128 < 128 := Nat.mod_lt _ (by norm_num)
  have ex : x = ix3 0 ⟨j.val % 128, hj⟩ r := by
    funext a
    fin_cases a
    · exact Subsingleton.elim (α := Fin 1) _ _
    · exact Fin.ext h1.symm
    · exact Fin.ext h2.symm
  rw [ex, qTile_at]
  exact tileQ_at m c t b n hb hn p f g X j hp hf hg hX r

/-- One head of a point's block of keys. -/
theorem piece8 (p : FVec Ideal S1x256x1 .f32) (f g : FVec Ideal S1x128 .f32) (X : FVec Ideal S1x256x128 .f32) (j : Fin 1024) (r : Fin 256)
    (x : S1x256x128.Idx) (h1 : j.val % 128 = (x 2).val) (h2 : r.val = (x 1).val)
    (hp : ∀ r, p (ix3 0 r 0) = b3 m c t (ix3 0 r 0)) (hf : ∀ d, f (ix2 0 d) = b4 m c t (ix2 0 d)) (hg : ∀ d, g (ix2 0 d) = b6 m c t (ix2 0 d))
    (hX : ∀ (r : Fin 256) (e : Fin 128), X (ix3 0 r e) = b1 m c t (ix3 0 r ⟨j.val / 128 * 128 + e.val, by omega⟩)) :
    kTile (tile p f X g) x = kv m c b (row n r) j := by
  have hj : j.val % 128 < 128 := Nat.mod_lt _ (by norm_num)
  have ex : x = ix3 0 r ⟨j.val % 128, hj⟩ := by
    funext a
    fin_cases a
    · exact Subsingleton.elim (α := Fin 1) _ _
    · exact Fin.ext h2.symm
    · exact Fin.ext h1.symm
  rw [ex, kTile_at]
  exact tileK_at m c t b n hb hn p f g X j hp hf hg hX r

/-- One head of a point's block of values. -/
theorem piece9 (X : FVec Ideal S1x256x128 .f32) (j : Fin 1024) (r : Fin 256)
    (x : S1x128x256.Idx) (h1 : j.val % 128 = (x 1).val) (h2 : r.val = (x 2).val)
    (hX : ∀ (r : Fin 256) (e : Fin 128), X (ix3 0 r e) = b2 m c t (ix3 0 r ⟨j.val / 128 * 128 + e.val, by omega⟩)) :
    k0_pay1 (F := Ideal) X x = aX m c (ix3 b (row n r) ⟨5120 + j.val, by omega⟩) := by
  have hj : j.val % 128 < 128 := Nat.mod_lt _ (by norm_num)
  have ex : x = ix3 0 ⟨j.val % 128, hj⟩ r := by
    funext a
    fin_cases a
    · exact Subsingleton.elim (α := Fin 1) _ _
    · exact Fin.ext h1.symm
    · exact Fin.ext h2.symm
  subst ex
  rw [vTile_at, hX, b2_at m c t b n hb hn]
  exact congrArg (aX m c) (congrArg (ix3 b (row n r)) (Fin.ext (by simp only; omega)))

/-- One head of a point's block means. -/
theorem piece10 (p : FVec Ideal S1x256x1 .f32) (f g : FVec Ideal S1x128 .f32) (X : FVec Ideal S1x256x128 .f32) (j : Fin 1024)
    (x : S1x1x1x128.Idx) (h1 : j.val % 128 = (x 3).val)
    (hp : ∀ r, p (ix3 0 r 0) = b3 m c t (ix3 0 r 0)) (hf : ∀ d, f (ix2 0 d) = b4 m c t (ix2 0 d)) (hg : ∀ d, g (ix2 0 d) = b6 m c t (ix2 0 d))
    (hX : ∀ (r : Fin 256) (e : Fin 128), X (ix3 0 r e) = b1 m c t (ix3 0 r ⟨j.val / 128 * 128 + e.val, by omega⟩)) :
    meanTile (tile p f X g) x = Ideal.div (∑ r : Fin 256, kv m c b (row n r) j) (Ideal.ofBits FTy.f32 0x43800000#32) := by
  have hj : j.val % 128 < 128 := Nat.mod_lt _ (by norm_num)
  have ex : x = ix4 0 0 0 ⟨j.val % 128, hj⟩ := by
    funext a
    fin_cases a
    · exact Subsingleton.elim (α := Fin 1) _ _
    · exact Subsingleton.elim (α := Fin 1) _ _
    · exact Subsingleton.elim (α := Fin 1) _ _
    · exact Fin.ext h1.symm
  rw [ex, meanTile_at]
  simp only [tileK_at m c t b n hb hn p f g X j hp hf hg hX]

end

theorem resQ_eq (c : Dev nD) (b : Fin 2) (s : Fin 4096) (j : Fin 1024) (i : S2x1024x4096.Idx)
    (h0 : (i 0).val = b.val) (h1 : (i 1).val = j.val) (h2 : (i 2).val = s.val) : qv m c b s j = resQ m c i := by
  obtain rfl : i 0 = b := Fin.ext h0
  obtain rfl : i 1 = j := Fin.ext h1
  obtain rfl : i 2 = s := Fin.ext h2
  rfl

theorem resK_eq (c : Dev nD) (b : Fin 2) (s : Fin 4096) (j : Fin 1024) (i : S2x4096x1024.Idx)
    (h0 : (i 0).val = b.val) (h1 : (i 1).val = s.val) (h2 : (i 2).val = j.val) : kv m c b s j = resK m c i := by
  obtain rfl : i 0 = b := Fin.ext h0
  obtain rfl : i 1 = s := Fin.ext h1
  obtain rfl : i 2 = j := Fin.ext h2
  rfl

theorem resM_eq (c : Dev nD) (b : Fin 2) (n : Fin 16) (j : Fin 1024) (i : S2x16x1x1024.Idx)
    (h0 : (i 0).val = b.val) (h1 : (i 1).val = n.val) (h3 : (i 3).val = j.val) :
    Ideal.div (∑ r : Fin 256, kv m c b (row n r) j) (Ideal.ofBits FTy.f32 0x43800000#32) = resM m c i := by
  obtain rfl : i 0 = b := Fin.ext h0
  obtain rfl : i 1 = n := Fin.ext h1
  obtain rfl : i 3 = j := Fin.ext h3
  rfl

/-- A load of 128 lanes of a block reads those lanes. -/
theorem part (x : FVec Ideal S1x256x1024 .f32) (o : Nat) (ho : ∀ a, ![0, 0, o] a + S1x256x128.size a ≤ S1x256x1024.size a) (r : Fin 256) (e : Fin 128)
    (j : Fin 1024) (hj : j.val = o + e.val) :
    View.ld (Val := Elt Ideal) (e' := .f32) x (Rect.unit ![0, 0, o] S1x256x128.size ho) (ix3 0 r e) = x (ix3 0 r j) := by
  refine congrArg x (funext fun a => Fin.ext ?_)
  fin_cases a
  · rfl
  · show 0 + 1 * r.val = r.val; omega
  · show o + 1 * e.val = j.val; omega

theorem whole3 (x : FVec Ideal S1x256x1 .f32) (r : Fin 256) : View.ld (Val := Elt Ideal) (e' := .f32) x r0_0 (ix3 0 r 0) = x (ix3 0 r 0) := by
  pointwise

theorem whole2 (x : FVec Ideal S1x128 .f32) (d : Fin 128) : View.ld (Val := Elt Ideal) (e' := .f32) x r0_1 (ix2 0 d) = x (ix2 0 d) := by
  pointwise

/-- What a point stores in its block of the queries. -/
theorem point7 (c : Dev nD) (t : Fin cfg0.N) (y) :
    out0_7 (iblk m c 0 t) (iblk m c 1 t) (iblk m c 2 t) (iblk m c 3 t) (iblk m c 4 t) (iblk m c 5 t) (iblk m c 6 t) y
      = resQ m c (((cfg0.win 7).blk t).view.emb y) := by
  have ht : t.val < 32 := t.isLt
  have hy1 : (y 1).val < 1024 := (y 1).isLt
  have hy2 : (y 2).val < 256 := (y 2).isLt
  refine Eq.trans (b := qv m c ⟨t.val / 16, by omega⟩ (row ⟨t.val % 16, by omega⟩ ⟨(y 2).val, hy2⟩) ⟨(y 1).val, hy1⟩) ?_ ?_
  · unfold_out out0_7
    canon_tiles x h
    all_goals refine piece7 m c t _ _ rfl rfl _ _ _ _ ⟨(y 1).val, hy1⟩ _ x ?_ ?_ ?_ ?_ ?_ ?_
    all_goals first
      | exact h2 | exact h1
      | (simp only; omega)
      | exact fun r => whole3 _ r
      | exact fun d => whole2 _ d
      | exact fun r e => part _ _ (by decide) r e _ (by simp only; omega)
  · exact resQ_eq m c _ _ _ _ (by blk_simp [idx t]) (by blk_simp [idx t]) (by blk_simp [idx t])

/-- What a point stores in its block of the keys. -/
theorem point8 (c : Dev nD) (t : Fin cfg0.N) (y) :
    out0_8 (iblk m c 0 t) (iblk m c 1 t) (iblk m c 2 t) (iblk m c 3 t) (iblk m c 4 t) (iblk m c 5 t) (iblk m c 6 t) y
      = resK m c (((cfg0.win 8).blk t).view.emb y) := by
  have ht : t.val < 32 := t.isLt
  have hy1 : (y 1).val < 256 := (y 1).isLt
  have hy2 : (y 2).val < 1024 := (y 2).isLt
  refine Eq.trans (b := kv m c ⟨t.val / 16, by omega⟩ (row ⟨t.val % 16, by omega⟩ ⟨(y 1).val, hy1⟩) ⟨(y 2).val, hy2⟩) ?_ ?_
  · unfold_out out0_8
    canon_tiles x h
    all_goals refine piece8 m c t _ _ rfl rfl _ _ _ _ ⟨(y 2).val, hy2⟩ _ x ?_ ?_ ?_ ?_ ?_ ?_
    all_goals first
      | exact h2 | exact h1
      | (simp only; omega)
      | exact fun r => whole3 _ r
      | exact fun d => whole2 _ d
      | exact fun r e => part _ _ (by decide) r e _ (by simp only; omega)
  · exact resK_eq m c _ _ _ _ (by blk_simp [idx t]) (by blk_simp [idx t]) (by blk_simp [idx t])

/-- What a point stores in its block of the values. -/
theorem point9 (c : Dev nD) (t : Fin cfg0.N) (y) :
    out0_9 (iblk m c 0 t) (iblk m c 1 t) (iblk m c 2 t) (iblk m c 3 t) (iblk m c 4 t) (iblk m c 5 t) (iblk m c 6 t) y
      = resV m c (((cfg0.win 9).blk t).view.emb y) := by
  have ht : t.val < 32 := t.isLt
  have hy1 : (y 1).val < 1024 := (y 1).isLt
  have hy2 : (y 2).val < 256 := (y 2).isLt
  refine Eq.trans (b := aX m c (ix3 ⟨t.val / 16, by omega⟩ (row ⟨t.val % 16, by omega⟩ ⟨(y 2).val, hy2⟩) ⟨5120 + (y 1).val, by omega⟩)) ?_ ?_
  · unfold_out out0_9
    canon_tiles x h
    all_goals refine piece9 m c t _ _ rfl rfl _ ⟨(y 1).val, hy1⟩ _ x ?_ ?_ ?_
    all_goals first
      | exact h2 | exact h1
      | (simp only; omega)
      | exact fun r e => part _ _ (by decide) r e _ (by simp only; omega)
  · unfold resV
    refine congrArg (aX m c) ?_
    blk_ext [idx t]

/-- What a point stores in its block of the block means. -/
theorem point10 (c : Dev nD) (t : Fin cfg0.N) (y) :
    out0_10 (iblk m c 0 t) (iblk m c 1 t) (iblk m c 2 t) (iblk m c 3 t) (iblk m c 4 t) (iblk m c 5 t) (iblk m c 6 t) y
      = resM m c (((cfg0.win 10).blk t).view.emb y) := by
  have ht : t.val < 32 := t.isLt
  have hy3 : (y 3).val < 1024 := (y 3).isLt
  refine Eq.trans (b := Ideal.div (∑ r : Fin 256, kv m c ⟨t.val / 16, by omega⟩ (row ⟨t.val % 16, by omega⟩ r) ⟨(y 3).val, hy3⟩) (Ideal.ofBits FTy.f32 0x43800000#32)) ?_ ?_
  · unfold_out out0_10
    canon_tiles x h
    all_goals refine piece10 m c t _ _ rfl rfl _ _ _ _ ⟨(y 3).val, hy3⟩ x ?_ ?_ ?_ ?_ ?_
    all_goals first
      | exact h2 | exact h1
      | (simp only; omega)
      | exact fun r => whole3 _ r
      | exact fun d => whole2 _ d
      | exact fun r e => part _ _ (by decide) r e _ (by simp only; omega)
  · exact resM_eq m c _ _ _ _ (by blk_simp [idx t]) (by blk_simp [idx t]) (by blk_simp [idx t])

/-- The queries after the run. -/
theorem final7 (c : Dev nD) : (dats m 0 c).arrAt 7 (cfgs 0).N = resQ m c := by
  refine (dats m 0 c).arrAt_eq_of_covers 7 _ (by decide +kernel) fun t hf y => ?_
  blk_simp; rw [after0_7]
  exact point7 m c t y

/-- The keys after the run. -/
theorem final8 (c : Dev nD) : (dats m 0 c).arrAt 8 (cfgs 0).N = resK m c := by
  refine (dats m 0 c).arrAt_eq_of_covers 8 _ (by decide +kernel) fun t hf y => ?_
  blk_simp; rw [after0_8]
  exact point8 m c t y

/-- The values after the run. -/
theorem final9 (c : Dev nD) : (dats m 0 c).arrAt 9 (cfgs 0).N = resV m c := by
  refine (dats m 0 c).arrAt_eq_of_covers 9 _ (by decide +kernel) fun t hf y => ?_
  blk_simp; rw [after0_9]
  exact point9 m c t y

/-- The block means after the run. -/
theorem final10 (c : Dev nD) : (dats m 0 c).arrAt 10 (cfgs 0).N = resM m c := by
  refine (dats m 0 c).arrAt_eq_of_covers 10 _ (by decide +kernel) fun t hf y => ?_
  blk_simp; rw [after0_10]
  exact point10 m c t y

/-- The run leaves the four results and the arguments as they were. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v13_0) = resQ m c
      ∧ r.2.mem ((c.tc : Thread nD τ).loc main_v13_1) = resK m c
      ∧ r.2.mem ((c.tc : Thread nD τ).loc main_v13_2) = resV m c
      ∧ r.2.mem ((c.tc : Thread nD τ).loc main_v13_3) = resM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h c).1.trans (final7 m c), (h c).2.1.trans (final8 m c), (h c).2.2.1.trans (final9 m c),
    (h c).2.2.2.1.trans (final10 m c), (h c).2.2.2.2⟩) (Cert.Kernel6Ideal.Value.run_blocks m g)

section

variable (m' : (ℓ : Loc Cert.Reference6Ideal.nD Cert.Reference6Ideal.τ Cert.Reference6Ideal.sig) → Buf (Elt Ideal) ℓ) (c : Dev nD)
  (e0 : Cert.PrepRef.aX m' c = aX m c) (e1 : Cert.PrepRef.aP m' c = aP m c) (e2 : Cert.PrepRef.aQ m' c = aQ m c)
  (e3 : Cert.PrepRef.aK m' c = aK m c)

include e0 e1 e2 in
theorem refQ : Cert.PrepRef.qOut (Cert.PrepRef.qs m' c) = resQ m c := by
  have h : ∀ b j s, Cert.PrepRef.qOut (Cert.PrepRef.qs m' c) (ix3 b j s) = resQ m c (ix3 b j s) := by
    intro b j s
    rw [Cert.PrepRef.q_at, e0, e1, e2]
    rfl
  funext i
  idx_vars i
  exact h _ _ _

include e0 e1 e3 in
theorem refK : Cert.PrepRef.kOut (Cert.PrepRef.ks m' c) = resK m c := by
  have h : ∀ b s j, Cert.PrepRef.kOut (Cert.PrepRef.ks m' c) (ix3 b s j) = resK m c (ix3 b s j) := by
    intro b s j
    rw [Cert.PrepRef.k_at, e0, e1, e3]
    rfl
  funext i
  idx_vars i
  exact h _ _ _

include e0 in
theorem refV : Cert.PrepRef.vOut (Cert.PrepRef.aX m' c) = resV m c := by
  have h : ∀ b j s, Cert.PrepRef.vOut (Cert.PrepRef.aX m' c) (ix3 b j s) = resV m c (ix3 b j s) := by
    intro b j s
    rw [Cert.PrepRef.v_at, e0]
    rfl
  funext i
  idx_vars i
  exact h _ _ _

include e0 e1 e3 in
theorem refM : Cert.PrepRef.mOut (Cert.PrepRef.ks m' c) = resM m c := by
  have h : ∀ b n z j, Cert.PrepRef.mOut (Cert.PrepRef.ks m' c) (ix4 b n z j) = resM m c (ix4 b n z j) := by
    intro b n z j
    obtain rfl : z = 0 := Subsingleton.elim _ _
    rw [Cert.PrepRef.mean_at, e0, e1, e3]
    rfl
  funext i
  idx_vars i
  exact h _ _ _ _

end

/-- Kernel and reference leave the same four results. -/
theorem algebraic : _root_.Cert.algebraic_Kernel6Ideal_Reference6Ideal := by
  intro m g m' g' _ ha
  refine ⟨fun c => resQ m c, fun c => resK m c, fun c => resV m c, fun c => resM m c, run_kernel m g, ?_⟩
  refine (θ_run _ _ _).mono (fun r h c => ⟨(h c).1.trans ((Cert.PrepRef.q_eq m' c).trans (refQ m m' c ?_ ?_ ?_)),
    (h c).2.1.trans ((Cert.PrepRef.k_eq m' c).trans (refK m m' c ?_ ?_ ?_)), (h c).2.2.1.trans (refV m m' c ?_),
    (h c).2.2.2.1.trans ((Cert.PrepRef.mean_eq m' c).trans (refM m m' c ?_ ?_ ?_)), (h c).2.2.2.2⟩) (Cert.Reference6Ideal.Value.run m' g')
  all_goals first | exact (ha c).1 | exact (ha c).2.1 | exact (ha c).2.2.1 | exact (ha c).2.2.2

end Cert.Prep
end
-- ==== Proof.TopkRun.lean ====
module

public import proofs.«01_k».proof.Defs
public import proofs.«01_k».proof.Proof.Gen.Kernel7
public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.ValueKit
public import Idealize.ShloMosaic.Lib.Tactic
public import Idealize.ShloMosaic.Lib.VecWindow

/-! # The run of the experts' choice

The body of a point takes the eight heads two at a time. For each head it copies one piece of the experts' table,
turned and cast, to the last result's buffer, and from the two score blocks of the head it computes the gates' factors
and the threshold. Of the last result it is proved what the buffer holds; the other three results' buffers are only
shown to be written inside their bounds, whatever is written there. -/

@[expose] public section

set_option maxRecDepth 65536
set_option synthInstance.maxSize 4096

noncomputable section

namespace Cert.Topk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-! ## Steps of a program over what is owned -/

section Steps

variable (c : Dev nD) (E : Set ℕ)

/-- From `P` the program ends with `Q`, whatever value it returns. -/
def Moves {α : Type} (P : sProp 𝕄) (p : Prog (TpuEff nD τ sig (Elt F) Λ₀ .tc) α) (Q : sProp 𝕄) : Prop :=
  P ⊢ wp frame (wpE (defs₀ (F := F)) Variants.none (c : Thread nD τ) none) E p (fun _ => Q)

/-- `A` is a part of `P`, and with `A'` in its place `P` becomes `P'`. -/
def Part (A P A' P' : sProp 𝕄) : Prop := P ⊢ iprop(A ∗ (A' -∗ P'))

theorem Part.self {A A' : sProp 𝕄} : Part A A A' A' := by
  unfold Part
  iintro H; isplitl [H]; · iexact H
  iintro H; iexact H

theorem Part.left {A P A' P' R : sProp 𝕄} (h : Part A P A' P') : Part A iprop(P ∗ R) A' iprop(P' ∗ R) := by
  unfold Part at *
  iintro ⟨H, HR⟩
  ihave H := h $$ H
  icases H with ⟨HA, Hw⟩
  isplitl [HA]; · iexact HA
  iintro HA
  isplitl [HA Hw]
  · iapply Hw; iexact HA
  iexact HR

theorem Part.right {A P A' P' R : sProp 𝕄} (h : Part A P A' P') : Part A iprop(R ∗ P) A' iprop(R ∗ P') := by
  unfold Part at *
  iintro ⟨HR, H⟩
  ihave H := h $$ H
  icases H with ⟨HA, Hw⟩
  isplitl [HA]; · iexact HA
  iintro HA
  isplitl [HR]; · iexact HR
  iapply Hw; iexact HA

variable {c E}

theorem Moves.pure {α : Type} {P : sProp 𝕄} (v : α) : Moves c E P (pure v) P := by
  unfold Moves
  iintro H; sl_step; iexact H

theorem Moves.bind {α β : Type} {P Q S : sProp 𝕄} {p : Prog (TpuEff nD τ sig (Elt F) Λ₀ .tc) α}
    {f : α → Prog (TpuEff nD τ sig (Elt F) Λ₀ .tc) β} (h : Moves c E P p Q) (hf : ∀ r, Moves c E Q (f r) S) :
    Moves c E P (p >>= f) S := by
  unfold Moves at *
  rw [wp_bind]
  exact h.trans (wp_mono _ _ _ hf)

/-- A value of several parts is met part by part. -/
theorem Moves.parts {α : Type} {A : Type} {B : A → Type} {P S : sProp 𝕄} {g : (Σ' a, B a) → Prog (TpuEff nD τ sig (Elt F) Λ₀ .tc) α}
    (h : ∀ a b, Moves c E P (g ⟨a, b⟩) S) : ∀ r, Moves c E P (g r) S := fun ⟨a, b⟩ => h a b

variable {s : Shape} {e : EltTy} {m : Memref sig .tc .vmem s e} {β : Type}

/-- A load of a part whose contents are known goes on with what is read there. -/
theorem Moves.load {r : LoadRect s} {hl : m.view.LoadsAt r} {X : s.Idx → Elt F e} {P S : sProp 𝕄}
    {f : (r.shape.Idx → Elt F e) → Prog (TpuEff nD τ sig (Elt F) Λ₀ .tc) β}
    (h : Part (owns (c : Thread nD τ) m fullShare X) P (owns (c : Thread nD τ) m fullShare X) P)
    (hf : Moves c E P (f (fun x => X (r.idx x))) S) : Moves c E P (Prog.lift (.load m r hl) >>= f) S := by
  unfold Moves Part at *
  show P ⊢ wp _ _ _ (.op (.load m r hl) f) _
  iintro H
  ihave H := h $$ H
  icases H with ⟨HA, Hw⟩
  unfold owns
  icases HA with ⟨%g, %hg, HA⟩
  iapply (wp_load Variants.none (c : Thread nD τ) none E (m.view.setOn_subset_set r.set)) $$ HA
  iintro HA
  subst hg
  iapply hf
  iapply Hw
  iexists g; isplitr; · ipureintro; rfl
  iexact HA

/-- A load of a part whose contents aren't named. -/
theorem Moves.load_some {r : LoadRect s} {hl : m.view.LoadsAt r} {P S : sProp 𝕄}
    {f : (r.shape.Idx → Elt F e) → Prog (TpuEff nD τ sig (Elt F) Λ₀ .tc) β}
    (h : Part iprop(∃ X, owns (c : Thread nD τ) m fullShare X) P iprop(∃ X, owns (c : Thread nD τ) m fullShare X) P)
    (hf : ∀ v, Moves c E P (f v) S) : Moves c E P (Prog.lift (.load m r hl) >>= f) S := by
  unfold Moves Part at *
  show P ⊢ wp _ _ _ (.op (.load m r hl) f) _
  iintro H
  ihave H := h $$ H
  icases H with ⟨⟨%X, HA⟩, Hw⟩
  unfold owns
  icases HA with ⟨%g, %hg, HA⟩
  iapply (wp_load Variants.none (c : Thread nD τ) none E (m.view.setOn_subset_set r.set)) $$ HA
  iintro HA
  iapply (hf _)
  iapply Hw
  iexists X, g; isplitr; · ipureintro; exact hg
  iexact HA

/-- A store to a part whose contents are known replaces them on the stored rectangle. -/
theorem Moves.store {r : Rect s} {w : r.shape.Idx → Elt F e} {hx : (m.access r).Stores Finset.univ}
    {hm : Finset.univ = Finset.univ ∨ ∀ a, r.stride a = 1} {X : s.Idx → Elt F e} {P P' S : sProp 𝕄}
    {f : PUnit → Prog (TpuEff nD τ sig (Elt F) Λ₀ .tc) β}
    (h : Part (owns (c : Thread nD τ) m fullShare X) P (owns (c : Thread nD τ) m fullShare (r.overlay X w)) P')
    (hf : Moves c E P' (f ⟨⟩) S) : Moves c E P (Prog.lift (.store m r w Finset.univ hx hm) >>= f) S := by
  unfold Moves Part at *
  show P ⊢ wp _ _ _ (.op (.store m r w Finset.univ hx hm) f) _
  iintro H
  ihave H := h $$ H
  icases H with ⟨HA, Hw⟩
  unfold owns
  icases HA with ⟨%g, %hg, HA⟩
  iapply (wp_store Variants.none (c : Thread nD τ) none E (S := m.view.set) ((m.setOn_access_subset_setOn r Finset.univ).trans (m.view.setOn_subset_set _))) $$ HA
  iintro HA
  iapply hf
  iapply Hw
  iexists _; isplitr; swap; · iexact HA
  ipureintro
  funext y
  by_cases hy : y ∈ r.set
  · rw [← Rect.map_emb_univ] at hy
    obtain ⟨x, -, rfl⟩ := Finset.mem_map.mp hy
    rw [Rect.overlay_emb]
    exact View.read_writes_cons_emb m.view g r w [] x
  · rw [Rect.overlay_of_not_mem _ _ _ hy, ← hg]
    exact View.read_slice_write_of_not_mem _ _ _ _ (by rw [Rect.map_emb_univ]; exact hy)

/-- A store to a part whose contents aren't named. -/
theorem Moves.store_some {r : Rect s} {w : r.shape.Idx → Elt F e} {hx : (m.access r).Stores Finset.univ}
    {hm : Finset.univ = Finset.univ ∨ ∀ a, r.stride a = 1} {P S : sProp 𝕄}
    {f : PUnit → Prog (TpuEff nD τ sig (Elt F) Λ₀ .tc) β}
    (h : Part iprop(∃ X, owns (c : Thread nD τ) m fullShare X) P iprop(∃ X, owns (c : Thread nD τ) m fullShare X) P)
    (hf : Moves c E P (f ⟨⟩) S) : Moves c E P (Prog.lift (.store m r w Finset.univ hx hm) >>= f) S := by
  unfold Moves Part at *
  show P ⊢ wp _ _ _ (.op (.store m r w Finset.univ hx hm) f) _
  iintro H
  ihave H := h $$ H
  icases H with ⟨⟨%X, HA⟩, Hw⟩
  unfold owns
  icases HA with ⟨%g, %hg, HA⟩
  iapply (wp_store Variants.none (c : Thread nD τ) none E (S := m.view.set) ((m.setOn_access_subset_setOn r Finset.univ).trans (m.view.setOn_subset_set _))) $$ HA
  iintro HA
  iapply hf
  iapply Hw
  iexists _, _; isplitr; swap; · iexact HA
  ipureintro; rfl

end Steps

/-! ## The parts of the body -/

section Body

variable (c : Dev nD) (E : Set ℕ) (i : grid0.Coords)
  (a1 : Memref sig .tc .vmem S8x128x128 .f32) (h1 : a1.IsWhole) (a2 : Memref sig .tc .vmem S8x128x128 .f32) (h2 : a2.IsWhole)
  (a3 : Memref sig .tc .vmem S256x2048 .f32) (h3 : a3.IsWhole) (a4 : Memref sig .tc .vmem S8x128x128 .f32) (h4 : a4.IsWhole)
  (a5 : Memref sig .tc .vmem S8x128x128 .f32) (h5 : a5.IsWhole) (a6 : Memref sig .tc .vmem S8x128 .f32) (h6 : a6.IsWhole)
  (a7 : Memref sig .tc .vmem S1x2048x256 .bf16) (h7 : a7.IsWhole)
  (x1 x2 : Vec F S8x128x128 .f32) (x3 : Vec F S256x2048 .f32) (X : Vec F S1x2048x256 .bf16) (k : Fin k0_t1_loop.trips)

/-- What the body owns: the two score blocks, the first three results' buffers at any contents, the table's block, and the
    last result's buffer at `X`. -/
def held (X : Vec F S1x2048x256 .bf16) : sProp 𝕄 :=
  iprop(((owns (c : Thread nD τ) a1 fullShare x1 ∗ owns (c : Thread nD τ) a2 fullShare x2)
      ∗ ((∃ d, owns (c : Thread nD τ) a4 fullShare d) ∗ (∃ d, owns (c : Thread nD τ) a5 fullShare d) ∗ (∃ d, owns (c : Thread nD τ) a6 fullShare d)))
    ∗ (owns (c : Thread nD τ) a3 fullShare x3 ∗ owns (c : Thread nD τ) a7 fullShare X))

/-- The last result's buffer after the first copy of trip `k`, -/
def copied (X : Vec F S1x2048x256 .bf16) : Vec F S1x2048x256 .bf16 :=
  (Rect.unit (s := S1x2048x256) (k0_off2 k) S1x256x256.size (k0_off2_inb k)).overlay X
    (k0_pay39 fun x => x3 ((Rect.unit (s := S256x2048) (k0_off1 k) S256x256.size (k0_off1_inb k)).toLoadRect.idx x))
/-- and after the second. -/
def copied' (X : Vec F S1x2048x256 .bf16) : Vec F S1x2048x256 .bf16 :=
  (Rect.unit (s := S1x2048x256) (k0_off6 k) S1x256x256.size (k0_off6_inb k)).overlay X
    (k0_pay722 fun x => x3 ((Rect.unit (s := S256x2048) (k0_off5 k) S256x256.size (k0_off5_inb k)).toLoadRect.idx x))

theorem part19 : Moves c E (held c a1 a2 a3 a4 a5 a6 a7 x1 x2 x3 X) (k0_part19 (F := F) i a1 h1 a2 h2 a3 h3 a4 h4 a5 h5 a6 h6 a7 h7 0#32 1#32 k) (held c a1 a2 a3 a4 a5 a6 a7 x1 x2 x3 (copied x3 k X)) := by
  rw [k0_part19_eq_skeleton]; unfold k0_part19_skel held copied
  refine Moves.load Part.self.left.right ?_
  refine Moves.load Part.self.right.right ?_
  refine Moves.store Part.self.right.right ?_
  refine Moves.load Part.self.left.left.left ?_
  refine Moves.load Part.self.right.left.left ?_
  exact Moves.pure _

theorem part52 (v6 v1651 : BitVec 32) : Moves c E (held c a1 a2 a3 a4 a5 a6 a7 x1 x2 x3 X) (k0_part52 (F := F) i a1 h1 a2 h2 a3 h3 a4 h4 a5 h5 a6 h6 a7 h7 k v6 v1651) (held c a1 a2 a3 a4 a5 a6 a7 x1 x2 x3 (copied' x3 k X)) := by
  rw [k0_part52_eq_skeleton]; unfold k0_part52_skel held copied'
  refine Moves.load Part.self.left.right ?_
  refine Moves.load Part.self.right.right ?_
  refine Moves.store Part.self.right.right ?_
  refine Moves.load Part.self.left.left.left ?_
  refine Moves.load Part.self.right.left.left ?_
  exact Moves.pure _

set_option maxHeartbeats 4000000 in
/-- The body's first half: both copies, and of the rest no more than that it stays in its buffers. -/
theorem part84 (v1 : IVec S16x128 32) (v2 : IVec S8x128 32) :
    Moves c E (held c a1 a2 a3 a4 a5 a6 a7 x1 x2 x3 X) (k0_part84 (F := F) i a1 h1 a2 h2 a3 h3 a4 h4 a5 h5 a6 h6 a7 h7 v1 v2 0#32 1#32 k) (held c a1 a2 a3 a4 a5 a6 a7 x1 x2 x3 (copied' x3 k (copied x3 k X))) := by
  simp only [k0_part84_eq_skeleton]; unfold k0_part84_skel
  refine Moves.bind (part19 c E i a1 h1 a2 h2 a3 h3 a4 h4 a5 h5 a6 h6 a7 h7 x1 x2 x3 X k) ?_
  (repeat refine Moves.parts fun _ => ?_); intro _; try dsimp only
  generalize copied x3 k X = X
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  iterate 31 (refine Moves.bind (Moves.pure _) ?_; (repeat refine Moves.parts fun _ => ?_); intro _; try dsimp only)
  refine Moves.bind (Q := held c a1 a2 a3 a4 a5 a6 a7 x1 x2 x3 X) ?_ ?_
  · unfold k0_part51_skel held
    refine Moves.load_some Part.self.left.right.left fun _ => ?_
    refine Moves.store_some Part.self.left.right.left ?_
    refine Moves.load_some Part.self.left.right.right.left fun _ => ?_
    refine Moves.store_some Part.self.left.right.right.left ?_
    refine Moves.load_some Part.self.right.right.right.left fun _ => ?_
    refine Moves.store_some Part.self.right.right.right.left ?_
    exact Moves.pure _
  (repeat refine Moves.parts fun _ => ?_); intro _; try dsimp only
  refine Moves.bind (part52 c E i a1 h1 a2 h2 a3 h3 a4 h4 a5 h5 a6 h6 a7 h7 x1 x2 x3 X k _ _) ?_
  (repeat refine Moves.parts fun _ => ?_); intro _; try dsimp only
  simp only [k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
  iterate 26 (refine Moves.bind (Moves.pure _) ?_; (repeat refine Moves.parts fun _ => ?_); intro _; try dsimp only)
  exact Moves.pure _

set_option maxHeartbeats 4000000 in
/-- Its second half. -/
theorem part85 (v6 : BitVec 32) (v1649 : FVec F S1x128 .f32) (v1662 : FVec F S128x128 .f32) (v1665 : FVec F S128x128 .f32) (v2160 : FVec F S16x128 .f32) (v2655 : FVec F S16x128 .f32) (v2996 : FVec F S1x128 .f32) (v2998 : FVec F S64x128 .f32) (v3002 : IVec S64x128 1) (v3005 : FVec F S1x128 .f32) (v3010 : FVec F S1x128 .f32) :
    Moves c E (held c a1 a2 a3 a4 a5 a6 a7 x1 x2 x3 X) (k0_part85 (F := F) i a1 h1 a2 h2 a3 h3 a4 h4 a5 h5 a6 h6 a7 h7 k v6 v1649 v1662 v1665 v2160 v2655 v2996 v2998 v3002 v3005 v3010) (held c a1 a2 a3 a4 a5 a6 a7 x1 x2 x3 X) := by
  rw [k0_part85_eq_skeleton]; unfold k0_part85_skel
  simp only [k0_part79_eq_skeleton, k0_part80_eq_skeleton, k0_part81_eq_skeleton, k0_part82_eq_skeleton, k0_part83_eq_skeleton]
  iterate 5 (refine Moves.bind (Moves.pure _) ?_; (repeat refine Moves.parts fun _ => ?_); intro _; try dsimp only)
  unfold held
  refine Moves.load_some Part.self.left.right.left fun _ => ?_
  refine Moves.store_some Part.self.left.right.left ?_
  refine Moves.load_some Part.self.left.right.right.left fun _ => ?_
  refine Moves.store_some Part.self.left.right.right.left ?_
  refine Moves.load_some Part.self.right.right.right.left fun _ => ?_
  refine Moves.store_some Part.self.right.right.right.left ?_
  exact Moves.pure _

set_option maxHeartbeats 4000000 in
/-- The exact choice, taken when a count is too high. -/
theorem part18 (v0 : IVec S128x128 32) (v4 : BitVec 32) (v6 : BitVec 32) (v19 : FVec F S128x128 .f32) (v22 : FVec F S128x128 .f32) (v1620 : FVec F S128x128 .f32) (v1624 : FVec F S128x128 .f32) (v1662 : FVec F S128x128 .f32) (v1665 : FVec F S128x128 .f32) (v3263 : FVec F S128x128 .f32) (v3267 : FVec F S128x128 .f32) :
    Moves c E (held c a1 a2 a3 a4 a5 a6 a7 x1 x2 x3 X) (k0_part18 (F := F) i a1 h1 a2 h2 a3 h3 a4 h4 a5 h5 a6 h6 a7 h7 v0 k v4 v6 v19 v22 v1620 v1624 v1662 v1665 v3263 v3267) (held c a1 a2 a3 a4 a5 a6 a7 x1 x2 x3 X) := by
  rw [k0_part18_eq_skeleton]; unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  iterate 4 (refine Moves.bind (Moves.pure _) ?_; (repeat refine Moves.parts fun _ => ?_); intro _; try dsimp only)
  refine Moves.bind (Q := held c a1 a2 a3 a4 a5 a6 a7 x1 x2 x3 X) ?_ ?_
  · unfold k0_part5_skel held
    refine Moves.load_some Part.self.left.right.left fun _ => ?_
    refine Moves.store_some Part.self.left.right.left ?_
    exact Moves.pure _
  (repeat refine Moves.parts fun _ => ?_); intro _; try dsimp only
  iterate 3 (refine Moves.bind (Moves.pure _) ?_; (repeat refine Moves.parts fun _ => ?_); intro _; try dsimp only)
  refine Moves.bind (Q := held c a1 a2 a3 a4 a5 a6 a7 x1 x2 x3 X) ?_ ?_
  · unfold k0_part9_skel held
    refine Moves.load_some Part.self.left.right.right.left fun _ => ?_
    refine Moves.store_some Part.self.left.right.right.left ?_
    exact Moves.pure _
  (repeat refine Moves.parts fun _ => ?_); intro _; try dsimp only
  iterate 4 (refine Moves.bind (Moves.pure _) ?_; (repeat refine Moves.parts fun _ => ?_); intro _; try dsimp only)
  refine Moves.bind (Q := held c a1 a2 a3 a4 a5 a6 a7 x1 x2 x3 X) ?_ ?_
  · unfold k0_part14_skel held
    refine Moves.load_some Part.self.left.right.left fun _ => ?_
    refine Moves.store_some Part.self.left.right.left ?_
    exact Moves.pure _
  (repeat refine Moves.parts fun _ => ?_); intro _; try dsimp only
  iterate 3 (refine Moves.bind (Moves.pure _) ?_; (repeat refine Moves.parts fun _ => ?_); intro _; try dsimp only)
  exact Moves.pure _

/-- One trip. -/
theorem trip (v0 : IVec S128x128 32) (v1 : IVec S16x128 32) (v2 : IVec S8x128 32) :
    Moves c E (held c a1 a2 a3 a4 a5 a6 a7 x1 x2 x3 X) (k0_t1_body (F := F) i a1 h1 a2 h2 a3 h3 a4 h4 a5 h5 a6 h6 a7 h7 v0 v1 v2 k ⟨⟩) (held c a1 a2 a3 a4 a5 a6 a7 x1 x2 x3 (copied' x3 k (copied x3 k X))) := by
  unfold k0_t1_body
  refine Moves.bind (part84 c E i a1 h1 a2 h2 a3 h3 a4 h4 a5 h5 a6 h6 a7 h7 x1 x2 x3 X k v1 v2) ?_
  (repeat refine Moves.parts fun _ => ?_); intro _; try dsimp only
  generalize copied' x3 k (copied x3 k X) = X
  refine Moves.bind (part85 c E i a1 h1 a2 h2 a3 h3 a4 h4 a5 h5 a6 h6 a7 h7 x1 x2 x3 X k _ _ _ _ _ _ _ _ _ _ _) ?_
  (repeat refine Moves.parts fun _ => ?_); intro _; try dsimp only
  split
  · refine Moves.bind (part18 c E i a1 h1 a2 h2 a3 h3 a4 h4 a5 h5 a6 h6 a7 h7 x1 x2 x3 X k _ _ _ _ _ _ _ _ _ _ _) fun _ => ?_
    unfold held
    refine Moves.load_some Part.self.left.right.right.left fun _ => ?_
    refine Moves.store_some Part.self.left.right.right.left ?_
    exact Moves.pure _
  · exact Moves.pure _

/-! ## What the copies leave -/

/-- The table's block turned and cast: row `j` of the block is column `j` of the result's block. -/
def tile : Vec F S1x2048x256 .bf16 :=
  truncf .bf16 (fun y : S1x2048x256.Idx => x3 (ix2 (show Fin 256 from y 2) (show Fin 2048 from y 1))) bitsLt_bf16_f32

/-- The first `n` of the eight pieces hold what they shall. -/
def Filled (n : ℕ) (X : Vec F S1x2048x256 .bf16) : Prop := ∀ y : S1x2048x256.Idx, (y 1).val < 256 * n → X y = tile x3 y

theorem off1_eq : ∀ k : Fin k0_t1_loop.trips, k0_off1 k = ![0, 256 * (2 * k.val)] := by decide +kernel
theorem off2_eq : ∀ k : Fin k0_t1_loop.trips, k0_off2 k = ![0, 256 * (2 * k.val), 0] := by decide +kernel
theorem off5_eq : ∀ k : Fin k0_t1_loop.trips, k0_off5 k = ![0, 256 * (2 * k.val + 1)] := by decide +kernel
theorem off6_eq : ∀ k : Fin k0_t1_loop.trips, k0_off6 k = ![0, 256 * (2 * k.val + 1), 0] := by decide +kernel

theorem pay_at (v : Vec F S256x256 .f32) (a b : Fin 256) :
    k0_pay39 v (ix3 0 a b) = FloatOps.truncf .bf16 bitsLt_bf16_f32 (v (ix2 b a)) := by
  pointwise [k0_pay39]

theorem filled_step (n : ℕ) (o1 : Fin 2 → ℕ) (o2 : Fin 3 → ℕ) (e1 : o1 = ![0, 256 * n]) (e2 : o2 = ![0, 256 * n, 0])
    (b1 : ∀ a, o1 a + S256x256.size a ≤ S256x2048.size a) (b2 : ∀ a, o2 a + S1x256x256.size a ≤ S1x2048x256.size a)
    (h : Filled x3 n X) : Filled x3 (n + 1) ((Rect.unit (s := S1x2048x256) o2 S1x256x256.size b2).overlay X
      (k0_pay39 fun x => x3 ((Rect.unit (s := S256x2048) o1 S256x256.size b1).toLoadRect.idx x))) := by
  subst e1 e2
  intro y hy
  have y0 : (y 0).val < 1 := (y 0).isLt
  have y2 : (y 2).val < 256 := (y 2).isLt
  by_cases hl : (y 1).val < 256 * n
  · rw [Rect.overlay_of_not_mem]
    · exact h y hl
    · rw [Rect.mem_set_unit]
      intro hall
      have h1 := (hall 1).1
      have : 256 * n ≤ (y 1).val := h1
      omega
  · have hx : (Rect.unit (s := S1x2048x256) ![0, 256 * n, 0] S1x256x256.size b2).emb
        (ix3 (0 : Fin 1) (⟨(y 1).val - 256 * n, by omega⟩ : Fin 256) (⟨(y 2).val, y2⟩ : Fin 256)) = y := by
      funext a
      apply Fin.ext
      match a with
      | ⟨0, _⟩ => show 0 + 1 * 0 = (y 0).val; omega
      | ⟨1, _⟩ => show 256 * n + 1 * ((y 1).val - 256 * n) = (y 1).val; omega
      | ⟨2, _⟩ => show 0 + 1 * (y 2).val = (y 2).val; omega
    refine (congrArg _ hx.symm).trans ?_
    rw [Rect.overlay_emb]
    refine (pay_at _ _ _).trans (congrArg (FloatOps.truncf .bf16 bitsLt_bf16_f32) (congrArg x3 ?_))
    funext a
    apply Fin.ext
    match a with
    | ⟨0, _⟩ => show 0 + 1 * (y 2).val = (y 2).val; omega
    | ⟨1, _⟩ => show 256 * n + 1 * ((y 1).val - 256 * n) = (y 1).val; omega

theorem filled_trip (h : Filled x3 (2 * k.val) X) : Filled x3 (2 * (k.val + 1)) (copied' x3 k (copied x3 k X)) :=
  filled_step x3 (copied x3 k X) (2 * k.val + 1) _ _ (off5_eq k) (off6_eq k) _ _
    (filled_step x3 X (2 * k.val) _ _ (off1_eq k) (off2_eq k) _ _ h)

theorem filled_all (h : Filled x3 8 X) : X = tile x3 := funext fun y => h y (by have : (y 1).val < 2048 := (y 1).isLt; omega)

/-! ## The whole body -/

/-- The body leaves the table's block, turned and cast, in the last result's buffer. -/
theorem body : Moves c E (held c a1 a2 a3 a4 a5 a6 a7 x1 x2 x3 X) (cc0_peer_topk (F := F) i a1 h1 a2 h2 a3 h3 a4 h4 a5 h5 a6 h6 a7 h7)
    (held c a1 a2 a3 a4 a5 a6 a7 x1 x2 x3 (tile x3)) := by
  rw [cc0_peer_topk_eq_skeleton]; unfold cc0_peer_topk_skel
  refine Moves.bind (Q := held c a1 a2 a3 a4 a5 a6 a7 x1 x2 x3 (tile x3)) ?_ fun _ => Moves.pure _
  have hb : ∀ (n : Fin k0_t1_loop.trips) (u : Unit),
      iprop(∃ Y, ⌜Filled x3 (2 * n.val) Y⌝ ∗ held c a1 a2 a3 a4 a5 a6 a7 x1 x2 x3 Y)
        ⊢ wp frame (wpE (defs₀ (F := F)) Variants.none (c : Thread nD τ) none) E
          (k0_t1_body (F := F) i a1 h1 a2 h2 a3 h3 a4 h4 a5 h5 a6 h6 a7 h7 (iota .tc S128x128 32 [0] iota_S128x128_d0_w32)
            (iota .tc S16x128 32 [0] iota_S16x128_d0_w32) (iota .tc S8x128 32 [0] iota_S8x128_d0_w32) n u)
          (fun _ => iprop(∃ Y, ⌜Filled x3 (2 * (n.val + 1)) Y⌝ ∗ held c a1 a2 a3 a4 a5 a6 a7 x1 x2 x3 Y)) := by
    intro n u
    iintro ⟨%Y, %hY, H⟩
    iapply ((trip c E i a1 h1 a2 h2 a3 h3 a4 h4 a5 h5 a6 h6 a7 h7 x1 x2 x3 Y n _ _ _).trans (wp_mono _ _ _ fun _ => ?_)) $$ H
    iintro H
    iexists _; isplitr; · ipureintro; exact filled_trip x3 Y n hY
    iexact H
  unfold Moves
  refine BIBase.Entails.trans ?_ (Scf.wp_for frame (wpE (defs₀ (F := F)) Variants.none (c : Thread nD τ) none) E _ _ _ _ _ _
    (fun n _ => iprop(∃ Y, ⌜Filled x3 (2 * n) Y⌝ ∗ held c a1 a2 a3 a4 a5 a6 a7 x1 x2 x3 Y)) hb)
  iintro H
  isplitl [H]
  · iexists X; isplitr
    · ipureintro; intro y hy; exact absurd hy (by omega)
    iexact H
  · iintro %acc ⟨%Y, %hY, H⟩
    rw [filled_all x3 Y hY]
    iexact H

end Body

end Cert.Topk

end
-- ==== Proof.Topk.lean ====
module

public import proofs.«01_k».proof.Defs
public import proofs.«01_k».proof.Proof.TopkRun
public import proofs.«01_k».proof.Proof.Gen.Reference7Ideal.Run
public import Idealize.ShloMosaic.Lib.Pipeline.FrameBody
public import Idealize.ShloMosaic.Lib.Pipeline.ValueKit
public import Idealize.ShloMosaic.Lib.Pointwise
public import Idealize.ShloMosaic.Lib.Claim
public import Idealize.ShloMosaic.Lib.Tactic

/-! # The whole run of the experts' choice, and its last result

Every point hands the body its blocks and takes them back. Of the first three results' buffers nothing is said; the last
one's holds the point's block of the experts' table, turned and cast, and the points' blocks together are the
reference's array. -/

@[expose] public section

set_option maxRecDepth 65536
set_option synthInstance.maxSize 4096

noncomputable section

namespace Cert.Topk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the pipeline begins: the launch's. -/
abbrev V (c : Dev nD) (b : Ref sig .tc) : Buf (Elt F) ((c : Thread nD τ).loc b) := m ((c : Thread nD τ).loc b)

/-- A window's block at a point, read off its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The results nothing is said of: the gates' factors and the threshold. -/
def forgets : Fin 7 → Bool
  | ⟨3, _⟩ => true
  | ⟨4, _⟩ => true
  | ⟨5, _⟩ => true
  | _ => false

/-- The pipeline's data: the arrays as found, and what each point leaves in every buffer of which something is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => tile (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_6 (c : Dev nD) (t : Fin cfg0.N) : (dats m 0 c).after 6 t = tile (iblk m c 2 t) := by dsimp only [dats]

theorem fetched_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem fetched_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem fetched_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ d, owns (c : Thread nD τ) (win0_6.stage (cfg0.slots t 6)) fullShare ((dats m 0 c).before 6 t d)))

/-- and what it leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ owns (c : Thread nD τ) (win0_6.stage (cfg0.slots t 6)) fullShare ((dats m 0 c).after 6 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [fetched_0, fetched_1, fetched_2]
  rw [show (dats m 0 c).owesAt () t.succ = (dats m 0 c).owesAt () t.castSucc from rfl,
    show (dats m 0 c).Φ t.succ = (dats m 0 c).Φ t.castSucc from rfl, after_0, after_1, after_2, after_6]
  generalize (dats m 0 c).Φ t.castSucc = P
  generalize (dats m 0 c).owesAt () t.castSucc = O
  iintro ⟨HΦ, Ho, ⟨%d0, H0⟩, ⟨%d1, H1⟩, ⟨%d2, H2⟩, H3, H4, H5, ⟨%d6, H6⟩⟩
  have hb := body (F := F) c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) (iblk m c 0 t) (iblk m c 1 t) (iblk m c 2 t) ((dats m 0 c).before 6 t d6)
  unfold Moves held at hb
  iapply (wp_wand_r _ _ _)
  isplitl [H0 H1 H2 H3 H4 H5 H6]
  · iapply hb
    isplitl [H0 H1 H3 H4 H5]
    · isplitl [H0 H1]
      · isplitl [H0]; · iexact H0
        iexact H1
      isplitl [H3]; · iexact H3
      isplitl [H4]; · iexact H4
      iexact H5
    isplitl [H2]; · iexact H2
    iexact H6
  iintro %r ⟨⟨⟨H0, H1⟩, H3, H4, H5⟩, H2, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- What the library asks of the body, at every point. -/
theorem obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

/-! ## The run -/

theorem main_region (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every execution ends, with every counter at zero and each array as the points leave it. -/
theorem run_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := main_region m Variants.none) (hA := A_eq m) (hΦ := fun _ _ => rfl)

/-- Every execution ends with the last result as the points leave it, the arguments unchanged and the machine at rest. -/
theorem run_full : θ_run defs (onTc (τ := τ) (main (F := F))) ⟨m, fun _ => 0, ρ⟩ (fun r => (∀ c : Dev nD,
      r.2.mem ((c.tc : Thread nD τ).loc main_v0_3) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run_quiescent m ρ)
  have hw (w : Fin cfg0.W) (hf : forgets w = false) := ((dats m 0 c).toRForget_arrAt_iff hf _ _).mp ((h.1 c).1 w)
  have hi (w : Fin cfg0.W) (hf : forgets w = false) (hin : (cfg0.win w).isOut = false) :=
    (hw w hf).trans (((dats m 0 c).arrAt_in w hin _).trans (A_eq m c w))
  exact ⟨hw 6 rfl, hi 0 rfl rfl, hi 1 rfl rfl, hi 2 rfl rfl⟩

/-- The same without the counters. -/
theorem run_results : θ_run defs (onTc (τ := τ) (main (F := F))) ⟨m, fun _ => 0, ρ⟩ (fun r => ∀ c : Dev nD,
      r.2.mem ((c.tc : Thread nD τ).loc main_v0_3) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (run_full m ρ)

/-- The arguments end unchanged, and the machine ends at rest. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_full m ρ)

end Run

/-- The frame of the program over the ideal numbers, -/
theorem frame_ideal : _root_.Cert.quiescent_Kernel7Ideal := fun m ρ _ => run_frame m ρ

/-- and of the program over the machine's numbers: the two have one text. -/
theorem frame_machine : _root_.Cert.quiescent_Kernel7 := fun m ρ _ => by
  have e₀ : Cert.Kernel7.defs₀ (F := Bits) = Cert.Kernel7Ideal.defs₀ (F := Bits) := by
    unfold Cert.Kernel7.defs₀ Cert.Kernel7Ideal.defs₀
    refine congrArg Defs.onTc (funext fun ℓ => funext fun a => ?_)
    match ℓ with
    | 0 => rfl
    | ⟨_ + 1, h⟩ => exact absurd h (Nat.not_lt.2 (Nat.le_add_left _ _))
  have e : Cert.Kernel7.defs (F := Bits) = Cert.Kernel7Ideal.defs (F := Bits) := by
    unfold Cert.Kernel7.defs Cert.Kernel7Ideal.defs
    rw [e₀]; rfl
  rw [e]
  exact (θ_run Cert.Kernel7Ideal.defs _ _).mono (fun _ h => h) (run_frame (F := Bits) m ρ)

/-! ## The last result -/

/-- The reference's result, as a term of its argument. -/
abbrev ref (v : FVec Ideal Cert.Reference7Ideal.S16384x2048 .f32) : FVec Ideal Cert.Reference7Ideal.S16x2048x1024 .bf16 :=
  truncf .bf16 (transpose Cert.Reference7Ideal.S16x2048x1024 [0, 2, 1] (shapeCast _ v Cert.Reference7Ideal.Gen.shapeCasts_S16384x2048_S16x1024x2048) Cert.Reference7Ideal.Gen.transposes_S16x1024x2048_S16x2048x1024_0_2_1) Cert.Reference7Ideal.Gen.bitsLt_bf16_f32

theorem ref_at (v : FVec Ideal Cert.Reference7Ideal.S16384x2048 .f32) (a : Fin 16) (d : Fin 2048) (j : Fin 1024) :
    ref v (ix3 a d j) = v (ix2 ⟨a.val * 1024 + j.val, by omega⟩ d) := by
  pointwise [ref]

variable (m : (ℓ : Loc nD τ sig) → Buf (Elt Ideal) ℓ)

/-- The table's block and the last result's block at every grid point. -/
theorem idx : ∀ t : Fin cfg0.N, win0_2.index t = ![t.val, 0] ∧ win0_6.index t = ![t.val / 4, 0, t.val % 4] :=
  (by decide +kernel : ∀ t : Fin grid0.N, _)

/-- A point's block of the experts' table, in the argument. -/
theorem blk2 (c : Dev nD) (t : Fin cfg0.N) (j : Fin 256) (d : Fin 2048) (e : Fin 16384) (he : e.val = t.val * 256 + j.val) :
    iblk m c 2 t (ix2 j d) = (show FVec Ideal Cert.Reference7Ideal.S16384x2048 .f32 from m ((c : Thread nD τ).loc main_arg2)) (ix2 e d) := by
  blk_point [iblk, V, idx t]

/-- What a point leaves in its block of the last result. -/
theorem point (c : Dev nD) (t : Fin cfg0.N) (y) :
    tile (iblk m c 2 t) y = ref (m ((c : Thread nD τ).loc main_arg2)) (((cfg0.win 6).blk t).view.emb y) := by
  pointwise [tile, ref]
  blk_point [iblk, V, idx t]

/-- The last result after the run. -/
theorem final (c : Dev nD) : (dats m 0 c).arrAt 6 (cfgs 0).N = ref (m ((c : Thread nD τ).loc main_arg2)) := by
  refine (dats m 0 c).arrAt_eq_of_covers 6 _ (by decide +kernel) fun t hf y => ?_
  blk_simp; rw [after_6]
  exact point m c t y

/-- Kernel and reference leave the same last result. -/
theorem algebraic : _root_.Cert.algebraic_Kernel7Ideal_Reference7Ideal := by
  pair_intro
  · run_from run_results (F := Ideal) m g
  · run_from Cert.Reference7Ideal.Value.run m' g'
    · exact (final m c).symm

end Cert.Topk

end
-- ==== Proof.lean ====
/- The claims about the seven calls of the layer, put together from the modules that prove them: each program runs,
   keeps its arguments and leaves every semaphore counter at zero; and each ideal kernel computes what its reference
   computes over the extended reals. -/

module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Points
public import proofs.«01_k».proof.Proof.Gen.Kernel2Ideal.Points
public import proofs.«01_k».proof.Proof.Gen.Kernel2Ideal.Skeleton
public import proofs.«01_k».proof.Proof.Gen.Kernel2Ideal.Launch
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel7Ideal.Points
public import proofs.«01_k».proof.Proof.Gen.Kernel7Ideal.Skeleton
public import proofs.«01_k».proof.Proof.Gen.Kernel7Ideal.Launch
public import proofs.«01_k».proof.Proof.Scores
public import proofs.«01_k».proof.Proof.OutProj
public import proofs.«01_k».proof.Proof.Ada
public import proofs.«01_k».proof.Proof.InprojRun
public import proofs.«01_k».proof.Proof.Inproj
public import proofs.«01_k».proof.Proof.GlaOut
public import proofs.«01_k».proof.Proof.Prep
public import proofs.«01_k».proof.Proof.Topk
public import Idealize.ShloMosaic.Adequacy
public import Idealize.ShloMosaic.Init

@[expose] public section

noncomputable section

namespace Cert.Proof

open Idealize.ShloMosaic Idealize.SL.Sem Cert.Kernel

/-- The reference of call 1 runs and keeps its arguments; it declares no semaphore. -/
theorem frame_reference1 : Cert.quiescent_ReferenceIdeal := fun m ρ _ =>
  (θ_run Cert.ReferenceIdeal.defs _ _).mono (fun r h => ⟨fun c => ⟨(h c).2.1, (h c).2.2.1, (h c).2.2.2.1, (h c).2.2.2.2.1, (h c).2.2.2.2.2⟩,
      Idealize.ShloMosaic.sem_eq_zero_of_no_sems (by decide) r.2⟩)
    (Cert.ReferenceIdeal.Value.run (F := Ideal) m ρ)

/-- The reference of call 2 runs and keeps its arguments; it declares no semaphore. -/
theorem frame_reference2 : Cert.quiescent_Reference2Ideal := fun m ρ _ =>
  (θ_run Cert.Reference2Ideal.defs _ _).mono (fun r h => ⟨fun c => ⟨(h c).2.2.1, (h c).2.2.2.1, (h c).2.2.2.2.1, (h c).2.2.2.2.2.1, (h c).2.2.2.2.2.2⟩,
      Idealize.ShloMosaic.sem_eq_zero_of_no_sems (by decide) r.2⟩)
    (Cert.Reference2Ideal.Value.run (F := Ideal) m ρ)

/-- The reference of call 3 runs and keeps its arguments; it declares no semaphore. -/
theorem frame_reference3 : Cert.quiescent_Reference3Ideal := fun m ρ _ =>
  (θ_run Cert.Reference3Ideal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.Reference3Ideal.Value.run (F := Ideal) m ρ)

/-- The reference of call 4 runs and keeps its arguments; it declares no semaphore. -/
theorem frame_reference4 : Cert.quiescent_Reference4Ideal := fun m ρ _ =>
  (θ_run Cert.Reference4Ideal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.Reference4Ideal.Value.run (F := Ideal) m ρ)

/-- The reference of call 5 runs and keeps its arguments; it declares no semaphore. -/
theorem frame_reference5 : Cert.quiescent_Reference5Ideal := fun m ρ _ =>
  (θ_run Cert.Reference5Ideal.defs _ _).mono (fun r h => ⟨fun c => ⟨(h c).2.2.2.1, (h c).2.2.2.2.1, (h c).2.2.2.2.2.1, (h c).2.2.2.2.2.2⟩,
      Idealize.ShloMosaic.sem_eq_zero_of_no_sems (by decide) r.2⟩)
    (Cert.Reference5Ideal.Value.run (F := Ideal) m ρ)

/-- The reference of call 6 runs and keeps its arguments; it declares no semaphore. -/
theorem frame_reference6 : Cert.quiescent_Reference6Ideal := fun m ρ _ =>
  (θ_run Cert.Reference6Ideal.defs _ _).mono (fun r h => ⟨fun c => ⟨(h c).2.2.2.2.1, (h c).2.2.2.2.2.1, (h c).2.2.2.2.2.2.1, (h c).2.2.2.2.2.2.2⟩,
      Idealize.ShloMosaic.sem_eq_zero_of_no_sems (by decide) r.2⟩)
    (Cert.Reference6Ideal.Value.run (F := Ideal) m ρ)

/-- The reference of call 7 runs and keeps its arguments; it declares no semaphore. -/
theorem frame_reference7 : Cert.quiescent_Reference7Ideal := fun m ρ _ =>
  (θ_run Cert.Reference7Ideal.defs _ _).mono (fun r h => ⟨fun c => ⟨(h c).2.1, (h c).2.2.1, (h c).2.2.2⟩,
      Idealize.ShloMosaic.sem_eq_zero_of_no_sems (by decide) r.2⟩)
    (Cert.Reference7Ideal.Value.run (F := Ideal) m ρ)

/-- Everything that is claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m ρ _ => Cert.Kernel.Gen.frame m ρ,
  fun m ρ _ => Cert.KernelIdeal.Gen.frame m ρ,
  frame_reference1,
  Cert.Inproj.frame_machine,
  Cert.Inproj.frame_ideal,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  Cert.Topk.frame_machine,
  Cert.Topk.frame_ideal,
  frame_reference7,
  trivial,
  Cert.Gla.algebraic,
  trivial,
  Cert.Inproj.algebraic,
  trivial,
  Cert.OutProj.algebraic,
  trivial,
  Cert.Scores.algebraic,
  trivial,
  Cert.Ada.algebraic,
  trivial,
  Cert.Prep.algebraic,
  trivial,
  Cert.Topk.algebraic⟩

end Cert.Proof

end
